-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S16384 : Shape := ⟨1, ![16384]⟩
abbrev S100000x128 : Shape := ⟨2, ![100000, 128]⟩
abbrev S1000x128 : Shape := ⟨2, ![1000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part1 {F : FTy → Type} [FloatOps F] (main_arg2 : IVec S16384 32) (main_v12 : IVec S_ 1) (main_v14 : IVec S16384 1) (main_v15 : IVec S16384 32) : IVec S_ 1 :=
  let main_v16 : IVec S16384 1 := cmpi .slt main_arg2 main_v15
  let main_v17 : IVec S16384 1 := andi main_v14 main_v16
  let main_c_7 : IVec S_ 1 := constantI S_ 1 1#1
  let main_v18 : IVec S_ 1 := (fun x v => Host.reduce IntOp.andi x v reducesTo_S16384_S_d0 h_S_) main_v17 main_c_7
  let main_v19 : IVec S_ 1 := andi main_v12 main_v18
  main_v19

def fn {F : FTy → Type} [FloatOps F] (main_arg0 : IVec S16384 32) (main_arg1 : IVec S16384 32) (main_arg2 : IVec S16384 32) (main_arg3 : FVec F S100000x128 .f32) (main_arg4 : FVec F S1000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384 32 := broadcastInDim S16384 ![] bcast_S_S16384 main_c_5
  let main_v14 : IVec S16384 1 := cmpi .sge main_arg2 main_v13
  let main_c_6 : IVec S_ 32 := constantI S_ 32 100000#32
  let main_v15 : IVec S16384 32 := broadcastInDim S16384 ![] bcast_S_S16384 main_c_6
  fn_part1 (F := F) main_arg2 main_v12 main_v14 main_v15
-- ==== Kernel.lean ====
abbrev S16384 : Shape := ⟨1, ![16384]⟩
abbrev S100000x128 : Shape := ⟨2, ![100000, 128]⟩
abbrev S1000x128 : Shape := ⟨2, ![1000, 128]⟩
abbrev S32x8x64 : Shape := ⟨3, ![32, 8, 64]⟩
abbrev S32x512 : Shape := ⟨2, ![32, 512]⟩
abbrev S8x64 : Shape := ⟨2, ![8, 64]⟩
abbrev S64x128 : Shape := ⟨2, ![64, 128]⟩
abbrev S512 : Shape := ⟨1, ![512]⟩
abbrev S_ : Shape := ⟨0, ![]⟩
abbrev S1x8x64 : Shape := ⟨3, ![1, 8, 64]⟩
abbrev S1x64 : Shape := ⟨2, ![1, 64]⟩
abbrev S64 : Shape := ⟨1, ![64]⟩
abbrev S16 : Shape := ⟨1, ![16]⟩
abbrev S1x512 : Shape := ⟨2, ![1, 512]⟩

abbrev nBuf : Table → Nat
  | .hbm => 10
  | .local .scVector .vmem => 13
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S100000x128, .f32⟩
  | .hbm, ⟨4, _⟩ => ⟨S1000x128, .f32⟩
  | .hbm, ⟨5, _⟩ => ⟨S32x8x64, .i32⟩
  | .hbm, ⟨6, _⟩ => ⟨S32x8x64, .i32⟩
  | .hbm, ⟨7, _⟩ => ⟨S32x8x64, .i32⟩
  | .hbm, ⟨8, _⟩ => ⟨S32x512, .f32⟩
  | .hbm, ⟨9, _⟩ => ⟨S16384, .f32⟩
  | .local .scVector .vmem, ⟨0, _⟩ => ⟨S8x64, .i32⟩
  | .local .scVector .vmem, ⟨1, _⟩ => ⟨S8x64, .i32⟩
  | .local .scVector .vmem, ⟨2, _⟩ => ⟨S8x64, .i32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S64x128, .f32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_arg3_scv : Ref sig .scVector := ⟨.hbm, 3, rfl⟩
abbrev main_arg4_scv : Ref sig .scVector := ⟨.hbm, 4, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
@[reducible] def k0_t1_loop : Scf.Loop 32 :=
  let c0_i32_70 : BitVec 32 := 0#32
  let c4_i32 : BitVec 32 := 4#32
  let v63 : BitVec 32 := Scalar.addi c0_i32_70 c4_i32
  let c1_i32_71 : BitVec 32 := 1#32
  ⟨c0_i32_70, v63, c1_i32_71⟩
@[reducible] def k0_t2_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk1 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx1_inb : ∀ (v190 : IVec S16 32) (v206 : IVec S16 32) (k0_hw1 : k0_chk1 v190 v206), ∀ a x, ((![v190, v206] : Fin 2 → IVec S16 32) a x).toNat < S64x128.size a := fun v190 v206 k0_hw1 => k0_hw1.1
theorem k0_idx2_inb : ∀ (v190 : IVec S16 32) (v206 : IVec S16 32) (k0_hw1 : k0_chk1 v190 v206), ∀ a x, ((![v190, v206] : Fin 2 → IVec S16 32) a x).toNat < S64x128.size a := fun v190 v206 k0_hw1 => k0_hw1.2.1
theorem k0_idx3_inb : ∀ (v190 : IVec S16 32) (v206 : IVec S16 32) (k0_hw1 : k0_chk1 v190 v206), ∀ a x, ((![v190, v206] : Fin 2 → IVec S16 32) a x).toNat < S64x128.size a := fun v190 v206 k0_hw1 => k0_hw1.2.2

def k0_chk2 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx4_inb : ∀ (v190 : IVec S16 32) (v219 : IVec S16 32) (k0_hw2 : k0_chk2 v190 v219), ∀ a x, ((![v190, v219] : Fin 2 → IVec S16 32) a x).toNat < S64x128.size a := fun v190 v219 k0_hw2 => k0_hw2.1
theorem k0_idx5_inb : ∀ (v190 : IVec S16 32) (v219 : IVec S16 32) (k0_hw2 : k0_chk2 v190 v219), ∀ a x, ((![v190, v219] : Fin 2 → IVec S16 32) a x).toNat < S64x128.size a := fun v190 v219 k0_hw2 => k0_hw2.2.1
theorem k0_idx6_inb : ∀ (v190 : IVec S16 32) (v219 : IVec S16 32) (k0_hw2 : k0_chk2 v190 v219), ∀ a x, ((![v190, v219] : Fin 2 → IVec S16 32) a x).toNat < S64x128.size a := fun v190 v219 k0_hw2 => k0_hw2.2.2

def k0_chk3 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx7_inb : ∀ (v190 : IVec S16 32) (v232 : IVec S16 32) (k0_hw3 : k0_chk3 v190 v232), ∀ a x, ((![v190, v232] : Fin 2 → IVec S16 32) a x).toNat < S64x128.size a := fun v190 v232 k0_hw3 => k0_hw3.1
theorem k0_idx8_inb : ∀ (v190 : IVec S16 32) (v232 : IVec S16 32) (k0_hw3 : k0_chk3 v190 v232), ∀ a x, ((![v190, v232] : Fin 2 → IVec S16 32) a x).toNat < S64x128.size a := fun v190 v232 k0_hw3 => k0_hw3.2.1
theorem k0_idx9_inb : ∀ (v190 : IVec S16 32) (v232 : IVec S16 32) (k0_hw3 : k0_chk3 v190 v232), ∀ a x, ((![v190, v232] : Fin 2 → IVec S16 32) a x).toNat < S64x128.size a := fun v190 v232 k0_hw3 => k0_hw3.2.2

def k0_chk4 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx10_inb : ∀ (v190 : IVec S16 32) (v245 : IVec S16 32) (k0_hw4 : k0_chk4 v190 v245), ∀ a x, ((![v190, v245] : Fin 2 → IVec S16 32) a x).toNat < S64x128.size a := fun v190 v245 k0_hw4 => k0_hw4.1
theorem k0_idx11_inb : ∀ (v190 : IVec S16 32) (v245 : IVec S16 32) (k0_hw4 : k0_chk4 v190 v245), ∀ a x, ((![v190, v245] : Fin 2 → IVec S16 32) a x).toNat < S64x128.size a := fun v190 v245 k0_hw4 => k0_hw4.2.1
theorem k0_idx12_inb : ∀ (v190 : IVec S16 32) (v245 : IVec S16 32) (k0_hw4 : k0_chk4 v190 v245), ∀ a x, ((![v190, v245] : Fin 2 → IVec S16 32) a x).toNat < S64x128.size a := fun v190 v245 k0_hw4 => k0_hw4.2.2

def k0_chk5 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx13_inb : ∀ (v190 : IVec S16 32) (v258 : IVec S16 32) (k0_hw5 : k0_chk5 v190 v258), ∀ a x, ((![v190, v258] : Fin 2 → IVec S16 32) a x).toNat < S64x128.size a := fun v190 v258 k0_hw5 => k0_hw5.1
theorem k0_idx14_inb : ∀ (v190 : IVec S16 32) (v258 : IVec S16 32) (k0_hw5 : k0_chk5 v190 v258), ∀ a x, ((![v190, v258] : Fin 2 → IVec S16 32) a x).toNat < S64x128.size a := fun v190 v258 k0_hw5 => k0_hw5.2.1
theorem k0_idx15_inb : ∀ (v190 : IVec S16 32) (v258 : IVec S16 32) (k0_hw5 : k0_chk5 v190 v258), ∀ a x, ((![v190, v258] : Fin 2 → IVec S16 32) a x).toNat < S64x128.size a := fun v190 v258 k0_hw5 => k0_hw5.2.2

def k0_chk6 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx16_inb : ∀ (v190 : IVec S16 32) (v271 : IVec S16 32) (k0_hw6 : k0_chk6 v190 v271), ∀ a x, ((![v190, v271] : Fin 2 → IVec S16 32) a x).toNat < S64x128.size a := fun v190 v271 k0_hw6 => k0_hw6.1
theorem k0_idx17_inb : ∀ (v190 : IVec S16 32) (v271 : IVec S16 32) (k0_hw6 : k0_chk6 v190 v271), ∀ a x, ((![v190, v271] : Fin 2 → IVec S16 32) a x).toNat < S64x128.size a := fun v190 v271 k0_hw6 => k0_hw6.2.1
theorem k0_idx18_inb : ∀ (v190 : IVec S16 32) (v271 : IVec S16 32) (k0_hw6 : k0_chk6 v190 v271), ∀ a x, ((![v190, v271] : Fin 2 → IVec S16 32) a x).toNat < S64x128.size a := fun v190 v271 k0_hw6 => k0_hw6.2.2

def k0_chk7 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx19_inb : ∀ (v190 : IVec S16 32) (v284 : IVec S16 32) (k0_hw7 : k0_chk7 v190 v284), ∀ a x, ((![v190, v284] : Fin 2 → IVec S16 32) a x).toNat < S64x128.size a := fun v190 v284 k0_hw7 => k0_hw7.1
theorem k0_idx20_inb : ∀ (v190 : IVec S16 32) (v284 : IVec S16 32) (k0_hw7 : k0_chk7 v190 v284), ∀ a x, ((![v190, v284] : Fin 2 → IVec S16 32) a x).toNat < S64x128.size a := fun v190 v284 k0_hw7 => k0_hw7.2.1
theorem k0_idx21_inb : ∀ (v190 : IVec S16 32) (v284 : IVec S16 32) (k0_hw7 : k0_chk7 v190 v284), ∀ a x, ((![v190, v284] : Fin 2 → IVec S16 32) a x).toNat < S64x128.size a := fun v190 v284 k0_hw7 => k0_hw7.2.2

def k0_chk8 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx22_inb : ∀ (v190 : IVec S16 32) (v297 : IVec S16 32) (k0_hw8 : k0_chk8 v190 v297), ∀ a x, ((![v190, v297] : Fin 2 → IVec S16 32) a x).toNat < S64x128.size a := fun v190 v297 k0_hw8 => k0_hw8.1
theorem k0_idx23_inb : ∀ (v190 : IVec S16 32) (v297 : IVec S16 32) (k0_hw8 : k0_chk8 v190 v297), ∀ a x, ((![v190, v297] : Fin 2 → IVec S16 32) a x).toNat < S64x128.size a := fun v190 v297 k0_hw8 => k0_hw8.2.1
theorem k0_idx24_inb : ∀ (v190 : IVec S16 32) (v297 : IVec S16 32) (k0_hw8 : k0_chk8 v190 v297), ∀ a x, ((![v190, v297] : Fin 2 → IVec S16 32) a x).toNat < S64x128.size a := fun v190 v297 k0_hw8 => k0_hw8.2.2

def k0_chk9 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx25_inb : ∀ (v190 : IVec S16 32) (v310 : IVec S16 32) (k0_hw9 : k0_chk9 v190 v310), ∀ a x, ((![v190, v310] : Fin 2 → IVec S16 32) a x).toNat < S64x128.size a := fun v190 v310 k0_hw9 => k0_hw9.1
theorem k0_idx26_inb : ∀ (v190 : IVec S16 32) (v310 : IVec S16 32) (k0_hw9 : k0_chk9 v190 v310), ∀ a x, ((![v190, v310] : Fin 2 → IVec S16 32) a x).toNat < S64x128.size a := fun v190 v310 k0_hw9 => k0_hw9.2.1
theorem k0_idx27_inb : ∀ (v190 : IVec S16 32) (v310 : IVec S16 32) (k0_hw9 : k0_chk9 v190 v310), ∀ a x, ((![v190, v310] : Fin 2 → IVec S16 32) a x).toNat < S64x128.size a := fun v190 v310 k0_hw9 => k0_hw9.2.2

def k0_chk10 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx28_inb : ∀ (v190 : IVec S16 32) (v323 : IVec S16 32) (k0_hw10 : k0_chk10 v190 v323), ∀ a x, ((![v190, v323] : Fin 2 → IVec S16 32) a x).toNat < S64x128.size a := fun v190 v323 k0_hw10 => k0_hw10.1
theorem k0_idx29_inb : ∀ (v190 : IVec S16 32) (v323 : IVec S16 32) (k0_hw10 : k0_chk10 v190 v323), ∀ a x, ((![v190, v323] : Fin 2 → IVec S16 32) a x).toNat < S64x128.size a := fun v190 v323 k0_hw10 => k0_hw10.2.1
theorem k0_idx30_inb : ∀ (v190 : IVec S16 32) (v323 : IVec S16 32) (k0_hw10 : k0_chk10 v190 v323), ∀ a x, ((![v190, v323] : Fin 2 → IVec S16 32) a x).toNat < S64x128.size a := fun v190 v323 k0_hw10 => k0_hw10.2.2

def k0_chk11 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx31_inb : ∀ (v190 : IVec S16 32) (v336 : IVec S16 32) (k0_hw11 : k0_chk11 v190 v336), ∀ a x, ((![v190, v336] : Fin 2 → IVec S16 32) a x).toNat < S64x128.size a := fun v190 v336 k0_hw11 => k0_hw11.1
theorem k0_idx32_inb : ∀ (v190 : IVec S16 32) (v336 : IVec S16 32) (k0_hw11 : k0_chk11 v190 v336), ∀ a x, ((![v190, v336] : Fin 2 → IVec S16 32) a x).toNat < S64x128.size a := fun v190 v336 k0_hw11 => k0_hw11.2.1
theorem k0_idx33_inb : ∀ (v190 : IVec S16 32) (v336 : IVec S16 32) (k0_hw11 : k0_chk11 v190 v336), ∀ a x, ((![v190, v336] : Fin 2 → IVec S16 32) a x).toNat < S64x128.size a := fun v190 v336 k0_hw11 => k0_hw11.2.2

def k0_chk12 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx34_inb : ∀ (v190 : IVec S16 32) (v349 : IVec S16 32) (k0_hw12 : k0_chk12 v190 v349), ∀ a x, ((![v190, v349] : Fin 2 → IVec S16 32) a x).toNat < S64x128.size a := fun v190 v349 k0_hw12 => k0_hw12.1
theorem k0_idx35_inb : ∀ (v190 : IVec S16 32) (v349 : IVec S16 32) (k0_hw12 : k0_chk12 v190 v349), ∀ a x, ((![v190, v349] : Fin 2 → IVec S16 32) a x).toNat < S64x128.size a := fun v190 v349 k0_hw12 => k0_hw12.2.1
theorem k0_idx36_inb : ∀ (v190 : IVec S16 32) (v349 : IVec S16 32) (k0_hw12 : k0_chk12 v190 v349), ∀ a x, ((![v190, v349] : Fin 2 → IVec S16 32) a x).toNat < S64x128.size a := fun v190 v349 k0_hw12 => k0_hw12.2.2

def k0_chk13 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx37_inb : ∀ (v190 : IVec S16 32) (v362 : IVec S16 32) (k0_hw13 : k0_chk13 v190 v362), ∀ a x, ((![v190, v362] : Fin 2 → IVec S16 32) a x).toNat < S64x128.size a := fun v190 v362 k0_hw13 => k0_hw13.1
theorem k0_idx38_inb : ∀ (v190 : IVec S16 32) (v362 : IVec S16 32) (k0_hw13 : k0_chk13 v190 v362), ∀ a x, ((![v190, v362] : Fin 2 → IVec S16 32) a x).toNat < S64x128.size a := fun v190 v362 k0_hw13 => k0_hw13.2.1
theorem k0_idx39_inb : ∀ (v190 : IVec S16 32) (v362 : IVec S16 32) (k0_hw13 : k0_chk13 v190 v362), ∀ a x, ((![v190, v362] : Fin 2 → IVec S16 32) a x).toNat < S64x128.size a := fun v190 v362 k0_hw13 => k0_hw13.2.2

def k0_chk14 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx40_inb : ∀ (v190 : IVec S16 32) (v375 : IVec S16 32) (k0_hw14 : k0_chk14 v190 v375), ∀ a x, ((![v190, v375] : Fin 2 → IVec S16 32) a x).toNat < S64x128.size a := fun v190 v375 k0_hw14 => k0_hw14.1
theorem k0_idx41_inb : ∀ (v190 : IVec S16 32) (v375 : IVec S16 32) (k0_hw14 : k0_chk14 v190 v375), ∀ a x, ((![v190, v375] : Fin 2 → IVec S16 32) a x).toNat < S64x128.size a := fun v190 v375 k0_hw14 => k0_hw14.2.1
theorem k0_idx42_inb : ∀ (v190 : IVec S16 32) (v375 : IVec S16 32) (k0_hw14 : k0_chk14 v190 v375), ∀ a x, ((![v190, v375] : Fin 2 → IVec S16 32) a x).toNat < S64x128.size a := fun v190 v375 k0_hw14 => k0_hw14.2.2

def k0_chk15 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx43_inb : ∀ (v190 : IVec S16 32) (v388 : IVec S16 32) (k0_hw15 : k0_chk15 v190 v388), ∀ a x, ((![v190, v388] : Fin 2 → IVec S16 32) a x).toNat < S64x128.size a := fun v190 v388 k0_hw15 => k0_hw15.1
theorem k0_idx44_inb : ∀ (v190 : IVec S16 32) (v388 : IVec S16 32) (k0_hw15 : k0_chk15 v190 v388), ∀ a x, ((![v190, v388] : Fin 2 → IVec S16 32) a x).toNat < S64x128.size a := fun v190 v388 k0_hw15 => k0_hw15.2.1
theorem k0_idx45_inb : ∀ (v190 : IVec S16 32) (v388 : IVec S16 32) (k0_hw15 : k0_chk15 v190 v388), ∀ a x, ((![v190, v388] : Fin 2 → IVec S16 32) a x).toNat < S64x128.size a := fun v190 v388 k0_hw15 => k0_hw15.2.2

def k0_chk16 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx46_inb : ∀ (v190 : IVec S16 32) (v401 : IVec S16 32) (k0_hw16 : k0_chk16 v190 v401), ∀ a x, ((![v190, v401] : Fin 2 → IVec S16 32) a x).toNat < S64x128.size a := fun v190 v401 k0_hw16 => k0_hw16.1
theorem k0_idx47_inb : ∀ (v190 : IVec S16 32) (v401 : IVec S16 32) (k0_hw16 : k0_chk16 v190 v401), ∀ a x, ((![v190, v401] : Fin 2 → IVec S16 32) a x).toNat < S64x128.size a := fun v190 v401 k0_hw16 => k0_hw16.2.1
theorem k0_idx48_inb : ∀ (v190 : IVec S16 32) (v401 : IVec S16 32) (k0_hw16 : k0_chk16 v190 v401), ∀ a x, ((![v190, v401] : Fin 2 → IVec S16 32) a x).toNat < S64x128.size a := fun v190 v401 k0_hw16 => k0_hw16.2.2
def k0_off2 (k0_t1 : Fin k0_t1_loop.trips) : Fin 1 → Nat :=
  let c0_i32_248 : BitVec 32 := 0#32
  let c0_i32_242 : BitVec 32 := 0#32
  let c0_i32_70 : BitVec 32 := 0#32
  let c1_i32_71 : BitVec 32 := 1#32
  let arg25 : BitVec 32 := Scf.iv c0_i32_70 c1_i32_71 k0_t1
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c0_i32_248 v197
  let v199 : Index := Scalar.indexCast v198
  ![v199.toNat]
@[reducible] def k0_t3_loop : Scf.Loop 32 :=
  let c0_i32_96 : BitVec 32 := 0#32
  let c4_i32_97 : BitVec 32 := 4#32
  let v83 : BitVec 32 := Scalar.addi c0_i32_96 c4_i32_97
  let c1_i32_98 : BitVec 32 := 1#32
  ⟨c0_i32_96, v83, c1_i32_98⟩
@[reducible] def k0_t4_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk17 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx49_inb : ∀ (v190 : IVec S16 32) (v206 : IVec S16 32) (k0_hw17 : k0_chk17 v190 v206), ∀ a x, ((![v190, v206] : Fin 2 → IVec S16 32) a x).toNat < S64x128.size a := fun v190 v206 k0_hw17 => k0_hw17.1
theorem k0_idx50_inb : ∀ (v190 : IVec S16 32) (v206 : IVec S16 32) (k0_hw17 : k0_chk17 v190 v206), ∀ a x, ((![v190, v206] : Fin 2 → IVec S16 32) a x).toNat < S64x128.size a := fun v190 v206 k0_hw17 => k0_hw17.2.1
theorem k0_idx51_inb : ∀ (v190 : IVec S16 32) (v206 : IVec S16 32) (k0_hw17 : k0_chk17 v190 v206), ∀ a x, ((![v190, v206] : Fin 2 → IVec S16 32) a x).toNat < S64x128.size a := fun v190 v206 k0_hw17 => k0_hw17.2.2

def k0_chk18 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx52_inb : ∀ (v190 : IVec S16 32) (v219 : IVec S16 32) (k0_hw18 : k0_chk18 v190 v219), ∀ a x, ((![v190, v219] : Fin 2 → IVec S16 32) a x).toNat < S64x128.size a := fun v190 v219 k0_hw18 => k0_hw18.1
theorem k0_idx53_inb : ∀ (v190 : IVec S16 32) (v219 : IVec S16 32) (k0_hw18 : k0_chk18 v190 v219), ∀ a x, ((![v190, v219] : Fin 2 → IVec S16 32) a x).toNat < S64x128.size a := fun v190 v219 k0_hw18 => k0_hw18.2.1
theorem k0_idx54_inb : ∀ (v190 : IVec S16 32) (v219 : IVec S16 32) (k0_hw18 : k0_chk18 v190 v219), ∀ a x, ((![v190, v219] : Fin 2 → IVec S16 32) a x).toNat < S64x128.size a := fun v190 v219 k0_hw18 => k0_hw18.2.2

def k0_chk19 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx55_inb : ∀ (v190 : IVec S16 32) (v232 : IVec S16 32) (k0_hw19 : k0_chk19 v190 v232), ∀ a x, ((![v190, v232] : Fin 2 → IVec S16 32) a x).toNat < S64x128.size a := fun v190 v232 k0_hw19 => k0_hw19.1
theorem k0_idx56_inb : ∀ (v190 : IVec S16 32) (v232 : IVec S16 32) (k0_hw19 : k0_chk19 v190 v232), ∀ a x, ((![v190, v232] : Fin 2 → IVec S16 32) a x).toNat < S64x128.size a := fun v190 v232 k0_hw19 => k0_hw19.2.1
theorem k0_idx57_inb : ∀ (v190 : IVec S16 32) (v232 : IVec S16 32) (k0_hw19 : k0_chk19 v190 v232), ∀ a x, ((![v190, v232] : Fin 2 → IVec S16 32) a x).toNat < S64x128.size a := fun v190 v232 k0_hw19 => k0_hw19.2.2

def k0_chk20 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx58_inb : ∀ (v190 : IVec S16 32) (v245 : IVec S16 32) (k0_hw20 : k0_chk20 v190 v245), ∀ a x, ((![v190, v245] : Fin 2 → IVec S16 32) a x).toNat < S64x128.size a := fun v190 v245 k0_hw20 => k0_hw20.1
theorem k0_idx59_inb : ∀ (v190 : IVec S16 32) (v245 : IVec S16 32) (k0_hw20 : k0_chk20 v190 v245), ∀ a x, ((![v190, v245] : Fin 2 → IVec S16 32) a x).toNat < S64x128.size a := fun v190 v245 k0_hw20 => k0_hw20.2.1
theorem k0_idx60_inb : ∀ (v190 : IVec S16 32) (v245 : IVec S16 32) (k0_hw20 : k0_chk20 v190 v245), ∀ a x, ((![v190, v245] : Fin 2 → IVec S16 32) a x).toNat < S64x128.size a := fun v190 v245 k0_hw20 => k0_hw20.2.2

def k0_chk21 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx61_inb : ∀ (v190 : IVec S16 32) (v258 : IVec S16 32) (k0_hw21 : k0_chk21 v190 v258), ∀ a x, ((![v190, v258] : Fin 2 → IVec S16 32) a x).toNat < S64x128.size a := fun v190 v258 k0_hw21 => k0_hw21.1
theorem k0_idx62_inb : ∀ (v190 : IVec S16 32) (v258 : IVec S16 32) (k0_hw21 : k0_chk21 v190 v258), ∀ a x, ((![v190, v258] : Fin 2 → IVec S16 32) a x).toNat < S64x128.size a := fun v190 v258 k0_hw21 => k0_hw21.2.1
theorem k0_idx63_inb : ∀ (v190 : IVec S16 32) (v258 : IVec S16 32) (k0_hw21 : k0_chk21 v190 v258), ∀ a x, ((![v190, v258] : Fin 2 → IVec S16 32) a x).toNat < S64x128.size a := fun v190 v258 k0_hw21 => k0_hw21.2.2

def k0_chk22 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx64_inb : ∀ (v190 : IVec S16 32) (v271 : IVec S16 32) (k0_hw22 : k0_chk22 v190 v271), ∀ a x, ((![v190, v271] : Fin 2 → IVec S16 32) a x).toNat < S64x128.size a := fun v190 v271 k0_hw22 => k0_hw22.1
theorem k0_idx65_inb : ∀ (v190 : IVec S16 32) (v271 : IVec S16 32) (k0_hw22 : k0_chk22 v190 v271), ∀ a x, ((![v190, v271] : Fin 2 → IVec S16 32) a x).toNat < S64x128.size a := fun v190 v271 k0_hw22 => k0_hw22.2.1
theorem k0_idx66_inb : ∀ (v190 : IVec S16 32) (v271 : IVec S16 32) (k0_hw22 : k0_chk22 v190 v271), ∀ a x, ((![v190, v271] : Fin 2 → IVec S16 32) a x).toNat < S64x128.size a := fun v190 v271 k0_hw22 => k0_hw22.2.2

def k0_chk23 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx67_inb : ∀ (v190 : IVec S16 32) (v284 : IVec S16 32) (k0_hw23 : k0_chk23 v190 v284), ∀ a x, ((![v190, v284] : Fin 2 → IVec S16 32) a x).toNat < S64x128.size a := fun v190 v284 k0_hw23 => k0_hw23.1
theorem k0_idx68_inb : ∀ (v190 : IVec S16 32) (v284 : IVec S16 32) (k0_hw23 : k0_chk23 v190 v284), ∀ a x, ((![v190, v284] : Fin 2 → IVec S16 32) a x).toNat < S64x128.size a := fun v190 v284 k0_hw23 => k0_hw23.2.1
theorem k0_idx69_inb : ∀ (v190 : IVec S16 32) (v284 : IVec S16 32) (k0_hw23 : k0_chk23 v190 v284), ∀ a x, ((![v190, v284] : Fin 2 → IVec S16 32) a x).toNat < S64x128.size a := fun v190 v284 k0_hw23 => k0_hw23.2.2

def k0_chk24 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx70_inb : ∀ (v190 : IVec S16 32) (v297 : IVec S16 32) (k0_hw24 : k0_chk24 v190 v297), ∀ a x, ((![v190, v297] : Fin 2 → IVec S16 32) a x).toNat < S64x128.size a := fun v190 v297 k0_hw24 => k0_hw24.1
theorem k0_idx71_inb : ∀ (v190 : IVec S16 32) (v297 : IVec S16 32) (k0_hw24 : k0_chk24 v190 v297), ∀ a x, ((![v190, v297] : Fin 2 → IVec S16 32) a x).toNat < S64x128.size a := fun v190 v297 k0_hw24 => k0_hw24.2.1
theorem k0_idx72_inb : ∀ (v190 : IVec S16 32) (v297 : IVec S16 32) (k0_hw24 : k0_chk24 v190 v297), ∀ a x, ((![v190, v297] : Fin 2 → IVec S16 32) a x).toNat < S64x128.size a := fun v190 v297 k0_hw24 => k0_hw24.2.2

def k0_chk25 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx73_inb : ∀ (v190 : IVec S16 32) (v310 : IVec S16 32) (k0_hw25 : k0_chk25 v190 v310), ∀ a x, ((![v190, v310] : Fin 2 → IVec S16 32) a x).toNat < S64x128.size a := fun v190 v310 k0_hw25 => k0_hw25.1
theorem k0_idx74_inb : ∀ (v190 : IVec S16 32) (v310 : IVec S16 32) (k0_hw25 : k0_chk25 v190 v310), ∀ a x, ((![v190, v310] : Fin 2 → IVec S16 32) a x).toNat < S64x128.size a := fun v190 v310 k0_hw25 => k0_hw25.2.1
theorem k0_idx75_inb : ∀ (v190 : IVec S16 32) (v310 : IVec S16 32) (k0_hw25 : k0_chk25 v190 v310), ∀ a x, ((![v190, v310] : Fin 2 → IVec S16 32) a x).toNat < S64x128.size a := fun v190 v310 k0_hw25 => k0_hw25.2.2

def k0_chk26 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx76_inb : ∀ (v190 : IVec S16 32) (v323 : IVec S16 32) (k0_hw26 : k0_chk26 v190 v323), ∀ a x, ((![v190, v323] : Fin 2 → IVec S16 32) a x).toNat < S64x128.size a := fun v190 v323 k0_hw26 => k0_hw26.1
theorem k0_idx77_inb : ∀ (v190 : IVec S16 32) (v323 : IVec S16 32) (k0_hw26 : k0_chk26 v190 v323), ∀ a x, ((![v190, v323] : Fin 2 → IVec S16 32) a x).toNat < S64x128.size a := fun v190 v323 k0_hw26 => k0_hw26.2.1
theorem k0_idx78_inb : ∀ (v190 : IVec S16 32) (v323 : IVec S16 32) (k0_hw26 : k0_chk26 v190 v323), ∀ a x, ((![v190, v323] : Fin 2 → IVec S16 32) a x).toNat < S64x128.size a := fun v190 v323 k0_hw26 => k0_hw26.2.2

def k0_chk27 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx79_inb : ∀ (v190 : IVec S16 32) (v336 : IVec S16 32) (k0_hw27 : k0_chk27 v190 v336), ∀ a x, ((![v190, v336] : Fin 2 → IVec S16 32) a x).toNat < S64x128.size a := fun v190 v336 k0_hw27 => k0_hw27.1
theorem k0_idx80_inb : ∀ (v190 : IVec S16 32) (v336 : IVec S16 32) (k0_hw27 : k0_chk27 v190 v336), ∀ a x, ((![v190, v336] : Fin 2 → IVec S16 32) a x).toNat < S64x128.size a := fun v190 v336 k0_hw27 => k0_hw27.2.1
theorem k0_idx81_inb : ∀ (v190 : IVec S16 32) (v336 : IVec S16 32) (k0_hw27 : k0_chk27 v190 v336), ∀ a x, ((![v190, v336] : Fin 2 → IVec S16 32) a x).toNat < S64x128.size a := fun v190 v336 k0_hw27 => k0_hw27.2.2

def k0_chk28 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx82_inb : ∀ (v190 : IVec S16 32) (v349 : IVec S16 32) (k0_hw28 : k0_chk28 v190 v349), ∀ a x, ((![v190, v349] : Fin 2 → IVec S16 32) a x).toNat < S64x128.size a := fun v190 v349 k0_hw28 => k0_hw28.1
theorem k0_idx83_inb : ∀ (v190 : IVec S16 32) (v349 : IVec S16 32) (k0_hw28 : k0_chk28 v190 v349), ∀ a x, ((![v190, v349] : Fin 2 → IVec S16 32) a x).toNat < S64x128.size a := fun v190 v349 k0_hw28 => k0_hw28.2.1
theorem k0_idx84_inb : ∀ (v190 : IVec S16 32) (v349 : IVec S16 32) (k0_hw28 : k0_chk28 v190 v349), ∀ a x, ((![v190, v349] : Fin 2 → IVec S16 32) a x).toNat < S64x128.size a := fun v190 v349 k0_hw28 => k0_hw28.2.2

def k0_chk29 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx85_inb : ∀ (v190 : IVec S16 32) (v362 : IVec S16 32) (k0_hw29 : k0_chk29 v190 v362), ∀ a x, ((![v190, v362] : Fin 2 → IVec S16 32) a x).toNat < S64x128.size a := fun v190 v362 k0_hw29 => k0_hw29.1
theorem k0_idx86_inb : ∀ (v190 : IVec S16 32) (v362 : IVec S16 32) (k0_hw29 : k0_chk29 v190 v362), ∀ a x, ((![v190, v362] : Fin 2 → IVec S16 32) a x).toNat < S64x128.size a := fun v190 v362 k0_hw29 => k0_hw29.2.1
theorem k0_idx87_inb : ∀ (v190 : IVec S16 32) (v362 : IVec S16 32) (k0_hw29 : k0_chk29 v190 v362), ∀ a x, ((![v190, v362] : Fin 2 → IVec S16 32) a x).toNat < S64x128.size a := fun v190 v362 k0_hw29 => k0_hw29.2.2

def k0_chk30 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx88_inb : ∀ (v190 : IVec S16 32) (v375 : IVec S16 32) (k0_hw30 : k0_chk30 v190 v375), ∀ a x, ((![v190, v375] : Fin 2 → IVec S16 32) a x).toNat < S64x128.size a := fun v190 v375 k0_hw30 => k0_hw30.1
theorem k0_idx89_inb : ∀ (v190 : IVec S16 32) (v375 : IVec S16 32) (k0_hw30 : k0_chk30 v190 v375), ∀ a x, ((![v190, v375] : Fin 2 → IVec S16 32) a x).toNat < S64x128.size a := fun v190 v375 k0_hw30 => k0_hw30.2.1
theorem k0_idx90_inb : ∀ (v190 : IVec S16 32) (v375 : IVec S16 32) (k0_hw30 : k0_chk30 v190 v375), ∀ a x, ((![v190, v375] : Fin 2 → IVec S16 32) a x).toNat < S64x128.size a := fun v190 v375 k0_hw30 => k0_hw30.2.2

def k0_chk31 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx91_inb : ∀ (v190 : IVec S16 32) (v388 : IVec S16 32) (k0_hw31 : k0_chk31 v190 v388), ∀ a x, ((![v190, v388] : Fin 2 → IVec S16 32) a x).toNat < S64x128.size a := fun v190 v388 k0_hw31 => k0_hw31.1
theorem k0_idx92_inb : ∀ (v190 : IVec S16 32) (v388 : IVec S16 32) (k0_hw31 : k0_chk31 v190 v388), ∀ a x, ((![v190, v388] : Fin 2 → IVec S16 32) a x).toNat < S64x128.size a := fun v190 v388 k0_hw31 => k0_hw31.2.1
theorem k0_idx93_inb : ∀ (v190 : IVec S16 32) (v388 : IVec S16 32) (k0_hw31 : k0_chk31 v190 v388), ∀ a x, ((![v190, v388] : Fin 2 → IVec S16 32) a x).toNat < S64x128.size a := fun v190 v388 k0_hw31 => k0_hw31.2.2

def k0_chk32 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx94_inb : ∀ (v190 : IVec S16 32) (v401 : IVec S16 32) (k0_hw32 : k0_chk32 v190 v401), ∀ a x, ((![v190, v401] : Fin 2 → IVec S16 32) a x).toNat < S64x128.size a := fun v190 v401 k0_hw32 => k0_hw32.1
theorem k0_idx95_inb : ∀ (v190 : IVec S16 32) (v401 : IVec S16 32) (k0_hw32 : k0_chk32 v190 v401), ∀ a x, ((![v190, v401] : Fin 2 → IVec S16 32) a x).toNat < S64x128.size a := fun v190 v401 k0_hw32 => k0_hw32.2.1
theorem k0_idx96_inb : ∀ (v190 : IVec S16 32) (v401 : IVec S16 32) (k0_hw32 : k0_chk32 v190 v401), ∀ a x, ((![v190, v401] : Fin 2 → IVec S16 32) a x).toNat < S64x128.size a := fun v190 v401 k0_hw32 => k0_hw32.2.2
def k0_off3 (k0_t3 : Fin k0_t3_loop.trips) : Fin 1 → Nat :=
  let c64_i32 : BitVec 32 := 64#32
  let c0_i32_242 : BitVec 32 := 0#32
  let c0_i32_96 : BitVec 32 := 0#32
  let c1_i32_98 : BitVec 32 := 1#32
  let arg25 : BitVec 32 := Scf.iv c0_i32_96 c1_i32_98 k0_t3
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c64_i32 v197
  let v199 : Index := Scalar.indexCast v198
  ![v199.toNat]
@[reducible] def k0_t5_loop : Scf.Loop 32 :=
  let c0_i32_124 : BitVec 32 := 0#32
  let c4_i32_125 : BitVec 32 := 4#32
  let v103 : BitVec 32 := Scalar.addi c0_i32_124 c4_i32_125
  let c1_i32_126 : BitVec 32 := 1#32
  ⟨c0_i32_124, v103, c1_i32_126⟩
@[reducible] def k0_t6_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk33 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx97_inb : ∀ (v190 : IVec S16 32) (v206 : IVec S16 32) (k0_hw33 : k0_chk33 v190 v206), ∀ a x, ((![v190, v206] : Fin 2 → IVec S16 32) a x).toNat < S64x128.size a := fun v190 v206 k0_hw33 => k0_hw33.1
theorem k0_idx98_inb : ∀ (v190 : IVec S16 32) (v206 : IVec S16 32) (k0_hw33 : k0_chk33 v190 v206), ∀ a x, ((![v190, v206] : Fin 2 → IVec S16 32) a x).toNat < S64x128.size a := fun v190 v206 k0_hw33 => k0_hw33.2.1
theorem k0_idx99_inb : ∀ (v190 : IVec S16 32) (v206 : IVec S16 32) (k0_hw33 : k0_chk33 v190 v206), ∀ a x, ((![v190, v206] : Fin 2 → IVec S16 32) a x).toNat < S64x128.size a := fun v190 v206 k0_hw33 => k0_hw33.2.2

def k0_chk34 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx100_inb : ∀ (v190 : IVec S16 32) (v219 : IVec S16 32) (k0_hw34 : k0_chk34 v190 v219), ∀ a x, ((![v190, v219] : Fin 2 → IVec S16 32) a x).toNat < S64x128.size a := fun v190 v219 k0_hw34 => k0_hw34.1
theorem k0_idx101_inb : ∀ (v190 : IVec S16 32) (v219 : IVec S16 32) (k0_hw34 : k0_chk34 v190 v219), ∀ a x, ((![v190, v219] : Fin 2 → IVec S16 32) a x).toNat < S64x128.size a := fun v190 v219 k0_hw34 => k0_hw34.2.1
theorem k0_idx102_inb : ∀ (v190 : IVec S16 32) (v219 : IVec S16 32) (k0_hw34 : k0_chk34 v190 v219), ∀ a x, ((![v190, v219] : Fin 2 → IVec S16 32) a x).toNat < S64x128.size a := fun v190 v219 k0_hw34 => k0_hw34.2.2

def k0_chk35 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx103_inb : ∀ (v190 : IVec S16 32) (v232 : IVec S16 32) (k0_hw35 : k0_chk35 v190 v232), ∀ a x, ((![v190, v232] : Fin 2 → IVec S16 32) a x).toNat < S64x128.size a := fun v190 v232 k0_hw35 => k0_hw35.1
theorem k0_idx104_inb : ∀ (v190 : IVec S16 32) (v232 : IVec S16 32) (k0_hw35 : k0_chk35 v190 v232), ∀ a x, ((![v190, v232] : Fin 2 → IVec S16 32) a x).toNat < S64x128.size a := fun v190 v232 k0_hw35 => k0_hw35.2.1
theorem k0_idx105_inb : ∀ (v190 : IVec S16 32) (v232 : IVec S16 32) (k0_hw35 : k0_chk35 v190 v232), ∀ a x, ((![v190, v232] : Fin 2 → IVec S16 32) a x).toNat < S64x128.size a := fun v190 v232 k0_hw35 => k0_hw35.2.2

def k0_chk36 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx106_inb : ∀ (v190 : IVec S16 32) (v245 : IVec S16 32) (k0_hw36 : k0_chk36 v190 v245), ∀ a x, ((![v190, v245] : Fin 2 → IVec S16 32) a x).toNat < S64x128.size a := fun v190 v245 k0_hw36 => k0_hw36.1
theorem k0_idx107_inb : ∀ (v190 : IVec S16 32) (v245 : IVec S16 32) (k0_hw36 : k0_chk36 v190 v245), ∀ a x, ((![v190, v245] : Fin 2 → IVec S16 32) a x).toNat < S64x128.size a := fun v190 v245 k0_hw36 => k0_hw36.2.1
theorem k0_idx108_inb : ∀ (v190 : IVec S16 32) (v245 : IVec S16 32) (k0_hw36 : k0_chk36 v190 v245), ∀ a x, ((![v190, v245] : Fin 2 → IVec S16 32) a x).toNat < S64x128.size a := fun v190 v245 k0_hw36 => k0_hw36.2.2

def k0_chk37 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx109_inb : ∀ (v190 : IVec S16 32) (v258 : IVec S16 32) (k0_hw37 : k0_chk37 v190 v258), ∀ a x, ((![v190, v258] : Fin 2 → IVec S16 32) a x).toNat < S64x128.size a := fun v190 v258 k0_hw37 => k0_hw37.1
theorem k0_idx110_inb : ∀ (v190 : IVec S16 32) (v258 : IVec S16 32) (k0_hw37 : k0_chk37 v190 v258), ∀ a x, ((![v190, v258] : Fin 2 → IVec S16 32) a x).toNat < S64x128.size a := fun v190 v258 k0_hw37 => k0_hw37.2.1
theorem k0_idx111_inb : ∀ (v190 : IVec S16 32) (v258 : IVec S16 32) (k0_hw37 : k0_chk37 v190 v258), ∀ a x, ((![v190, v258] : Fin 2 → IVec S16 32) a x).toNat < S64x128.size a := fun v190 v258 k0_hw37 => k0_hw37.2.2

def k0_chk38 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx112_inb : ∀ (v190 : IVec S16 32) (v271 : IVec S16 32) (k0_hw38 : k0_chk38 v190 v271), ∀ a x, ((![v190, v271] : Fin 2 → IVec S16 32) a x).toNat < S64x128.size a := fun v190 v271 k0_hw38 => k0_hw38.1
theorem k0_idx113_inb : ∀ (v190 : IVec S16 32) (v271 : IVec S16 32) (k0_hw38 : k0_chk38 v190 v271), ∀ a x, ((![v190, v271] : Fin 2 → IVec S16 32) a x).toNat < S64x128.size a := fun v190 v271 k0_hw38 => k0_hw38.2.1
theorem k0_idx114_inb : ∀ (v190 : IVec S16 32) (v271 : IVec S16 32) (k0_hw38 : k0_chk38 v190 v271), ∀ a x, ((![v190, v271] : Fin 2 → IVec S16 32) a x).toNat < S64x128.size a := fun v190 v271 k0_hw38 => k0_hw38.2.2

def k0_chk39 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx115_inb : ∀ (v190 : IVec S16 32) (v284 : IVec S16 32) (k0_hw39 : k0_chk39 v190 v284), ∀ a x, ((![v190, v284] : Fin 2 → IVec S16 32) a x).toNat < S64x128.size a := fun v190 v284 k0_hw39 => k0_hw39.1
theorem k0_idx116_inb : ∀ (v190 : IVec S16 32) (v284 : IVec S16 32) (k0_hw39 : k0_chk39 v190 v284), ∀ a x, ((![v190, v284] : Fin 2 → IVec S16 32) a x).toNat < S64x128.size a := fun v190 v284 k0_hw39 => k0_hw39.2.1
theorem k0_idx117_inb : ∀ (v190 : IVec S16 32) (v284 : IVec S16 32) (k0_hw39 : k0_chk39 v190 v284), ∀ a x, ((![v190, v284] : Fin 2 → IVec S16 32) a x).toNat < S64x128.size a := fun v190 v284 k0_hw39 => k0_hw39.2.2

def k0_chk40 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx118_inb : ∀ (v190 : IVec S16 32) (v297 : IVec S16 32) (k0_hw40 : k0_chk40 v190 v297), ∀ a x, ((![v190, v297] : Fin 2 → IVec S16 32) a x).toNat < S64x128.size a := fun v190 v297 k0_hw40 => k0_hw40.1
theorem k0_idx119_inb : ∀ (v190 : IVec S16 32) (v297 : IVec S16 32) (k0_hw40 : k0_chk40 v190 v297), ∀ a x, ((![v190, v297] : Fin 2 → IVec S16 32) a x).toNat < S64x128.size a := fun v190 v297 k0_hw40 => k0_hw40.2.1
theorem k0_idx120_inb : ∀ (v190 : IVec S16 32) (v297 : IVec S16 32) (k0_hw40 : k0_chk40 v190 v297), ∀ a x, ((![v190, v297] : Fin 2 → IVec S16 32) a x).toNat < S64x128.size a := fun v190 v297 k0_hw40 => k0_hw40.2.2

def k0_chk41 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx121_inb : ∀ (v190 : IVec S16 32) (v310 : IVec S16 32) (k0_hw41 : k0_chk41 v190 v310), ∀ a x, ((![v190, v310] : Fin 2 → IVec S16 32) a x).toNat < S64x128.size a := fun v190 v310 k0_hw41 => k0_hw41.1
theorem k0_idx122_inb : ∀ (v190 : IVec S16 32) (v310 : IVec S16 32) (k0_hw41 : k0_chk41 v190 v310), ∀ a x, ((![v190, v310] : Fin 2 → IVec S16 32) a x).toNat < S64x128.size a := fun v190 v310 k0_hw41 => k0_hw41.2.1
theorem k0_idx123_inb : ∀ (v190 : IVec S16 32) (v310 : IVec S16 32) (k0_hw41 : k0_chk41 v190 v310), ∀ a x, ((![v190, v310] : Fin 2 → IVec S16 32) a x).toNat < S64x128.size a := fun v190 v310 k0_hw41 => k0_hw41.2.2

def k0_chk42 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx124_inb : ∀ (v190 : IVec S16 32) (v323 : IVec S16 32) (k0_hw42 : k0_chk42 v190 v323), ∀ a x, ((![v190, v323] : Fin 2 → IVec S16 32) a x).toNat < S64x128.size a := fun v190 v323 k0_hw42 => k0_hw42.1
theorem k0_idx125_inb : ∀ (v190 : IVec S16 32) (v323 : IVec S16 32) (k0_hw42 : k0_chk42 v190 v323), ∀ a x, ((![v190, v323] : Fin 2 → IVec S16 32) a x).toNat < S64x128.size a := fun v190 v323 k0_hw42 => k0_hw42.2.1
theorem k0_idx126_inb : ∀ (v190 : IVec S16 32) (v323 : IVec S16 32) (k0_hw42 : k0_chk42 v190 v323), ∀ a x, ((![v190, v323] : Fin 2 → IVec S16 32) a x).toNat < S64x128.size a := fun v190 v323 k0_hw42 => k0_hw42.2.2

def k0_chk43 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx127_inb : ∀ (v190 : IVec S16 32) (v336 : IVec S16 32) (k0_hw43 : k0_chk43 v190 v336), ∀ a x, ((![v190, v336] : Fin 2 → IVec S16 32) a x).toNat < S64x128.size a := fun v190 v336 k0_hw43 => k0_hw43.1
theorem k0_idx128_inb : ∀ (v190 : IVec S16 32) (v336 : IVec S16 32) (k0_hw43 : k0_chk43 v190 v336), ∀ a x, ((![v190, v336] : Fin 2 → IVec S16 32) a x).toNat < S64x128.size a := fun v190 v336 k0_hw43 => k0_hw43.2.1
theorem k0_idx129_inb : ∀ (v190 : IVec S16 32) (v336 : IVec S16 32) (k0_hw43 : k0_chk43 v190 v336), ∀ a x, ((![v190, v336] : Fin 2 → IVec S16 32) a x).toNat < S64x128.size a := fun v190 v336 k0_hw43 => k0_hw43.2.2

def k0_chk44 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx130_inb : ∀ (v190 : IVec S16 32) (v349 : IVec S16 32) (k0_hw44 : k0_chk44 v190 v349), ∀ a x, ((![v190, v349] : Fin 2 → IVec S16 32) a x).toNat < S64x128.size a := fun v190 v349 k0_hw44 => k0_hw44.1
theorem k0_idx131_inb : ∀ (v190 : IVec S16 32) (v349 : IVec S16 32) (k0_hw44 : k0_chk44 v190 v349), ∀ a x, ((![v190, v349] : Fin 2 → IVec S16 32) a x).toNat < S64x128.size a := fun v190 v349 k0_hw44 => k0_hw44.2.1
theorem k0_idx132_inb : ∀ (v190 : IVec S16 32) (v349 : IVec S16 32) (k0_hw44 : k0_chk44 v190 v349), ∀ a x, ((![v190, v349] : Fin 2 → IVec S16 32) a x).toNat < S64x128.size a := fun v190 v349 k0_hw44 => k0_hw44.2.2

def k0_chk45 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx133_inb : ∀ (v190 : IVec S16 32) (v362 : IVec S16 32) (k0_hw45 : k0_chk45 v190 v362), ∀ a x, ((![v190, v362] : Fin 2 → IVec S16 32) a x).toNat < S64x128.size a := fun v190 v362 k0_hw45 => k0_hw45.1
theorem k0_idx134_inb : ∀ (v190 : IVec S16 32) (v362 : IVec S16 32) (k0_hw45 : k0_chk45 v190 v362), ∀ a x, ((![v190, v362] : Fin 2 → IVec S16 32) a x).toNat < S64x128.size a := fun v190 v362 k0_hw45 => k0_hw45.2.1
theorem k0_idx135_inb : ∀ (v190 : IVec S16 32) (v362 : IVec S16 32) (k0_hw45 : k0_chk45 v190 v362), ∀ a x, ((![v190, v362] : Fin 2 → IVec S16 32) a x).toNat < S64x128.size a := fun v190 v362 k0_hw45 => k0_hw45.2.2

def k0_chk46 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx136_inb : ∀ (v190 : IVec S16 32) (v375 : IVec S16 32) (k0_hw46 : k0_chk46 v190 v375), ∀ a x, ((![v190, v375] : Fin 2 → IVec S16 32) a x).toNat < S64x128.size a := fun v190 v375 k0_hw46 => k0_hw46.1
theorem k0_idx137_inb : ∀ (v190 : IVec S16 32) (v375 : IVec S16 32) (k0_hw46 : k0_chk46 v190 v375), ∀ a x, ((![v190, v375] : Fin 2 → IVec S16 32) a x).toNat < S64x128.size a := fun v190 v375 k0_hw46 => k0_hw46.2.1
theorem k0_idx138_inb : ∀ (v190 : IVec S16 32) (v375 : IVec S16 32) (k0_hw46 : k0_chk46 v190 v375), ∀ a x, ((![v190, v375] : Fin 2 → IVec S16 32) a x).toNat < S64x128.size a := fun v190 v375 k0_hw46 => k0_hw46.2.2

def k0_chk47 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx139_inb : ∀ (v190 : IVec S16 32) (v388 : IVec S16 32) (k0_hw47 : k0_chk47 v190 v388), ∀ a x, ((![v190, v388] : Fin 2 → IVec S16 32) a x).toNat < S64x128.size a := fun v190 v388 k0_hw47 => k0_hw47.1
theorem k0_idx140_inb : ∀ (v190 : IVec S16 32) (v388 : IVec S16 32) (k0_hw47 : k0_chk47 v190 v388), ∀ a x, ((![v190, v388] : Fin 2 → IVec S16 32) a x).toNat < S64x128.size a := fun v190 v388 k0_hw47 => k0_hw47.2.1
theorem k0_idx141_inb : ∀ (v190 : IVec S16 32) (v388 : IVec S16 32) (k0_hw47 : k0_chk47 v190 v388), ∀ a x, ((![v190, v388] : Fin 2 → IVec S16 32) a x).toNat < S64x128.size a := fun v190 v388 k0_hw47 => k0_hw47.2.2

def k0_chk48 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx142_inb : ∀ (v190 : IVec S16 32) (v401 : IVec S16 32) (k0_hw48 : k0_chk48 v190 v401), ∀ a x, ((![v190, v401] : Fin 2 → IVec S16 32) a x).toNat < S64x128.size a := fun v190 v401 k0_hw48 => k0_hw48.1
theorem k0_idx143_inb : ∀ (v190 : IVec S16 32) (v401 : IVec S16 32) (k0_hw48 : k0_chk48 v190 v401), ∀ a x, ((![v190, v401] : Fin 2 → IVec S16 32) a x).toNat < S64x128.size a := fun v190 v401 k0_hw48 => k0_hw48.2.1
theorem k0_idx144_inb : ∀ (v190 : IVec S16 32) (v401 : IVec S16 32) (k0_hw48 : k0_chk48 v190 v401), ∀ a x, ((![v190, v401] : Fin 2 → IVec S16 32) a x).toNat < S64x128.size a := fun v190 v401 k0_hw48 => k0_hw48.2.2
def k0_off4 (k0_t5 : Fin k0_t5_loop.trips) : Fin 1 → Nat :=
  let c128_i32 : BitVec 32 := 128#32
  let c0_i32_242 : BitVec 32 := 0#32
  let c0_i32_124 : BitVec 32 := 0#32
  let c1_i32_126 : BitVec 32 := 1#32
  let arg25 : BitVec 32 := Scf.iv c0_i32_124 c1_i32_126 k0_t5
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c128_i32 v197
  let v199 : Index := Scalar.indexCast v198
  ![v199.toNat]
@[reducible] def k0_t7_loop : Scf.Loop 32 :=
  let c0_i32_151 : BitVec 32 := 0#32
  let c4_i32_152 : BitVec 32 := 4#32
  let v123 : BitVec 32 := Scalar.addi c0_i32_151 c4_i32_152
  let c1_i32_153 : BitVec 32 := 1#32
  ⟨c0_i32_151, v123, c1_i32_153⟩
@[reducible] def k0_t8_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk49 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx145_inb : ∀ (v190 : IVec S16 32) (v206 : IVec S16 32) (k0_hw49 : k0_chk49 v190 v206), ∀ a x, ((![v190, v206] : Fin 2 → IVec S16 32) a x).toNat < S64x128.size a := fun v190 v206 k0_hw49 => k0_hw49.1
theorem k0_idx146_inb : ∀ (v190 : IVec S16 32) (v206 : IVec S16 32) (k0_hw49 : k0_chk49 v190 v206), ∀ a x, ((![v190, v206] : Fin 2 → IVec S16 32) a x).toNat < S64x128.size a := fun v190 v206 k0_hw49 => k0_hw49.2.1
theorem k0_idx147_inb : ∀ (v190 : IVec S16 32) (v206 : IVec S16 32) (k0_hw49 : k0_chk49 v190 v206), ∀ a x, ((![v190, v206] : Fin 2 → IVec S16 32) a x).toNat < S64x128.size a := fun v190 v206 k0_hw49 => k0_hw49.2.2

def k0_chk50 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx148_inb : ∀ (v190 : IVec S16 32) (v219 : IVec S16 32) (k0_hw50 : k0_chk50 v190 v219), ∀ a x, ((![v190, v219] : Fin 2 → IVec S16 32) a x).toNat < S64x128.size a := fun v190 v219 k0_hw50 => k0_hw50.1
theorem k0_idx149_inb : ∀ (v190 : IVec S16 32) (v219 : IVec S16 32) (k0_hw50 : k0_chk50 v190 v219), ∀ a x, ((![v190, v219] : Fin 2 → IVec S16 32) a x).toNat < S64x128.size a := fun v190 v219 k0_hw50 => k0_hw50.2.1
theorem k0_idx150_inb : ∀ (v190 : IVec S16 32) (v219 : IVec S16 32) (k0_hw50 : k0_chk50 v190 v219), ∀ a x, ((![v190, v219] : Fin 2 → IVec S16 32) a x).toNat < S64x128.size a := fun v190 v219 k0_hw50 => k0_hw50.2.2

def k0_chk51 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx151_inb : ∀ (v190 : IVec S16 32) (v232 : IVec S16 32) (k0_hw51 : k0_chk51 v190 v232), ∀ a x, ((![v190, v232] : Fin 2 → IVec S16 32) a x).toNat < S64x128.size a := fun v190 v232 k0_hw51 => k0_hw51.1
theorem k0_idx152_inb : ∀ (v190 : IVec S16 32) (v232 : IVec S16 32) (k0_hw51 : k0_chk51 v190 v232), ∀ a x, ((![v190, v232] : Fin 2 → IVec S16 32) a x).toNat < S64x128.size a := fun v190 v232 k0_hw51 => k0_hw51.2.1
theorem k0_idx153_inb : ∀ (v190 : IVec S16 32) (v232 : IVec S16 32) (k0_hw51 : k0_chk51 v190 v232), ∀ a x, ((![v190, v232] : Fin 2 → IVec S16 32) a x).toNat < S64x128.size a := fun v190 v232 k0_hw51 => k0_hw51.2.2

def k0_chk52 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx154_inb : ∀ (v190 : IVec S16 32) (v245 : IVec S16 32) (k0_hw52 : k0_chk52 v190 v245), ∀ a x, ((![v190, v245] : Fin 2 → IVec S16 32) a x).toNat < S64x128.size a := fun v190 v245 k0_hw52 => k0_hw52.1
theorem k0_idx155_inb : ∀ (v190 : IVec S16 32) (v245 : IVec S16 32) (k0_hw52 : k0_chk52 v190 v245), ∀ a x, ((![v190, v245] : Fin 2 → IVec S16 32) a x).toNat < S64x128.size a := fun v190 v245 k0_hw52 => k0_hw52.2.1
theorem k0_idx156_inb : ∀ (v190 : IVec S16 32) (v245 : IVec S16 32) (k0_hw52 : k0_chk52 v190 v245), ∀ a x, ((![v190, v245] : Fin 2 → IVec S16 32) a x).toNat < S64x128.size a := fun v190 v245 k0_hw52 => k0_hw52.2.2

def k0_chk53 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx157_inb : ∀ (v190 : IVec S16 32) (v258 : IVec S16 32) (k0_hw53 : k0_chk53 v190 v258), ∀ a x, ((![v190, v258] : Fin 2 → IVec S16 32) a x).toNat < S64x128.size a := fun v190 v258 k0_hw53 => k0_hw53.1
theorem k0_idx158_inb : ∀ (v190 : IVec S16 32) (v258 : IVec S16 32) (k0_hw53 : k0_chk53 v190 v258), ∀ a x, ((![v190, v258] : Fin 2 → IVec S16 32) a x).toNat < S64x128.size a := fun v190 v258 k0_hw53 => k0_hw53.2.1
theorem k0_idx159_inb : ∀ (v190 : IVec S16 32) (v258 : IVec S16 32) (k0_hw53 : k0_chk53 v190 v258), ∀ a x, ((![v190, v258] : Fin 2 → IVec S16 32) a x).toNat < S64x128.size a := fun v190 v258 k0_hw53 => k0_hw53.2.2

def k0_chk54 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx160_inb : ∀ (v190 : IVec S16 32) (v271 : IVec S16 32) (k0_hw54 : k0_chk54 v190 v271), ∀ a x, ((![v190, v271] : Fin 2 → IVec S16 32) a x).toNat < S64x128.size a := fun v190 v271 k0_hw54 => k0_hw54.1
theorem k0_idx161_inb : ∀ (v190 : IVec S16 32) (v271 : IVec S16 32) (k0_hw54 : k0_chk54 v190 v271), ∀ a x, ((![v190, v271] : Fin 2 → IVec S16 32) a x).toNat < S64x128.size a := fun v190 v271 k0_hw54 => k0_hw54.2.1
theorem k0_idx162_inb : ∀ (v190 : IVec S16 32) (v271 : IVec S16 32) (k0_hw54 : k0_chk54 v190 v271), ∀ a x, ((![v190, v271] : Fin 2 → IVec S16 32) a x).toNat < S64x128.size a := fun v190 v271 k0_hw54 => k0_hw54.2.2

def k0_chk55 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx163_inb : ∀ (v190 : IVec S16 32) (v284 : IVec S16 32) (k0_hw55 : k0_chk55 v190 v284), ∀ a x, ((![v190, v284] : Fin 2 → IVec S16 32) a x).toNat < S64x128.size a := fun v190 v284 k0_hw55 => k0_hw55.1
theorem k0_idx164_inb : ∀ (v190 : IVec S16 32) (v284 : IVec S16 32) (k0_hw55 : k0_chk55 v190 v284), ∀ a x, ((![v190, v284] : Fin 2 → IVec S16 32) a x).toNat < S64x128.size a := fun v190 v284 k0_hw55 => k0_hw55.2.1
theorem k0_idx165_inb : ∀ (v190 : IVec S16 32) (v284 : IVec S16 32) (k0_hw55 : k0_chk55 v190 v284), ∀ a x, ((![v190, v284] : Fin 2 → IVec S16 32) a x).toNat < S64x128.size a := fun v190 v284 k0_hw55 => k0_hw55.2.2

def k0_chk56 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx166_inb : ∀ (v190 : IVec S16 32) (v297 : IVec S16 32) (k0_hw56 : k0_chk56 v190 v297), ∀ a x, ((![v190, v297] : Fin 2 → IVec S16 32) a x).toNat < S64x128.size a := fun v190 v297 k0_hw56 => k0_hw56.1
theorem k0_idx167_inb : ∀ (v190 : IVec S16 32) (v297 : IVec S16 32) (k0_hw56 : k0_chk56 v190 v297), ∀ a x, ((![v190, v297] : Fin 2 → IVec S16 32) a x).toNat < S64x128.size a := fun v190 v297 k0_hw56 => k0_hw56.2.1
theorem k0_idx168_inb : ∀ (v190 : IVec S16 32) (v297 : IVec S16 32) (k0_hw56 : k0_chk56 v190 v297), ∀ a x, ((![v190, v297] : Fin 2 → IVec S16 32) a x).toNat < S64x128.size a := fun v190 v297 k0_hw56 => k0_hw56.2.2

def k0_chk57 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx169_inb : ∀ (v190 : IVec S16 32) (v310 : IVec S16 32) (k0_hw57 : k0_chk57 v190 v310), ∀ a x, ((![v190, v310] : Fin 2 → IVec S16 32) a x).toNat < S64x128.size a := fun v190 v310 k0_hw57 => k0_hw57.1
theorem k0_idx170_inb : ∀ (v190 : IVec S16 32) (v310 : IVec S16 32) (k0_hw57 : k0_chk57 v190 v310), ∀ a x, ((![v190, v310] : Fin 2 → IVec S16 32) a x).toNat < S64x128.size a := fun v190 v310 k0_hw57 => k0_hw57.2.1
theorem k0_idx171_inb : ∀ (v190 : IVec S16 32) (v310 : IVec S16 32) (k0_hw57 : k0_chk57 v190 v310), ∀ a x, ((![v190, v310] : Fin 2 → IVec S16 32) a x).toNat < S64x128.size a := fun v190 v310 k0_hw57 => k0_hw57.2.2

def k0_chk58 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx172_inb : ∀ (v190 : IVec S16 32) (v323 : IVec S16 32) (k0_hw58 : k0_chk58 v190 v323), ∀ a x, ((![v190, v323] : Fin 2 → IVec S16 32) a x).toNat < S64x128.size a := fun v190 v323 k0_hw58 => k0_hw58.1
theorem k0_idx173_inb : ∀ (v190 : IVec S16 32) (v323 : IVec S16 32) (k0_hw58 : k0_chk58 v190 v323), ∀ a x, ((![v190, v323] : Fin 2 → IVec S16 32) a x).toNat < S64x128.size a := fun v190 v323 k0_hw58 => k0_hw58.2.1
theorem k0_idx174_inb : ∀ (v190 : IVec S16 32) (v323 : IVec S16 32) (k0_hw58 : k0_chk58 v190 v323), ∀ a x, ((![v190, v323] : Fin 2 → IVec S16 32) a x).toNat < S64x128.size a := fun v190 v323 k0_hw58 => k0_hw58.2.2

def k0_chk59 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx175_inb : ∀ (v190 : IVec S16 32) (v336 : IVec S16 32) (k0_hw59 : k0_chk59 v190 v336), ∀ a x, ((![v190, v336] : Fin 2 → IVec S16 32) a x).toNat < S64x128.size a := fun v190 v336 k0_hw59 => k0_hw59.1
theorem k0_idx176_inb : ∀ (v190 : IVec S16 32) (v336 : IVec S16 32) (k0_hw59 : k0_chk59 v190 v336), ∀ a x, ((![v190, v336] : Fin 2 → IVec S16 32) a x).toNat < S64x128.size a := fun v190 v336 k0_hw59 => k0_hw59.2.1
theorem k0_idx177_inb : ∀ (v190 : IVec S16 32) (v336 : IVec S16 32) (k0_hw59 : k0_chk59 v190 v336), ∀ a x, ((![v190, v336] : Fin 2 → IVec S16 32) a x).toNat < S64x128.size a := fun v190 v336 k0_hw59 => k0_hw59.2.2

def k0_chk60 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx178_inb : ∀ (v190 : IVec S16 32) (v349 : IVec S16 32) (k0_hw60 : k0_chk60 v190 v349), ∀ a x, ((![v190, v349] : Fin 2 → IVec S16 32) a x).toNat < S64x128.size a := fun v190 v349 k0_hw60 => k0_hw60.1
theorem k0_idx179_inb : ∀ (v190 : IVec S16 32) (v349 : IVec S16 32) (k0_hw60 : k0_chk60 v190 v349), ∀ a x, ((![v190, v349] : Fin 2 → IVec S16 32) a x).toNat < S64x128.size a := fun v190 v349 k0_hw60 => k0_hw60.2.1
theorem k0_idx180_inb : ∀ (v190 : IVec S16 32) (v349 : IVec S16 32) (k0_hw60 : k0_chk60 v190 v349), ∀ a x, ((![v190, v349] : Fin 2 → IVec S16 32) a x).toNat < S64x128.size a := fun v190 v349 k0_hw60 => k0_hw60.2.2

def k0_chk61 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx181_inb : ∀ (v190 : IVec S16 32) (v362 : IVec S16 32) (k0_hw61 : k0_chk61 v190 v362), ∀ a x, ((![v190, v362] : Fin 2 → IVec S16 32) a x).toNat < S64x128.size a := fun v190 v362 k0_hw61 => k0_hw61.1
theorem k0_idx182_inb : ∀ (v190 : IVec S16 32) (v362 : IVec S16 32) (k0_hw61 : k0_chk61 v190 v362), ∀ a x, ((![v190, v362] : Fin 2 → IVec S16 32) a x).toNat < S64x128.size a := fun v190 v362 k0_hw61 => k0_hw61.2.1
theorem k0_idx183_inb : ∀ (v190 : IVec S16 32) (v362 : IVec S16 32) (k0_hw61 : k0_chk61 v190 v362), ∀ a x, ((![v190, v362] : Fin 2 → IVec S16 32) a x).toNat < S64x128.size a := fun v190 v362 k0_hw61 => k0_hw61.2.2

def k0_chk62 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx184_inb : ∀ (v190 : IVec S16 32) (v375 : IVec S16 32) (k0_hw62 : k0_chk62 v190 v375), ∀ a x, ((![v190, v375] : Fin 2 → IVec S16 32) a x).toNat < S64x128.size a := fun v190 v375 k0_hw62 => k0_hw62.1
theorem k0_idx185_inb : ∀ (v190 : IVec S16 32) (v375 : IVec S16 32) (k0_hw62 : k0_chk62 v190 v375), ∀ a x, ((![v190, v375] : Fin 2 → IVec S16 32) a x).toNat < S64x128.size a := fun v190 v375 k0_hw62 => k0_hw62.2.1
theorem k0_idx186_inb : ∀ (v190 : IVec S16 32) (v375 : IVec S16 32) (k0_hw62 : k0_chk62 v190 v375), ∀ a x, ((![v190, v375] : Fin 2 → IVec S16 32) a x).toNat < S64x128.size a := fun v190 v375 k0_hw62 => k0_hw62.2.2

def k0_chk63 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx187_inb : ∀ (v190 : IVec S16 32) (v388 : IVec S16 32) (k0_hw63 : k0_chk63 v190 v388), ∀ a x, ((![v190, v388] : Fin 2 → IVec S16 32) a x).toNat < S64x128.size a := fun v190 v388 k0_hw63 => k0_hw63.1
theorem k0_idx188_inb : ∀ (v190 : IVec S16 32) (v388 : IVec S16 32) (k0_hw63 : k0_chk63 v190 v388), ∀ a x, ((![v190, v388] : Fin 2 → IVec S16 32) a x).toNat < S64x128.size a := fun v190 v388 k0_hw63 => k0_hw63.2.1
theorem k0_idx189_inb : ∀ (v190 : IVec S16 32) (v388 : IVec S16 32) (k0_hw63 : k0_chk63 v190 v388), ∀ a x, ((![v190, v388] : Fin 2 → IVec S16 32) a x).toNat < S64x128.size a := fun v190 v388 k0_hw63 => k0_hw63.2.2

def k0_chk64 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx190_inb : ∀ (v190 : IVec S16 32) (v401 : IVec S16 32) (k0_hw64 : k0_chk64 v190 v401), ∀ a x, ((![v190, v401] : Fin 2 → IVec S16 32) a x).toNat < S64x128.size a := fun v190 v401 k0_hw64 => k0_hw64.1
theorem k0_idx191_inb : ∀ (v190 : IVec S16 32) (v401 : IVec S16 32) (k0_hw64 : k0_chk64 v190 v401), ∀ a x, ((![v190, v401] : Fin 2 → IVec S16 32) a x).toNat < S64x128.size a := fun v190 v401 k0_hw64 => k0_hw64.2.1
theorem k0_idx192_inb : ∀ (v190 : IVec S16 32) (v401 : IVec S16 32) (k0_hw64 : k0_chk64 v190 v401), ∀ a x, ((![v190, v401] : Fin 2 → IVec S16 32) a x).toNat < S64x128.size a := fun v190 v401 k0_hw64 => k0_hw64.2.2
def k0_off5 (k0_t7 : Fin k0_t7_loop.trips) : Fin 1 → Nat :=
  let c192_i32 : BitVec 32 := 192#32
  let c0_i32_242 : BitVec 32 := 0#32
  let c0_i32_151 : BitVec 32 := 0#32
  let c1_i32_153 : BitVec 32 := 1#32
  let arg25 : BitVec 32 := Scf.iv c0_i32_151 c1_i32_153 k0_t7
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c192_i32 v197
  let v199 : Index := Scalar.indexCast v198
  ![v199.toNat]
@[reducible] def k0_t9_loop : Scf.Loop 32 :=
  let c0_i32_178 : BitVec 32 := 0#32
  let c4_i32_179 : BitVec 32 := 4#32
  let v143 : BitVec 32 := Scalar.addi c0_i32_178 c4_i32_179
  let c1_i32_180 : BitVec 32 := 1#32
  ⟨c0_i32_178, v143, c1_i32_180⟩
@[reducible] def k0_t10_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk65 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx193_inb : ∀ (v190 : IVec S16 32) (v206 : IVec S16 32) (k0_hw65 : k0_chk65 v190 v206), ∀ a x, ((![v190, v206] : Fin 2 → IVec S16 32) a x).toNat < S64x128.size a := fun v190 v206 k0_hw65 => k0_hw65.1
theorem k0_idx194_inb : ∀ (v190 : IVec S16 32) (v206 : IVec S16 32) (k0_hw65 : k0_chk65 v190 v206), ∀ a x, ((![v190, v206] : Fin 2 → IVec S16 32) a x).toNat < S64x128.size a := fun v190 v206 k0_hw65 => k0_hw65.2.1
theorem k0_idx195_inb : ∀ (v190 : IVec S16 32) (v206 : IVec S16 32) (k0_hw65 : k0_chk65 v190 v206), ∀ a x, ((![v190, v206] : Fin 2 → IVec S16 32) a x).toNat < S64x128.size a := fun v190 v206 k0_hw65 => k0_hw65.2.2

def k0_chk66 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx196_inb : ∀ (v190 : IVec S16 32) (v219 : IVec S16 32) (k0_hw66 : k0_chk66 v190 v219), ∀ a x, ((![v190, v219] : Fin 2 → IVec S16 32) a x).toNat < S64x128.size a := fun v190 v219 k0_hw66 => k0_hw66.1
theorem k0_idx197_inb : ∀ (v190 : IVec S16 32) (v219 : IVec S16 32) (k0_hw66 : k0_chk66 v190 v219), ∀ a x, ((![v190, v219] : Fin 2 → IVec S16 32) a x).toNat < S64x128.size a := fun v190 v219 k0_hw66 => k0_hw66.2.1
theorem k0_idx198_inb : ∀ (v190 : IVec S16 32) (v219 : IVec S16 32) (k0_hw66 : k0_chk66 v190 v219), ∀ a x, ((![v190, v219] : Fin 2 → IVec S16 32) a x).toNat < S64x128.size a := fun v190 v219 k0_hw66 => k0_hw66.2.2

def k0_chk67 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx199_inb : ∀ (v190 : IVec S16 32) (v232 : IVec S16 32) (k0_hw67 : k0_chk67 v190 v232), ∀ a x, ((![v190, v232] : Fin 2 → IVec S16 32) a x).toNat < S64x128.size a := fun v190 v232 k0_hw67 => k0_hw67.1
theorem k0_idx200_inb : ∀ (v190 : IVec S16 32) (v232 : IVec S16 32) (k0_hw67 : k0_chk67 v190 v232), ∀ a x, ((![v190, v232] : Fin 2 → IVec S16 32) a x).toNat < S64x128.size a := fun v190 v232 k0_hw67 => k0_hw67.2.1
theorem k0_idx201_inb : ∀ (v190 : IVec S16 32) (v232 : IVec S16 32) (k0_hw67 : k0_chk67 v190 v232), ∀ a x, ((![v190, v232] : Fin 2 → IVec S16 32) a x).toNat < S64x128.size a := fun v190 v232 k0_hw67 => k0_hw67.2.2

def k0_chk68 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx202_inb : ∀ (v190 : IVec S16 32) (v245 : IVec S16 32) (k0_hw68 : k0_chk68 v190 v245), ∀ a x, ((![v190, v245] : Fin 2 → IVec S16 32) a x).toNat < S64x128.size a := fun v190 v245 k0_hw68 => k0_hw68.1
theorem k0_idx203_inb : ∀ (v190 : IVec S16 32) (v245 : IVec S16 32) (k0_hw68 : k0_chk68 v190 v245), ∀ a x, ((![v190, v245] : Fin 2 → IVec S16 32) a x).toNat < S64x128.size a := fun v190 v245 k0_hw68 => k0_hw68.2.1
theorem k0_idx204_inb : ∀ (v190 : IVec S16 32) (v245 : IVec S16 32) (k0_hw68 : k0_chk68 v190 v245), ∀ a x, ((![v190, v245] : Fin 2 → IVec S16 32) a x).toNat < S64x128.size a := fun v190 v245 k0_hw68 => k0_hw68.2.2

def k0_chk69 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx205_inb : ∀ (v190 : IVec S16 32) (v258 : IVec S16 32) (k0_hw69 : k0_chk69 v190 v258), ∀ a x, ((![v190, v258] : Fin 2 → IVec S16 32) a x).toNat < S64x128.size a := fun v190 v258 k0_hw69 => k0_hw69.1
theorem k0_idx206_inb : ∀ (v190 : IVec S16 32) (v258 : IVec S16 32) (k0_hw69 : k0_chk69 v190 v258), ∀ a x, ((![v190, v258] : Fin 2 → IVec S16 32) a x).toNat < S64x128.size a := fun v190 v258 k0_hw69 => k0_hw69.2.1
theorem k0_idx207_inb : ∀ (v190 : IVec S16 32) (v258 : IVec S16 32) (k0_hw69 : k0_chk69 v190 v258), ∀ a x, ((![v190, v258] : Fin 2 → IVec S16 32) a x).toNat < S64x128.size a := fun v190 v258 k0_hw69 => k0_hw69.2.2

def k0_chk70 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx208_inb : ∀ (v190 : IVec S16 32) (v271 : IVec S16 32) (k0_hw70 : k0_chk70 v190 v271), ∀ a x, ((![v190, v271] : Fin 2 → IVec S16 32) a x).toNat < S64x128.size a := fun v190 v271 k0_hw70 => k0_hw70.1
theorem k0_idx209_inb : ∀ (v190 : IVec S16 32) (v271 : IVec S16 32) (k0_hw70 : k0_chk70 v190 v271), ∀ a x, ((![v190, v271] : Fin 2 → IVec S16 32) a x).toNat < S64x128.size a := fun v190 v271 k0_hw70 => k0_hw70.2.1
theorem k0_idx210_inb : ∀ (v190 : IVec S16 32) (v271 : IVec S16 32) (k0_hw70 : k0_chk70 v190 v271), ∀ a x, ((![v190, v271] : Fin 2 → IVec S16 32) a x).toNat < S64x128.size a := fun v190 v271 k0_hw70 => k0_hw70.2.2

def k0_chk71 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx211_inb : ∀ (v190 : IVec S16 32) (v284 : IVec S16 32) (k0_hw71 : k0_chk71 v190 v284), ∀ a x, ((![v190, v284] : Fin 2 → IVec S16 32) a x).toNat < S64x128.size a := fun v190 v284 k0_hw71 => k0_hw71.1
theorem k0_idx212_inb : ∀ (v190 : IVec S16 32) (v284 : IVec S16 32) (k0_hw71 : k0_chk71 v190 v284), ∀ a x, ((![v190, v284] : Fin 2 → IVec S16 32) a x).toNat < S64x128.size a := fun v190 v284 k0_hw71 => k0_hw71.2.1
theorem k0_idx213_inb : ∀ (v190 : IVec S16 32) (v284 : IVec S16 32) (k0_hw71 : k0_chk71 v190 v284), ∀ a x, ((![v190, v284] : Fin 2 → IVec S16 32) a x).toNat < S64x128.size a := fun v190 v284 k0_hw71 => k0_hw71.2.2

def k0_chk72 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx214_inb : ∀ (v190 : IVec S16 32) (v297 : IVec S16 32) (k0_hw72 : k0_chk72 v190 v297), ∀ a x, ((![v190, v297] : Fin 2 → IVec S16 32) a x).toNat < S64x128.size a := fun v190 v297 k0_hw72 => k0_hw72.1
theorem k0_idx215_inb : ∀ (v190 : IVec S16 32) (v297 : IVec S16 32) (k0_hw72 : k0_chk72 v190 v297), ∀ a x, ((![v190, v297] : Fin 2 → IVec S16 32) a x).toNat < S64x128.size a := fun v190 v297 k0_hw72 => k0_hw72.2.1
theorem k0_idx216_inb : ∀ (v190 : IVec S16 32) (v297 : IVec S16 32) (k0_hw72 : k0_chk72 v190 v297), ∀ a x, ((![v190, v297] : Fin 2 → IVec S16 32) a x).toNat < S64x128.size a := fun v190 v297 k0_hw72 => k0_hw72.2.2

def k0_chk73 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx217_inb : ∀ (v190 : IVec S16 32) (v310 : IVec S16 32) (k0_hw73 : k0_chk73 v190 v310), ∀ a x, ((![v190, v310] : Fin 2 → IVec S16 32) a x).toNat < S64x128.size a := fun v190 v310 k0_hw73 => k0_hw73.1
theorem k0_idx218_inb : ∀ (v190 : IVec S16 32) (v310 : IVec S16 32) (k0_hw73 : k0_chk73 v190 v310), ∀ a x, ((![v190, v310] : Fin 2 → IVec S16 32) a x).toNat < S64x128.size a := fun v190 v310 k0_hw73 => k0_hw73.2.1
theorem k0_idx219_inb : ∀ (v190 : IVec S16 32) (v310 : IVec S16 32) (k0_hw73 : k0_chk73 v190 v310), ∀ a x, ((![v190, v310] : Fin 2 → IVec S16 32) a x).toNat < S64x128.size a := fun v190 v310 k0_hw73 => k0_hw73.2.2

def k0_chk74 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx220_inb : ∀ (v190 : IVec S16 32) (v323 : IVec S16 32) (k0_hw74 : k0_chk74 v190 v323), ∀ a x, ((![v190, v323] : Fin 2 → IVec S16 32) a x).toNat < S64x128.size a := fun v190 v323 k0_hw74 => k0_hw74.1
theorem k0_idx221_inb : ∀ (v190 : IVec S16 32) (v323 : IVec S16 32) (k0_hw74 : k0_chk74 v190 v323), ∀ a x, ((![v190, v323] : Fin 2 → IVec S16 32) a x).toNat < S64x128.size a := fun v190 v323 k0_hw74 => k0_hw74.2.1
theorem k0_idx222_inb : ∀ (v190 : IVec S16 32) (v323 : IVec S16 32) (k0_hw74 : k0_chk74 v190 v323), ∀ a x, ((![v190, v323] : Fin 2 → IVec S16 32) a x).toNat < S64x128.size a := fun v190 v323 k0_hw74 => k0_hw74.2.2

def k0_chk75 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx223_inb : ∀ (v190 : IVec S16 32) (v336 : IVec S16 32) (k0_hw75 : k0_chk75 v190 v336), ∀ a x, ((![v190, v336] : Fin 2 → IVec S16 32) a x).toNat < S64x128.size a := fun v190 v336 k0_hw75 => k0_hw75.1
theorem k0_idx224_inb : ∀ (v190 : IVec S16 32) (v336 : IVec S16 32) (k0_hw75 : k0_chk75 v190 v336), ∀ a x, ((![v190, v336] : Fin 2 → IVec S16 32) a x).toNat < S64x128.size a := fun v190 v336 k0_hw75 => k0_hw75.2.1
theorem k0_idx225_inb : ∀ (v190 : IVec S16 32) (v336 : IVec S16 32) (k0_hw75 : k0_chk75 v190 v336), ∀ a x, ((![v190, v336] : Fin 2 → IVec S16 32) a x).toNat < S64x128.size a := fun v190 v336 k0_hw75 => k0_hw75.2.2

def k0_chk76 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx226_inb : ∀ (v190 : IVec S16 32) (v349 : IVec S16 32) (k0_hw76 : k0_chk76 v190 v349), ∀ a x, ((![v190, v349] : Fin 2 → IVec S16 32) a x).toNat < S64x128.size a := fun v190 v349 k0_hw76 => k0_hw76.1
theorem k0_idx227_inb : ∀ (v190 : IVec S16 32) (v349 : IVec S16 32) (k0_hw76 : k0_chk76 v190 v349), ∀ a x, ((![v190, v349] : Fin 2 → IVec S16 32) a x).toNat < S64x128.size a := fun v190 v349 k0_hw76 => k0_hw76.2.1
theorem k0_idx228_inb : ∀ (v190 : IVec S16 32) (v349 : IVec S16 32) (k0_hw76 : k0_chk76 v190 v349), ∀ a x, ((![v190, v349] : Fin 2 → IVec S16 32) a x).toNat < S64x128.size a := fun v190 v349 k0_hw76 => k0_hw76.2.2

def k0_chk77 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx229_inb : ∀ (v190 : IVec S16 32) (v362 : IVec S16 32) (k0_hw77 : k0_chk77 v190 v362), ∀ a x, ((![v190, v362] : Fin 2 → IVec S16 32) a x).toNat < S64x128.size a := fun v190 v362 k0_hw77 => k0_hw77.1
theorem k0_idx230_inb : ∀ (v190 : IVec S16 32) (v362 : IVec S16 32) (k0_hw77 : k0_chk77 v190 v362), ∀ a x, ((![v190, v362] : Fin 2 → IVec S16 32) a x).toNat < S64x128.size a := fun v190 v362 k0_hw77 => k0_hw77.2.1
theorem k0_idx231_inb : ∀ (v190 : IVec S16 32) (v362 : IVec S16 32) (k0_hw77 : k0_chk77 v190 v362), ∀ a x, ((![v190, v362] : Fin 2 → IVec S16 32) a x).toNat < S64x128.size a := fun v190 v362 k0_hw77 => k0_hw77.2.2

def k0_chk78 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx232_inb : ∀ (v190 : IVec S16 32) (v375 : IVec S16 32) (k0_hw78 : k0_chk78 v190 v375), ∀ a x, ((![v190, v375] : Fin 2 → IVec S16 32) a x).toNat < S64x128.size a := fun v190 v375 k0_hw78 => k0_hw78.1
theorem k0_idx233_inb : ∀ (v190 : IVec S16 32) (v375 : IVec S16 32) (k0_hw78 : k0_chk78 v190 v375), ∀ a x, ((![v190, v375] : Fin 2 → IVec S16 32) a x).toNat < S64x128.size a := fun v190 v375 k0_hw78 => k0_hw78.2.1
theorem k0_idx234_inb : ∀ (v190 : IVec S16 32) (v375 : IVec S16 32) (k0_hw78 : k0_chk78 v190 v375), ∀ a x, ((![v190, v375] : Fin 2 → IVec S16 32) a x).toNat < S64x128.size a := fun v190 v375 k0_hw78 => k0_hw78.2.2

def k0_chk79 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx235_inb : ∀ (v190 : IVec S16 32) (v388 : IVec S16 32) (k0_hw79 : k0_chk79 v190 v388), ∀ a x, ((![v190, v388] : Fin 2 → IVec S16 32) a x).toNat < S64x128.size a := fun v190 v388 k0_hw79 => k0_hw79.1
theorem k0_idx236_inb : ∀ (v190 : IVec S16 32) (v388 : IVec S16 32) (k0_hw79 : k0_chk79 v190 v388), ∀ a x, ((![v190, v388] : Fin 2 → IVec S16 32) a x).toNat < S64x128.size a := fun v190 v388 k0_hw79 => k0_hw79.2.1
theorem k0_idx237_inb : ∀ (v190 : IVec S16 32) (v388 : IVec S16 32) (k0_hw79 : k0_chk79 v190 v388), ∀ a x, ((![v190, v388] : Fin 2 → IVec S16 32) a x).toNat < S64x128.size a := fun v190 v388 k0_hw79 => k0_hw79.2.2

def k0_chk80 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx238_inb : ∀ (v190 : IVec S16 32) (v401 : IVec S16 32) (k0_hw80 : k0_chk80 v190 v401), ∀ a x, ((![v190, v401] : Fin 2 → IVec S16 32) a x).toNat < S64x128.size a := fun v190 v401 k0_hw80 => k0_hw80.1
theorem k0_idx239_inb : ∀ (v190 : IVec S16 32) (v401 : IVec S16 32) (k0_hw80 : k0_chk80 v190 v401), ∀ a x, ((![v190, v401] : Fin 2 → IVec S16 32) a x).toNat < S64x128.size a := fun v190 v401 k0_hw80 => k0_hw80.2.1
theorem k0_idx240_inb : ∀ (v190 : IVec S16 32) (v401 : IVec S16 32) (k0_hw80 : k0_chk80 v190 v401), ∀ a x, ((![v190, v401] : Fin 2 → IVec S16 32) a x).toNat < S64x128.size a := fun v190 v401 k0_hw80 => k0_hw80.2.2
def k0_off6 (k0_t9 : Fin k0_t9_loop.trips) : Fin 1 → Nat :=
  let c256_i32 : BitVec 32 := 256#32
  let c0_i32_242 : BitVec 32 := 0#32
  let c0_i32_178 : BitVec 32 := 0#32
  let c1_i32_180 : BitVec 32 := 1#32
  let arg25 : BitVec 32 := Scf.iv c0_i32_178 c1_i32_180 k0_t9
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c256_i32 v197
  let v199 : Index := Scalar.indexCast v198
  ![v199.toNat]
@[reducible] def k0_t11_loop : Scf.Loop 32 :=
  let c0_i32_205 : BitVec 32 := 0#32
  let c4_i32_206 : BitVec 32 := 4#32
  let v163 : BitVec 32 := Scalar.addi c0_i32_205 c4_i32_206
  let c1_i32_207 : BitVec 32 := 1#32
  ⟨c0_i32_205, v163, c1_i32_207⟩
@[reducible] def k0_t12_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk81 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx241_inb : ∀ (v190 : IVec S16 32) (v206 : IVec S16 32) (k0_hw81 : k0_chk81 v190 v206), ∀ a x, ((![v190, v206] : Fin 2 → IVec S16 32) a x).toNat < S64x128.size a := fun v190 v206 k0_hw81 => k0_hw81.1
theorem k0_idx242_inb : ∀ (v190 : IVec S16 32) (v206 : IVec S16 32) (k0_hw81 : k0_chk81 v190 v206), ∀ a x, ((![v190, v206] : Fin 2 → IVec S16 32) a x).toNat < S64x128.size a := fun v190 v206 k0_hw81 => k0_hw81.2.1
theorem k0_idx243_inb : ∀ (v190 : IVec S16 32) (v206 : IVec S16 32) (k0_hw81 : k0_chk81 v190 v206), ∀ a x, ((![v190, v206] : Fin 2 → IVec S16 32) a x).toNat < S64x128.size a := fun v190 v206 k0_hw81 => k0_hw81.2.2

def k0_chk82 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx244_inb : ∀ (v190 : IVec S16 32) (v219 : IVec S16 32) (k0_hw82 : k0_chk82 v190 v219), ∀ a x, ((![v190, v219] : Fin 2 → IVec S16 32) a x).toNat < S64x128.size a := fun v190 v219 k0_hw82 => k0_hw82.1
theorem k0_idx245_inb : ∀ (v190 : IVec S16 32) (v219 : IVec S16 32) (k0_hw82 : k0_chk82 v190 v219), ∀ a x, ((![v190, v219] : Fin 2 → IVec S16 32) a x).toNat < S64x128.size a := fun v190 v219 k0_hw82 => k0_hw82.2.1
theorem k0_idx246_inb : ∀ (v190 : IVec S16 32) (v219 : IVec S16 32) (k0_hw82 : k0_chk82 v190 v219), ∀ a x, ((![v190, v219] : Fin 2 → IVec S16 32) a x).toNat < S64x128.size a := fun v190 v219 k0_hw82 => k0_hw82.2.2

def k0_chk83 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx247_inb : ∀ (v190 : IVec S16 32) (v232 : IVec S16 32) (k0_hw83 : k0_chk83 v190 v232), ∀ a x, ((![v190, v232] : Fin 2 → IVec S16 32) a x).toNat < S64x128.size a := fun v190 v232 k0_hw83 => k0_hw83.1
theorem k0_idx248_inb : ∀ (v190 : IVec S16 32) (v232 : IVec S16 32) (k0_hw83 : k0_chk83 v190 v232), ∀ a x, ((![v190, v232] : Fin 2 → IVec S16 32) a x).toNat < S64x128.size a := fun v190 v232 k0_hw83 => k0_hw83.2.1
theorem k0_idx249_inb : ∀ (v190 : IVec S16 32) (v232 : IVec S16 32) (k0_hw83 : k0_chk83 v190 v232), ∀ a x, ((![v190, v232] : Fin 2 → IVec S16 32) a x).toNat < S64x128.size a := fun v190 v232 k0_hw83 => k0_hw83.2.2

def k0_chk84 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx250_inb : ∀ (v190 : IVec S16 32) (v245 : IVec S16 32) (k0_hw84 : k0_chk84 v190 v245), ∀ a x, ((![v190, v245] : Fin 2 → IVec S16 32) a x).toNat < S64x128.size a := fun v190 v245 k0_hw84 => k0_hw84.1
theorem k0_idx251_inb : ∀ (v190 : IVec S16 32) (v245 : IVec S16 32) (k0_hw84 : k0_chk84 v190 v245), ∀ a x, ((![v190, v245] : Fin 2 → IVec S16 32) a x).toNat < S64x128.size a := fun v190 v245 k0_hw84 => k0_hw84.2.1
theorem k0_idx252_inb : ∀ (v190 : IVec S16 32) (v245 : IVec S16 32) (k0_hw84 : k0_chk84 v190 v245), ∀ a x, ((![v190, v245] : Fin 2 → IVec S16 32) a x).toNat < S64x128.size a := fun v190 v245 k0_hw84 => k0_hw84.2.2

def k0_chk85 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx253_inb : ∀ (v190 : IVec S16 32) (v258 : IVec S16 32) (k0_hw85 : k0_chk85 v190 v258), ∀ a x, ((![v190, v258] : Fin 2 → IVec S16 32) a x).toNat < S64x128.size a := fun v190 v258 k0_hw85 => k0_hw85.1
theorem k0_idx254_inb : ∀ (v190 : IVec S16 32) (v258 : IVec S16 32) (k0_hw85 : k0_chk85 v190 v258), ∀ a x, ((![v190, v258] : Fin 2 → IVec S16 32) a x).toNat < S64x128.size a := fun v190 v258 k0_hw85 => k0_hw85.2.1
theorem k0_idx255_inb : ∀ (v190 : IVec S16 32) (v258 : IVec S16 32) (k0_hw85 : k0_chk85 v190 v258), ∀ a x, ((![v190, v258] : Fin 2 → IVec S16 32) a x).toNat < S64x128.size a := fun v190 v258 k0_hw85 => k0_hw85.2.2

def k0_chk86 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx256_inb : ∀ (v190 : IVec S16 32) (v271 : IVec S16 32) (k0_hw86 : k0_chk86 v190 v271), ∀ a x, ((![v190, v271] : Fin 2 → IVec S16 32) a x).toNat < S64x128.size a := fun v190 v271 k0_hw86 => k0_hw86.1
theorem k0_idx257_inb : ∀ (v190 : IVec S16 32) (v271 : IVec S16 32) (k0_hw86 : k0_chk86 v190 v271), ∀ a x, ((![v190, v271] : Fin 2 → IVec S16 32) a x).toNat < S64x128.size a := fun v190 v271 k0_hw86 => k0_hw86.2.1
theorem k0_idx258_inb : ∀ (v190 : IVec S16 32) (v271 : IVec S16 32) (k0_hw86 : k0_chk86 v190 v271), ∀ a x, ((![v190, v271] : Fin 2 → IVec S16 32) a x).toNat < S64x128.size a := fun v190 v271 k0_hw86 => k0_hw86.2.2

def k0_chk87 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx259_inb : ∀ (v190 : IVec S16 32) (v284 : IVec S16 32) (k0_hw87 : k0_chk87 v190 v284), ∀ a x, ((![v190, v284] : Fin 2 → IVec S16 32) a x).toNat < S64x128.size a := fun v190 v284 k0_hw87 => k0_hw87.1
theorem k0_idx260_inb : ∀ (v190 : IVec S16 32) (v284 : IVec S16 32) (k0_hw87 : k0_chk87 v190 v284), ∀ a x, ((![v190, v284] : Fin 2 → IVec S16 32) a x).toNat < S64x128.size a := fun v190 v284 k0_hw87 => k0_hw87.2.1
theorem k0_idx261_inb : ∀ (v190 : IVec S16 32) (v284 : IVec S16 32) (k0_hw87 : k0_chk87 v190 v284), ∀ a x, ((![v190, v284] : Fin 2 → IVec S16 32) a x).toNat < S64x128.size a := fun v190 v284 k0_hw87 => k0_hw87.2.2

def k0_chk88 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx262_inb : ∀ (v190 : IVec S16 32) (v297 : IVec S16 32) (k0_hw88 : k0_chk88 v190 v297), ∀ a x, ((![v190, v297] : Fin 2 → IVec S16 32) a x).toNat < S64x128.size a := fun v190 v297 k0_hw88 => k0_hw88.1
theorem k0_idx263_inb : ∀ (v190 : IVec S16 32) (v297 : IVec S16 32) (k0_hw88 : k0_chk88 v190 v297), ∀ a x, ((![v190, v297] : Fin 2 → IVec S16 32) a x).toNat < S64x128.size a := fun v190 v297 k0_hw88 => k0_hw88.2.1
theorem k0_idx264_inb : ∀ (v190 : IVec S16 32) (v297 : IVec S16 32) (k0_hw88 : k0_chk88 v190 v297), ∀ a x, ((![v190, v297] : Fin 2 → IVec S16 32) a x).toNat < S64x128.size a := fun v190 v297 k0_hw88 => k0_hw88.2.2

def k0_chk89 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx265_inb : ∀ (v190 : IVec S16 32) (v310 : IVec S16 32) (k0_hw89 : k0_chk89 v190 v310), ∀ a x, ((![v190, v310] : Fin 2 → IVec S16 32) a x).toNat < S64x128.size a := fun v190 v310 k0_hw89 => k0_hw89.1
theorem k0_idx266_inb : ∀ (v190 : IVec S16 32) (v310 : IVec S16 32) (k0_hw89 : k0_chk89 v190 v310), ∀ a x, ((![v190, v310] : Fin 2 → IVec S16 32) a x).toNat < S64x128.size a := fun v190 v310 k0_hw89 => k0_hw89.2.1
theorem k0_idx267_inb : ∀ (v190 : IVec S16 32) (v310 : IVec S16 32) (k0_hw89 : k0_chk89 v190 v310), ∀ a x, ((![v190, v310] : Fin 2 → IVec S16 32) a x).toNat < S64x128.size a := fun v190 v310 k0_hw89 => k0_hw89.2.2

def k0_chk90 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx268_inb : ∀ (v190 : IVec S16 32) (v323 : IVec S16 32) (k0_hw90 : k0_chk90 v190 v323), ∀ a x, ((![v190, v323] : Fin 2 → IVec S16 32) a x).toNat < S64x128.size a := fun v190 v323 k0_hw90 => k0_hw90.1
theorem k0_idx269_inb : ∀ (v190 : IVec S16 32) (v323 : IVec S16 32) (k0_hw90 : k0_chk90 v190 v323), ∀ a x, ((![v190, v323] : Fin 2 → IVec S16 32) a x).toNat < S64x128.size a := fun v190 v323 k0_hw90 => k0_hw90.2.1
theorem k0_idx270_inb : ∀ (v190 : IVec S16 32) (v323 : IVec S16 32) (k0_hw90 : k0_chk90 v190 v323), ∀ a x, ((![v190, v323] : Fin 2 → IVec S16 32) a x).toNat < S64x128.size a := fun v190 v323 k0_hw90 => k0_hw90.2.2

def k0_chk91 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx271_inb : ∀ (v190 : IVec S16 32) (v336 : IVec S16 32) (k0_hw91 : k0_chk91 v190 v336), ∀ a x, ((![v190, v336] : Fin 2 → IVec S16 32) a x).toNat < S64x128.size a := fun v190 v336 k0_hw91 => k0_hw91.1
theorem k0_idx272_inb : ∀ (v190 : IVec S16 32) (v336 : IVec S16 32) (k0_hw91 : k0_chk91 v190 v336), ∀ a x, ((![v190, v336] : Fin 2 → IVec S16 32) a x).toNat < S64x128.size a := fun v190 v336 k0_hw91 => k0_hw91.2.1
theorem k0_idx273_inb : ∀ (v190 : IVec S16 32) (v336 : IVec S16 32) (k0_hw91 : k0_chk91 v190 v336), ∀ a x, ((![v190, v336] : Fin 2 → IVec S16 32) a x).toNat < S64x128.size a := fun v190 v336 k0_hw91 => k0_hw91.2.2

def k0_chk92 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx274_inb : ∀ (v190 : IVec S16 32) (v349 : IVec S16 32) (k0_hw92 : k0_chk92 v190 v349), ∀ a x, ((![v190, v349] : Fin 2 → IVec S16 32) a x).toNat < S64x128.size a := fun v190 v349 k0_hw92 => k0_hw92.1
theorem k0_idx275_inb : ∀ (v190 : IVec S16 32) (v349 : IVec S16 32) (k0_hw92 : k0_chk92 v190 v349), ∀ a x, ((![v190, v349] : Fin 2 → IVec S16 32) a x).toNat < S64x128.size a := fun v190 v349 k0_hw92 => k0_hw92.2.1
theorem k0_idx276_inb : ∀ (v190 : IVec S16 32) (v349 : IVec S16 32) (k0_hw92 : k0_chk92 v190 v349), ∀ a x, ((![v190, v349] : Fin 2 → IVec S16 32) a x).toNat < S64x128.size a := fun v190 v349 k0_hw92 => k0_hw92.2.2

def k0_chk93 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx277_inb : ∀ (v190 : IVec S16 32) (v362 : IVec S16 32) (k0_hw93 : k0_chk93 v190 v362), ∀ a x, ((![v190, v362] : Fin 2 → IVec S16 32) a x).toNat < S64x128.size a := fun v190 v362 k0_hw93 => k0_hw93.1
theorem k0_idx278_inb : ∀ (v190 : IVec S16 32) (v362 : IVec S16 32) (k0_hw93 : k0_chk93 v190 v362), ∀ a x, ((![v190, v362] : Fin 2 → IVec S16 32) a x).toNat < S64x128.size a := fun v190 v362 k0_hw93 => k0_hw93.2.1
theorem k0_idx279_inb : ∀ (v190 : IVec S16 32) (v362 : IVec S16 32) (k0_hw93 : k0_chk93 v190 v362), ∀ a x, ((![v190, v362] : Fin 2 → IVec S16 32) a x).toNat < S64x128.size a := fun v190 v362 k0_hw93 => k0_hw93.2.2

def k0_chk94 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx280_inb : ∀ (v190 : IVec S16 32) (v375 : IVec S16 32) (k0_hw94 : k0_chk94 v190 v375), ∀ a x, ((![v190, v375] : Fin 2 → IVec S16 32) a x).toNat < S64x128.size a := fun v190 v375 k0_hw94 => k0_hw94.1
theorem k0_idx281_inb : ∀ (v190 : IVec S16 32) (v375 : IVec S16 32) (k0_hw94 : k0_chk94 v190 v375), ∀ a x, ((![v190, v375] : Fin 2 → IVec S16 32) a x).toNat < S64x128.size a := fun v190 v375 k0_hw94 => k0_hw94.2.1
theorem k0_idx282_inb : ∀ (v190 : IVec S16 32) (v375 : IVec S16 32) (k0_hw94 : k0_chk94 v190 v375), ∀ a x, ((![v190, v375] : Fin 2 → IVec S16 32) a x).toNat < S64x128.size a := fun v190 v375 k0_hw94 => k0_hw94.2.2

def k0_chk95 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx283_inb : ∀ (v190 : IVec S16 32) (v388 : IVec S16 32) (k0_hw95 : k0_chk95 v190 v388), ∀ a x, ((![v190, v388] : Fin 2 → IVec S16 32) a x).toNat < S64x128.size a := fun v190 v388 k0_hw95 => k0_hw95.1
theorem k0_idx284_inb : ∀ (v190 : IVec S16 32) (v388 : IVec S16 32) (k0_hw95 : k0_chk95 v190 v388), ∀ a x, ((![v190, v388] : Fin 2 → IVec S16 32) a x).toNat < S64x128.size a := fun v190 v388 k0_hw95 => k0_hw95.2.1
theorem k0_idx285_inb : ∀ (v190 : IVec S16 32) (v388 : IVec S16 32) (k0_hw95 : k0_chk95 v190 v388), ∀ a x, ((![v190, v388] : Fin 2 → IVec S16 32) a x).toNat < S64x128.size a := fun v190 v388 k0_hw95 => k0_hw95.2.2

def k0_chk96 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx286_inb : ∀ (v190 : IVec S16 32) (v401 : IVec S16 32) (k0_hw96 : k0_chk96 v190 v401), ∀ a x, ((![v190, v401] : Fin 2 → IVec S16 32) a x).toNat < S64x128.size a := fun v190 v401 k0_hw96 => k0_hw96.1
theorem k0_idx287_inb : ∀ (v190 : IVec S16 32) (v401 : IVec S16 32) (k0_hw96 : k0_chk96 v190 v401), ∀ a x, ((![v190, v401] : Fin 2 → IVec S16 32) a x).toNat < S64x128.size a := fun v190 v401 k0_hw96 => k0_hw96.2.1
theorem k0_idx288_inb : ∀ (v190 : IVec S16 32) (v401 : IVec S16 32) (k0_hw96 : k0_chk96 v190 v401), ∀ a x, ((![v190, v401] : Fin 2 → IVec S16 32) a x).toNat < S64x128.size a := fun v190 v401 k0_hw96 => k0_hw96.2.2
def k0_off7 (k0_t11 : Fin k0_t11_loop.trips) : Fin 1 → Nat :=
  let c320_i32 : BitVec 32 := 320#32
  let c0_i32_242 : BitVec 32 := 0#32
  let c0_i32_205 : BitVec 32 := 0#32
  let c1_i32_207 : BitVec 32 := 1#32
  let arg25 : BitVec 32 := Scf.iv c0_i32_205 c1_i32_207 k0_t11
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c320_i32 v197
  let v199 : Index := Scalar.indexCast v198
  ![v199.toNat]
@[reducible] def k0_t13_loop : Scf.Loop 32 :=
  let c0_i32_221 : BitVec 32 := 0#32
  let c4_i32_222 : BitVec 32 := 4#32
  let v174 : BitVec 32 := Scalar.addi c0_i32_221 c4_i32_222
  let c1_i32_223 : BitVec 32 := 1#32
  ⟨c0_i32_221, v174, c1_i32_223⟩
@[reducible] def k0_t14_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk97 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx289_inb : ∀ (v190 : IVec S16 32) (v206 : IVec S16 32) (k0_hw97 : k0_chk97 v190 v206), ∀ a x, ((![v190, v206] : Fin 2 → IVec S16 32) a x).toNat < S64x128.size a := fun v190 v206 k0_hw97 => k0_hw97.1
theorem k0_idx290_inb : ∀ (v190 : IVec S16 32) (v206 : IVec S16 32) (k0_hw97 : k0_chk97 v190 v206), ∀ a x, ((![v190, v206] : Fin 2 → IVec S16 32) a x).toNat < S64x128.size a := fun v190 v206 k0_hw97 => k0_hw97.2.1
theorem k0_idx291_inb : ∀ (v190 : IVec S16 32) (v206 : IVec S16 32) (k0_hw97 : k0_chk97 v190 v206), ∀ a x, ((![v190, v206] : Fin 2 → IVec S16 32) a x).toNat < S64x128.size a := fun v190 v206 k0_hw97 => k0_hw97.2.2

def k0_chk98 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx292_inb : ∀ (v190 : IVec S16 32) (v219 : IVec S16 32) (k0_hw98 : k0_chk98 v190 v219), ∀ a x, ((![v190, v219] : Fin 2 → IVec S16 32) a x).toNat < S64x128.size a := fun v190 v219 k0_hw98 => k0_hw98.1
theorem k0_idx293_inb : ∀ (v190 : IVec S16 32) (v219 : IVec S16 32) (k0_hw98 : k0_chk98 v190 v219), ∀ a x, ((![v190, v219] : Fin 2 → IVec S16 32) a x).toNat < S64x128.size a := fun v190 v219 k0_hw98 => k0_hw98.2.1
theorem k0_idx294_inb : ∀ (v190 : IVec S16 32) (v219 : IVec S16 32) (k0_hw98 : k0_chk98 v190 v219), ∀ a x, ((![v190, v219] : Fin 2 → IVec S16 32) a x).toNat < S64x128.size a := fun v190 v219 k0_hw98 => k0_hw98.2.2

def k0_chk99 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx295_inb : ∀ (v190 : IVec S16 32) (v232 : IVec S16 32) (k0_hw99 : k0_chk99 v190 v232), ∀ a x, ((![v190, v232] : Fin 2 → IVec S16 32) a x).toNat < S64x128.size a := fun v190 v232 k0_hw99 => k0_hw99.1
theorem k0_idx296_inb : ∀ (v190 : IVec S16 32) (v232 : IVec S16 32) (k0_hw99 : k0_chk99 v190 v232), ∀ a x, ((![v190, v232] : Fin 2 → IVec S16 32) a x).toNat < S64x128.size a := fun v190 v232 k0_hw99 => k0_hw99.2.1
theorem k0_idx297_inb : ∀ (v190 : IVec S16 32) (v232 : IVec S16 32) (k0_hw99 : k0_chk99 v190 v232), ∀ a x, ((![v190, v232] : Fin 2 → IVec S16 32) a x).toNat < S64x128.size a := fun v190 v232 k0_hw99 => k0_hw99.2.2

def k0_chk100 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx298_inb : ∀ (v190 : IVec S16 32) (v245 : IVec S16 32) (k0_hw100 : k0_chk100 v190 v245), ∀ a x, ((![v190, v245] : Fin 2 → IVec S16 32) a x).toNat < S64x128.size a := fun v190 v245 k0_hw100 => k0_hw100.1
theorem k0_idx299_inb : ∀ (v190 : IVec S16 32) (v245 : IVec S16 32) (k0_hw100 : k0_chk100 v190 v245), ∀ a x, ((![v190, v245] : Fin 2 → IVec S16 32) a x).toNat < S64x128.size a := fun v190 v245 k0_hw100 => k0_hw100.2.1
theorem k0_idx300_inb : ∀ (v190 : IVec S16 32) (v245 : IVec S16 32) (k0_hw100 : k0_chk100 v190 v245), ∀ a x, ((![v190, v245] : Fin 2 → IVec S16 32) a x).toNat < S64x128.size a := fun v190 v245 k0_hw100 => k0_hw100.2.2

def k0_chk101 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx301_inb : ∀ (v190 : IVec S16 32) (v258 : IVec S16 32) (k0_hw101 : k0_chk101 v190 v258), ∀ a x, ((![v190, v258] : Fin 2 → IVec S16 32) a x).toNat < S64x128.size a := fun v190 v258 k0_hw101 => k0_hw101.1
theorem k0_idx302_inb : ∀ (v190 : IVec S16 32) (v258 : IVec S16 32) (k0_hw101 : k0_chk101 v190 v258), ∀ a x, ((![v190, v258] : Fin 2 → IVec S16 32) a x).toNat < S64x128.size a := fun v190 v258 k0_hw101 => k0_hw101.2.1
theorem k0_idx303_inb : ∀ (v190 : IVec S16 32) (v258 : IVec S16 32) (k0_hw101 : k0_chk101 v190 v258), ∀ a x, ((![v190, v258] : Fin 2 → IVec S16 32) a x).toNat < S64x128.size a := fun v190 v258 k0_hw101 => k0_hw101.2.2

def k0_chk102 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx304_inb : ∀ (v190 : IVec S16 32) (v271 : IVec S16 32) (k0_hw102 : k0_chk102 v190 v271), ∀ a x, ((![v190, v271] : Fin 2 → IVec S16 32) a x).toNat < S64x128.size a := fun v190 v271 k0_hw102 => k0_hw102.1
theorem k0_idx305_inb : ∀ (v190 : IVec S16 32) (v271 : IVec S16 32) (k0_hw102 : k0_chk102 v190 v271), ∀ a x, ((![v190, v271] : Fin 2 → IVec S16 32) a x).toNat < S64x128.size a := fun v190 v271 k0_hw102 => k0_hw102.2.1
theorem k0_idx306_inb : ∀ (v190 : IVec S16 32) (v271 : IVec S16 32) (k0_hw102 : k0_chk102 v190 v271), ∀ a x, ((![v190, v271] : Fin 2 → IVec S16 32) a x).toNat < S64x128.size a := fun v190 v271 k0_hw102 => k0_hw102.2.2

def k0_chk103 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx307_inb : ∀ (v190 : IVec S16 32) (v284 : IVec S16 32) (k0_hw103 : k0_chk103 v190 v284), ∀ a x, ((![v190, v284] : Fin 2 → IVec S16 32) a x).toNat < S64x128.size a := fun v190 v284 k0_hw103 => k0_hw103.1
theorem k0_idx308_inb : ∀ (v190 : IVec S16 32) (v284 : IVec S16 32) (k0_hw103 : k0_chk103 v190 v284), ∀ a x, ((![v190, v284] : Fin 2 → IVec S16 32) a x).toNat < S64x128.size a := fun v190 v284 k0_hw103 => k0_hw103.2.1
theorem k0_idx309_inb : ∀ (v190 : IVec S16 32) (v284 : IVec S16 32) (k0_hw103 : k0_chk103 v190 v284), ∀ a x, ((![v190, v284] : Fin 2 → IVec S16 32) a x).toNat < S64x128.size a := fun v190 v284 k0_hw103 => k0_hw103.2.2

def k0_chk104 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx310_inb : ∀ (v190 : IVec S16 32) (v297 : IVec S16 32) (k0_hw104 : k0_chk104 v190 v297), ∀ a x, ((![v190, v297] : Fin 2 → IVec S16 32) a x).toNat < S64x128.size a := fun v190 v297 k0_hw104 => k0_hw104.1
theorem k0_idx311_inb : ∀ (v190 : IVec S16 32) (v297 : IVec S16 32) (k0_hw104 : k0_chk104 v190 v297), ∀ a x, ((![v190, v297] : Fin 2 → IVec S16 32) a x).toNat < S64x128.size a := fun v190 v297 k0_hw104 => k0_hw104.2.1
theorem k0_idx312_inb : ∀ (v190 : IVec S16 32) (v297 : IVec S16 32) (k0_hw104 : k0_chk104 v190 v297), ∀ a x, ((![v190, v297] : Fin 2 → IVec S16 32) a x).toNat < S64x128.size a := fun v190 v297 k0_hw104 => k0_hw104.2.2

def k0_chk105 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx313_inb : ∀ (v190 : IVec S16 32) (v310 : IVec S16 32) (k0_hw105 : k0_chk105 v190 v310), ∀ a x, ((![v190, v310] : Fin 2 → IVec S16 32) a x).toNat < S64x128.size a := fun v190 v310 k0_hw105 => k0_hw105.1
theorem k0_idx314_inb : ∀ (v190 : IVec S16 32) (v310 : IVec S16 32) (k0_hw105 : k0_chk105 v190 v310), ∀ a x, ((![v190, v310] : Fin 2 → IVec S16 32) a x).toNat < S64x128.size a := fun v190 v310 k0_hw105 => k0_hw105.2.1
theorem k0_idx315_inb : ∀ (v190 : IVec S16 32) (v310 : IVec S16 32) (k0_hw105 : k0_chk105 v190 v310), ∀ a x, ((![v190, v310] : Fin 2 → IVec S16 32) a x).toNat < S64x128.size a := fun v190 v310 k0_hw105 => k0_hw105.2.2

def k0_chk106 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx316_inb : ∀ (v190 : IVec S16 32) (v323 : IVec S16 32) (k0_hw106 : k0_chk106 v190 v323), ∀ a x, ((![v190, v323] : Fin 2 → IVec S16 32) a x).toNat < S64x128.size a := fun v190 v323 k0_hw106 => k0_hw106.1
theorem k0_idx317_inb : ∀ (v190 : IVec S16 32) (v323 : IVec S16 32) (k0_hw106 : k0_chk106 v190 v323), ∀ a x, ((![v190, v323] : Fin 2 → IVec S16 32) a x).toNat < S64x128.size a := fun v190 v323 k0_hw106 => k0_hw106.2.1
theorem k0_idx318_inb : ∀ (v190 : IVec S16 32) (v323 : IVec S16 32) (k0_hw106 : k0_chk106 v190 v323), ∀ a x, ((![v190, v323] : Fin 2 → IVec S16 32) a x).toNat < S64x128.size a := fun v190 v323 k0_hw106 => k0_hw106.2.2

def k0_chk107 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx319_inb : ∀ (v190 : IVec S16 32) (v336 : IVec S16 32) (k0_hw107 : k0_chk107 v190 v336), ∀ a x, ((![v190, v336] : Fin 2 → IVec S16 32) a x).toNat < S64x128.size a := fun v190 v336 k0_hw107 => k0_hw107.1
theorem k0_idx320_inb : ∀ (v190 : IVec S16 32) (v336 : IVec S16 32) (k0_hw107 : k0_chk107 v190 v336), ∀ a x, ((![v190, v336] : Fin 2 → IVec S16 32) a x).toNat < S64x128.size a := fun v190 v336 k0_hw107 => k0_hw107.2.1
theorem k0_idx321_inb : ∀ (v190 : IVec S16 32) (v336 : IVec S16 32) (k0_hw107 : k0_chk107 v190 v336), ∀ a x, ((![v190, v336] : Fin 2 → IVec S16 32) a x).toNat < S64x128.size a := fun v190 v336 k0_hw107 => k0_hw107.2.2

def k0_chk108 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx322_inb : ∀ (v190 : IVec S16 32) (v349 : IVec S16 32) (k0_hw108 : k0_chk108 v190 v349), ∀ a x, ((![v190, v349] : Fin 2 → IVec S16 32) a x).toNat < S64x128.size a := fun v190 v349 k0_hw108 => k0_hw108.1
theorem k0_idx323_inb : ∀ (v190 : IVec S16 32) (v349 : IVec S16 32) (k0_hw108 : k0_chk108 v190 v349), ∀ a x, ((![v190, v349] : Fin 2 → IVec S16 32) a x).toNat < S64x128.size a := fun v190 v349 k0_hw108 => k0_hw108.2.1
theorem k0_idx324_inb : ∀ (v190 : IVec S16 32) (v349 : IVec S16 32) (k0_hw108 : k0_chk108 v190 v349), ∀ a x, ((![v190, v349] : Fin 2 → IVec S16 32) a x).toNat < S64x128.size a := fun v190 v349 k0_hw108 => k0_hw108.2.2

def k0_chk109 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx325_inb : ∀ (v190 : IVec S16 32) (v362 : IVec S16 32) (k0_hw109 : k0_chk109 v190 v362), ∀ a x, ((![v190, v362] : Fin 2 → IVec S16 32) a x).toNat < S64x128.size a := fun v190 v362 k0_hw109 => k0_hw109.1
theorem k0_idx326_inb : ∀ (v190 : IVec S16 32) (v362 : IVec S16 32) (k0_hw109 : k0_chk109 v190 v362), ∀ a x, ((![v190, v362] : Fin 2 → IVec S16 32) a x).toNat < S64x128.size a := fun v190 v362 k0_hw109 => k0_hw109.2.1
theorem k0_idx327_inb : ∀ (v190 : IVec S16 32) (v362 : IVec S16 32) (k0_hw109 : k0_chk109 v190 v362), ∀ a x, ((![v190, v362] : Fin 2 → IVec S16 32) a x).toNat < S64x128.size a := fun v190 v362 k0_hw109 => k0_hw109.2.2

def k0_chk110 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx328_inb : ∀ (v190 : IVec S16 32) (v375 : IVec S16 32) (k0_hw110 : k0_chk110 v190 v375), ∀ a x, ((![v190, v375] : Fin 2 → IVec S16 32) a x).toNat < S64x128.size a := fun v190 v375 k0_hw110 => k0_hw110.1
theorem k0_idx329_inb : ∀ (v190 : IVec S16 32) (v375 : IVec S16 32) (k0_hw110 : k0_chk110 v190 v375), ∀ a x, ((![v190, v375] : Fin 2 → IVec S16 32) a x).toNat < S64x128.size a := fun v190 v375 k0_hw110 => k0_hw110.2.1
theorem k0_idx330_inb : ∀ (v190 : IVec S16 32) (v375 : IVec S16 32) (k0_hw110 : k0_chk110 v190 v375), ∀ a x, ((![v190, v375] : Fin 2 → IVec S16 32) a x).toNat < S64x128.size a := fun v190 v375 k0_hw110 => k0_hw110.2.2

def k0_chk111 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx331_inb : ∀ (v190 : IVec S16 32) (v388 : IVec S16 32) (k0_hw111 : k0_chk111 v190 v388), ∀ a x, ((![v190, v388] : Fin 2 → IVec S16 32) a x).toNat < S64x128.size a := fun v190 v388 k0_hw111 => k0_hw111.1
theorem k0_idx332_inb : ∀ (v190 : IVec S16 32) (v388 : IVec S16 32) (k0_hw111 : k0_chk111 v190 v388), ∀ a x, ((![v190, v388] : Fin 2 → IVec S16 32) a x).toNat < S64x128.size a := fun v190 v388 k0_hw111 => k0_hw111.2.1
theorem k0_idx333_inb : ∀ (v190 : IVec S16 32) (v388 : IVec S16 32) (k0_hw111 : k0_chk111 v190 v388), ∀ a x, ((![v190, v388] : Fin 2 → IVec S16 32) a x).toNat < S64x128.size a := fun v190 v388 k0_hw111 => k0_hw111.2.2

def k0_chk112 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx334_inb : ∀ (v190 : IVec S16 32) (v401 : IVec S16 32) (k0_hw112 : k0_chk112 v190 v401), ∀ a x, ((![v190, v401] : Fin 2 → IVec S16 32) a x).toNat < S64x128.size a := fun v190 v401 k0_hw112 => k0_hw112.1
theorem k0_idx335_inb : ∀ (v190 : IVec S16 32) (v401 : IVec S16 32) (k0_hw112 : k0_chk112 v190 v401), ∀ a x, ((![v190, v401] : Fin 2 → IVec S16 32) a x).toNat < S64x128.size a := fun v190 v401 k0_hw112 => k0_hw112.2.1
theorem k0_idx336_inb : ∀ (v190 : IVec S16 32) (v401 : IVec S16 32) (k0_hw112 : k0_chk112 v190 v401), ∀ a x, ((![v190, v401] : Fin 2 → IVec S16 32) a x).toNat < S64x128.size a := fun v190 v401 k0_hw112 => k0_hw112.2.2
def k0_off8 (k0_t13 : Fin k0_t13_loop.trips) : Fin 1 → Nat :=
  let c384_i32 : BitVec 32 := 384#32
  let c0_i32_242 : BitVec 32 := 0#32
  let c0_i32_221 : BitVec 32 := 0#32
  let c1_i32_223 : BitVec 32 := 1#32
  let arg25 : BitVec 32 := Scf.iv c0_i32_221 c1_i32_223 k0_t13
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c384_i32 v197
  let v199 : Index := Scalar.indexCast v198
  ![v199.toNat]
@[reducible] def k0_t15_loop : Scf.Loop 32 :=
  let c0_i32_237 : BitVec 32 := 0#32
  let c4_i32_238 : BitVec 32 := 4#32
  let v185 : BitVec 32 := Scalar.addi c0_i32_237 c4_i32_238
  let c1_i32_239 : BitVec 32 := 1#32
  ⟨c0_i32_237, v185, c1_i32_239⟩
@[reducible] def k0_t16_loop : Scf.Loop 32 :=
  let c0_i32_243 : BitVec 32 := 0#32
  let c8_i32 : BitVec 32 := 8#32
  let v192 : BitVec 32 := Scalar.addi c0_i32_243 c8_i32
  let c1_i32_244 : BitVec 32 := 1#32
  ⟨c0_i32_243, v192, c1_i32_244⟩

def k0_chk113 (v190 : IVec S16 32) (v206 : IVec S16 32) : Prop :=
  (∀ a x, ((![v190, v206] : Fin 2 → IVec S16 32) a x).toNat < S64x128.size a) ∧
  (∀ a x, ((![v190, v206] : Fin 2 → IVec S16 32) a x).toNat < S64x128.size a) ∧
  (∀ a x, ((![v190, v206] : Fin 2 → IVec S16 32) a x).toNat < S64x128.size a)
theorem k0_idx337_inb : ∀ (v190 : IVec S16 32) (v206 : IVec S16 32) (k0_hw113 : k0_chk113 v190 v206), ∀ a x, ((![v190, v206] : Fin 2 → IVec S16 32) a x).toNat < S64x128.size a := fun v190 v206 k0_hw113 => k0_hw113.1
theorem k0_idx338_inb : ∀ (v190 : IVec S16 32) (v206 : IVec S16 32) (k0_hw113 : k0_chk113 v190 v206), ∀ a x, ((![v190, v206] : Fin 2 → IVec S16 32) a x).toNat < S64x128.size a := fun v190 v206 k0_hw113 => k0_hw113.2.1
theorem k0_idx339_inb : ∀ (v190 : IVec S16 32) (v206 : IVec S16 32) (k0_hw113 : k0_chk113 v190 v206), ∀ a x, ((![v190, v206] : Fin 2 → IVec S16 32) a x).toNat < S64x128.size a := fun v190 v206 k0_hw113 => k0_hw113.2.2

def k0_chk114 (v190 : IVec S16 32) (v219 : IVec S16 32) : Prop :=
  (∀ a x, ((![v190, v219] : Fin 2 → IVec S16 32) a x).toNat < S64x128.size a) ∧
  (∀ a x, ((![v190, v219] : Fin 2 → IVec S16 32) a x).toNat < S64x128.size a) ∧
  (∀ a x, ((![v190, v219] : Fin 2 → IVec S16 32) a x).toNat < S64x128.size a)
theorem k0_idx340_inb : ∀ (v190 : IVec S16 32) (v219 : IVec S16 32) (k0_hw114 : k0_chk114 v190 v219), ∀ a x, ((![v190, v219] : Fin 2 → IVec S16 32) a x).toNat < S64x128.size a := fun v190 v219 k0_hw114 => k0_hw114.1
theorem k0_idx341_inb : ∀ (v190 : IVec S16 32) (v219 : IVec S16 32) (k0_hw114 : k0_chk114 v190 v219), ∀ a x, ((![v190, v219] : Fin 2 → IVec S16 32) a x).toNat < S64x128.size a := fun v190 v219 k0_hw114 => k0_hw114.2.1
theorem k0_idx342_inb : ∀ (v190 : IVec S16 32) (v219 : IVec S16 32) (k0_hw114 : k0_chk114 v190 v219), ∀ a x, ((![v190, v219] : Fin 2 → IVec S16 32) a x).toNat < S64x128.size a := fun v190 v219 k0_hw114 => k0_hw114.2.2

def k0_chk115 (v190 : IVec S16 32) (v232 : IVec S16 32) : Prop :=
  (∀ a x, ((![v190, v232] : Fin 2 → IVec S16 32) a x).toNat < S64x128.size a) ∧
  (∀ a x, ((![v190, v232] : Fin 2 → IVec S16 32) a x).toNat < S64x128.size a) ∧
  (∀ a x, ((![v190, v232] : Fin 2 → IVec S16 32) a x).toNat < S64x128.size a)
theorem k0_idx343_inb : ∀ (v190 : IVec S16 32) (v232 : IVec S16 32) (k0_hw115 : k0_chk115 v190 v232), ∀ a x, ((![v190, v232] : Fin 2 → IVec S16 32) a x).toNat < S64x128.size a := fun v190 v232 k0_hw115 => k0_hw115.1
theorem k0_idx344_inb : ∀ (v190 : IVec S16 32) (v232 : IVec S16 32) (k0_hw115 : k0_chk115 v190 v232), ∀ a x, ((![v190, v232] : Fin 2 → IVec S16 32) a x).toNat < S64x128.size a := fun v190 v232 k0_hw115 => k0_hw115.2.1
theorem k0_idx345_inb : ∀ (v190 : IVec S16 32) (v232 : IVec S16 32) (k0_hw115 : k0_chk115 v190 v232), ∀ a x, ((![v190, v232] : Fin 2 → IVec S16 32) a x).toNat < S64x128.size a := fun v190 v232 k0_hw115 => k0_hw115.2.2

def k0_chk116 (v190 : IVec S16 32) (v245 : IVec S16 32) : Prop :=
  (∀ a x, ((![v190, v245] : Fin 2 → IVec S16 32) a x).toNat < S64x128.size a) ∧
  (∀ a x, ((![v190, v245] : Fin 2 → IVec S16 32) a x).toNat < S64x128.size a) ∧
  (∀ a x, ((![v190, v245] : Fin 2 → IVec S16 32) a x).toNat < S64x128.size a)
theorem k0_idx346_inb : ∀ (v190 : IVec S16 32) (v245 : IVec S16 32) (k0_hw116 : k0_chk116 v190 v245), ∀ a x, ((![v190, v245] : Fin 2 → IVec S16 32) a x).toNat < S64x128.size a := fun v190 v245 k0_hw116 => k0_hw116.1
theorem k0_idx347_inb : ∀ (v190 : IVec S16 32) (v245 : IVec S16 32) (k0_hw116 : k0_chk116 v190 v245), ∀ a x, ((![v190, v245] : Fin 2 → IVec S16 32) a x).toNat < S64x128.size a := fun v190 v245 k0_hw116 => k0_hw116.2.1
theorem k0_idx348_inb : ∀ (v190 : IVec S16 32) (v245 : IVec S16 32) (k0_hw116 : k0_chk116 v190 v245), ∀ a x, ((![v190, v245] : Fin 2 → IVec S16 32) a x).toNat < S64x128.size a := fun v190 v245 k0_hw116 => k0_hw116.2.2

def k0_chk117 (v190 : IVec S16 32) (v258 : IVec S16 32) : Prop :=
  (∀ a x, ((![v190, v258] : Fin 2 → IVec S16 32) a x).toNat < S64x128.size a) ∧
  (∀ a x, ((![v190, v258] : Fin 2 → IVec S16 32) a x).toNat < S64x128.size a) ∧
  (∀ a x, ((![v190, v258] : Fin 2 → IVec S16 32) a x).toNat < S64x128.size a)
theorem k0_idx349_inb : ∀ (v190 : IVec S16 32) (v258 : IVec S16 32) (k0_hw117 : k0_chk117 v190 v258), ∀ a x, ((![v190, v258] : Fin 2 → IVec S16 32) a x).toNat < S64x128.size a := fun v190 v258 k0_hw117 => k0_hw117.1
theorem k0_idx350_inb : ∀ (v190 : IVec S16 32) (v258 : IVec S16 32) (k0_hw117 : k0_chk117 v190 v258), ∀ a x, ((![v190, v258] : Fin 2 → IVec S16 32) a x).toNat < S64x128.size a := fun v190 v258 k0_hw117 => k0_hw117.2.1
theorem k0_idx351_inb : ∀ (v190 : IVec S16 32) (v258 : IVec S16 32) (k0_hw117 : k0_chk117 v190 v258), ∀ a x, ((![v190, v258] : Fin 2 → IVec S16 32) a x).toNat < S64x128.size a := fun v190 v258 k0_hw117 => k0_hw117.2.2

def k0_chk118 (v190 : IVec S16 32) (v271 : IVec S16 32) : Prop :=
  (∀ a x, ((![v190, v271] : Fin 2 → IVec S16 32) a x).toNat < S64x128.size a) ∧
  (∀ a x, ((![v190, v271] : Fin 2 → IVec S16 32) a x).toNat < S64x128.size a) ∧
  (∀ a x, ((![v190, v271] : Fin 2 → IVec S16 32) a x).toNat < S64x128.size a)
theorem k0_idx352_inb : ∀ (v190 : IVec S16 32) (v271 : IVec S16 32) (k0_hw118 : k0_chk118 v190 v271), ∀ a x, ((![v190, v271] : Fin 2 → IVec S16 32) a x).toNat < S64x128.size a := fun v190 v271 k0_hw118 => k0_hw118.1
theorem k0_idx353_inb : ∀ (v190 : IVec S16 32) (v271 : IVec S16 32) (k0_hw118 : k0_chk118 v190 v271), ∀ a x, ((![v190, v271] : Fin 2 → IVec S16 32) a x).toNat < S64x128.size a := fun v190 v271 k0_hw118 => k0_hw118.2.1
theorem k0_idx354_inb : ∀ (v190 : IVec S16 32) (v271 : IVec S16 32) (k0_hw118 : k0_chk118 v190 v271), ∀ a x, ((![v190, v271] : Fin 2 → IVec S16 32) a x).toNat < S64x128.size a := fun v190 v271 k0_hw118 => k0_hw118.2.2

def k0_chk119 (v190 : IVec S16 32) (v284 : IVec S16 32) : Prop :=
  (∀ a x, ((![v190, v284] : Fin 2 → IVec S16 32) a x).toNat < S64x128.size a) ∧
  (∀ a x, ((![v190, v284] : Fin 2 → IVec S16 32) a x).toNat < S64x128.size a) ∧
  (∀ a x, ((![v190, v284] : Fin 2 → IVec S16 32) a x).toNat < S64x128.size a)
theorem k0_idx355_inb : ∀ (v190 : IVec S16 32) (v284 : IVec S16 32) (k0_hw119 : k0_chk119 v190 v284), ∀ a x, ((![v190, v284] : Fin 2 → IVec S16 32) a x).toNat < S64x128.size a := fun v190 v284 k0_hw119 => k0_hw119.1
theorem k0_idx356_inb : ∀ (v190 : IVec S16 32) (v284 : IVec S16 32) (k0_hw119 : k0_chk119 v190 v284), ∀ a x, ((![v190, v284] : Fin 2 → IVec S16 32) a x).toNat < S64x128.size a := fun v190 v284 k0_hw119 => k0_hw119.2.1
theorem k0_idx357_inb : ∀ (v190 : IVec S16 32) (v284 : IVec S16 32) (k0_hw119 : k0_chk119 v190 v284), ∀ a x, ((![v190, v284] : Fin 2 → IVec S16 32) a x).toNat < S64x128.size a := fun v190 v284 k0_hw119 => k0_hw119.2.2

def k0_chk120 (v190 : IVec S16 32) (v297 : IVec S16 32) : Prop :=
  (∀ a x, ((![v190, v297] : Fin 2 → IVec S16 32) a x).toNat < S64x128.size a) ∧
  (∀ a x, ((![v190, v297] : Fin 2 → IVec S16 32) a x).toNat < S64x128.size a) ∧
  (∀ a x, ((![v190, v297] : Fin 2 → IVec S16 32) a x).toNat < S64x128.size a)
theorem k0_idx358_inb : ∀ (v190 : IVec S16 32) (v297 : IVec S16 32) (k0_hw120 : k0_chk120 v190 v297), ∀ a x, ((![v190, v297] : Fin 2 → IVec S16 32) a x).toNat < S64x128.size a := fun v190 v297 k0_hw120 => k0_hw120.1
theorem k0_idx359_inb : ∀ (v190 : IVec S16 32) (v297 : IVec S16 32) (k0_hw120 : k0_chk120 v190 v297), ∀ a x, ((![v190, v297] : Fin 2 → IVec S16 32) a x).toNat < S64x128.size a := fun v190 v297 k0_hw120 => k0_hw120.2.1
theorem k0_idx360_inb : ∀ (v190 : IVec S16 32) (v297 : IVec S16 32) (k0_hw120 : k0_chk120 v190 v297), ∀ a x, ((![v190, v297] : Fin 2 → IVec S16 32) a x).toNat < S64x128.size a := fun v190 v297 k0_hw120 => k0_hw120.2.2

def k0_chk121 (v190 : IVec S16 32) (v310 : IVec S16 32) : Prop :=
  (∀ a x, ((![v190, v310] : Fin 2 → IVec S16 32) a x).toNat < S64x128.size a) ∧
  (∀ a x, ((![v190, v310] : Fin 2 → IVec S16 32) a x).toNat < S64x128.size a) ∧
  (∀ a x, ((![v190, v310] : Fin 2 → IVec S16 32) a x).toNat < S64x128.size a)
theorem k0_idx361_inb : ∀ (v190 : IVec S16 32) (v310 : IVec S16 32) (k0_hw121 : k0_chk121 v190 v310), ∀ a x, ((![v190, v310] : Fin 2 → IVec S16 32) a x).toNat < S64x128.size a := fun v190 v310 k0_hw121 => k0_hw121.1
theorem k0_idx362_inb : ∀ (v190 : IVec S16 32) (v310 : IVec S16 32) (k0_hw121 : k0_chk121 v190 v310), ∀ a x, ((![v190, v310] : Fin 2 → IVec S16 32) a x).toNat < S64x128.size a := fun v190 v310 k0_hw121 => k0_hw121.2.1
theorem k0_idx363_inb : ∀ (v190 : IVec S16 32) (v310 : IVec S16 32) (k0_hw121 : k0_chk121 v190 v310), ∀ a x, ((![v190, v310] : Fin 2 → IVec S16 32) a x).toNat < S64x128.size a := fun v190 v310 k0_hw121 => k0_hw121.2.2

def k0_chk122 (v190 : IVec S16 32) (v323 : IVec S16 32) : Prop :=
  (∀ a x, ((![v190, v323] : Fin 2 → IVec S16 32) a x).toNat < S64x128.size a) ∧
  (∀ a x, ((![v190, v323] : Fin 2 → IVec S16 32) a x).toNat < S64x128.size a) ∧
  (∀ a x, ((![v190, v323] : Fin 2 → IVec S16 32) a x).toNat < S64x128.size a)
theorem k0_idx364_inb : ∀ (v190 : IVec S16 32) (v323 : IVec S16 32) (k0_hw122 : k0_chk122 v190 v323), ∀ a x, ((![v190, v323] : Fin 2 → IVec S16 32) a x).toNat < S64x128.size a := fun v190 v323 k0_hw122 => k0_hw122.1
theorem k0_idx365_inb : ∀ (v190 : IVec S16 32) (v323 : IVec S16 32) (k0_hw122 : k0_chk122 v190 v323), ∀ a x, ((![v190, v323] : Fin 2 → IVec S16 32) a x).toNat < S64x128.size a := fun v190 v323 k0_hw122 => k0_hw122.2.1
theorem k0_idx366_inb : ∀ (v190 : IVec S16 32) (v323 : IVec S16 32) (k0_hw122 : k0_chk122 v190 v323), ∀ a x, ((![v190, v323] : Fin 2 → IVec S16 32) a x).toNat < S64x128.size a := fun v190 v323 k0_hw122 => k0_hw122.2.2

def k0_chk123 (v190 : IVec S16 32) (v336 : IVec S16 32) : Prop :=
  (∀ a x, ((![v190, v336] : Fin 2 → IVec S16 32) a x).toNat < S64x128.size a) ∧
  (∀ a x, ((![v190, v336] : Fin 2 → IVec S16 32) a x).toNat < S64x128.size a) ∧
  (∀ a x, ((![v190, v336] : Fin 2 → IVec S16 32) a x).toNat < S64x128.size a)
theorem k0_idx367_inb : ∀ (v190 : IVec S16 32) (v336 : IVec S16 32) (k0_hw123 : k0_chk123 v190 v336), ∀ a x, ((![v190, v336] : Fin 2 → IVec S16 32) a x).toNat < S64x128.size a := fun v190 v336 k0_hw123 => k0_hw123.1
theorem k0_idx368_inb : ∀ (v190 : IVec S16 32) (v336 : IVec S16 32) (k0_hw123 : k0_chk123 v190 v336), ∀ a x, ((![v190, v336] : Fin 2 → IVec S16 32) a x).toNat < S64x128.size a := fun v190 v336 k0_hw123 => k0_hw123.2.1
theorem k0_idx369_inb : ∀ (v190 : IVec S16 32) (v336 : IVec S16 32) (k0_hw123 : k0_chk123 v190 v336), ∀ a x, ((![v190, v336] : Fin 2 → IVec S16 32) a x).toNat < S64x128.size a := fun v190 v336 k0_hw123 => k0_hw123.2.2

def k0_chk124 (v190 : IVec S16 32) (v349 : IVec S16 32) : Prop :=
  (∀ a x, ((![v190, v349] : Fin 2 → IVec S16 32) a x).toNat < S64x128.size a) ∧
  (∀ a x, ((![v190, v349] : Fin 2 → IVec S16 32) a x).toNat < S64x128.size a) ∧
  (∀ a x, ((![v190, v349] : Fin 2 → IVec S16 32) a x).toNat < S64x128.size a)
theorem k0_idx370_inb : ∀ (v190 : IVec S16 32) (v349 : IVec S16 32) (k0_hw124 : k0_chk124 v190 v349), ∀ a x, ((![v190, v349] : Fin 2 → IVec S16 32) a x).toNat < S64x128.size a := fun v190 v349 k0_hw124 => k0_hw124.1
theorem k0_idx371_inb : ∀ (v190 : IVec S16 32) (v349 : IVec S16 32) (k0_hw124 : k0_chk124 v190 v349), ∀ a x, ((![v190, v349] : Fin 2 → IVec S16 32) a x).toNat < S64x128.size a := fun v190 v349 k0_hw124 => k0_hw124.2.1
theorem k0_idx372_inb : ∀ (v190 : IVec S16 32) (v349 : IVec S16 32) (k0_hw124 : k0_chk124 v190 v349), ∀ a x, ((![v190, v349] : Fin 2 → IVec S16 32) a x).toNat < S64x128.size a := fun v190 v349 k0_hw124 => k0_hw124.2.2

def k0_chk125 (v190 : IVec S16 32) (v362 : IVec S16 32) : Prop :=
  (∀ a x, ((![v190, v362] : Fin 2 → IVec S16 32) a x).toNat < S64x128.size a) ∧
  (∀ a x, ((![v190, v362] : Fin 2 → IVec S16 32) a x).toNat < S64x128.size a) ∧
  (∀ a x, ((![v190, v362] : Fin 2 → IVec S16 32) a x).toNat < S64x128.size a)
theorem k0_idx373_inb : ∀ (v190 : IVec S16 32) (v362 : IVec S16 32) (k0_hw125 : k0_chk125 v190 v362), ∀ a x, ((![v190, v362] : Fin 2 → IVec S16 32) a x).toNat < S64x128.size a := fun v190 v362 k0_hw125 => k0_hw125.1
theorem k0_idx374_inb : ∀ (v190 : IVec S16 32) (v362 : IVec S16 32) (k0_hw125 : k0_chk125 v190 v362), ∀ a x, ((![v190, v362] : Fin 2 → IVec S16 32) a x).toNat < S64x128.size a := fun v190 v362 k0_hw125 => k0_hw125.2.1
theorem k0_idx375_inb : ∀ (v190 : IVec S16 32) (v362 : IVec S16 32) (k0_hw125 : k0_chk125 v190 v362), ∀ a x, ((![v190, v362] : Fin 2 → IVec S16 32) a x).toNat < S64x128.size a := fun v190 v362 k0_hw125 => k0_hw125.2.2

def k0_chk126 (v190 : IVec S16 32) (v375 : IVec S16 32) : Prop :=
  (∀ a x, ((![v190, v375] : Fin 2 → IVec S16 32) a x).toNat < S64x128.size a) ∧
  (∀ a x, ((![v190, v375] : Fin 2 → IVec S16 32) a x).toNat < S64x128.size a) ∧
  (∀ a x, ((![v190, v375] : Fin 2 → IVec S16 32) a x).toNat < S64x128.size a)
theorem k0_idx376_inb : ∀ (v190 : IVec S16 32) (v375 : IVec S16 32) (k0_hw126 : k0_chk126 v190 v375), ∀ a x, ((![v190, v375] : Fin 2 → IVec S16 32) a x).toNat < S64x128.size a := fun v190 v375 k0_hw126 => k0_hw126.1
theorem k0_idx377_inb : ∀ (v190 : IVec S16 32) (v375 : IVec S16 32) (k0_hw126 : k0_chk126 v190 v375), ∀ a x, ((![v190, v375] : Fin 2 → IVec S16 32) a x).toNat < S64x128.size a := fun v190 v375 k0_hw126 => k0_hw126.2.1
theorem k0_idx378_inb : ∀ (v190 : IVec S16 32) (v375 : IVec S16 32) (k0_hw126 : k0_chk126 v190 v375), ∀ a x, ((![v190, v375] : Fin 2 → IVec S16 32) a x).toNat < S64x128.size a := fun v190 v375 k0_hw126 => k0_hw126.2.2

def k0_chk127 (v190 : IVec S16 32) (v388 : IVec S16 32) : Prop :=
  (∀ a x, ((![v190, v388] : Fin 2 → IVec S16 32) a x).toNat < S64x128.size a) ∧
  (∀ a x, ((![v190, v388] : Fin 2 → IVec S16 32) a x).toNat < S64x128.size a) ∧
  (∀ a x, ((![v190, v388] : Fin 2 → IVec S16 32) a x).toNat < S64x128.size a)
theorem k0_idx379_inb : ∀ (v190 : IVec S16 32) (v388 : IVec S16 32) (k0_hw127 : k0_chk127 v190 v388), ∀ a x, ((![v190, v388] : Fin 2 → IVec S16 32) a x).toNat < S64x128.size a := fun v190 v388 k0_hw127 => k0_hw127.1
theorem k0_idx380_inb : ∀ (v190 : IVec S16 32) (v388 : IVec S16 32) (k0_hw127 : k0_chk127 v190 v388), ∀ a x, ((![v190, v388] : Fin 2 → IVec S16 32) a x).toNat < S64x128.size a := fun v190 v388 k0_hw127 => k0_hw127.2.1
theorem k0_idx381_inb : ∀ (v190 : IVec S16 32) (v388 : IVec S16 32) (k0_hw127 : k0_chk127 v190 v388), ∀ a x, ((![v190, v388] : Fin 2 → IVec S16 32) a x).toNat < S64x128.size a := fun v190 v388 k0_hw127 => k0_hw127.2.2

def k0_chk128 (v190 : IVec S16 32) (v401 : IVec S16 32) : Prop :=
  (∀ a x, ((![v190, v401] : Fin 2 → IVec S16 32) a x).toNat < S64x128.size a) ∧
  (∀ a x, ((![v190, v401] : Fin 2 → IVec S16 32) a x).toNat < S64x128.size a) ∧
  (∀ a x, ((![v190, v401] : Fin 2 → IVec S16 32) a x).toNat < S64x128.size a)
theorem k0_idx382_inb : ∀ (v190 : IVec S16 32) (v401 : IVec S16 32) (k0_hw128 : k0_chk128 v190 v401), ∀ a x, ((![v190, v401] : Fin 2 → IVec S16 32) a x).toNat < S64x128.size a := fun v190 v401 k0_hw128 => k0_hw128.1
theorem k0_idx383_inb : ∀ (v190 : IVec S16 32) (v401 : IVec S16 32) (k0_hw128 : k0_chk128 v190 v401), ∀ a x, ((![v190, v401] : Fin 2 → IVec S16 32) a x).toNat < S64x128.size a := fun v190 v401 k0_hw128 => k0_hw128.2.1
theorem k0_idx384_inb : ∀ (v190 : IVec S16 32) (v401 : IVec S16 32) (k0_hw128 : k0_chk128 v190 v401), ∀ a x, ((![v190, v401] : Fin 2 → IVec S16 32) a x).toNat < S64x128.size a := fun v190 v401 k0_hw128 => k0_hw128.2.2
def k0_off9 (k0_t15 : Fin k0_t15_loop.trips) : Fin 1 → Nat :=
  let c448_i32 : BitVec 32 := 448#32
  let c0_i32_242 : BitVec 32 := 0#32
  let c0_i32_237 : BitVec 32 := 0#32
  let c1_i32_239 : BitVec 32 := 1#32
  let arg25 : BitVec 32 := Scf.iv c0_i32_237 c1_i32_239 k0_t15
  let c1_i32_241 : BitVec 32 := 1#32
  let v186 : BitVec 32 := Scalar.muli arg25 c1_i32_241
  let v187 : BitVec 32 := Scalar.addi c0_i32_242 v186
  let c16_i32_247 : BitVec 32 := 16#32
  let v197 : BitVec 32 := Scalar.muli v187 c16_i32_247
  let v198 : BitVec 32 := Scalar.addi c448_i32 v197
  let v199 : Index := Scalar.indexCast v198
  ![v199.toNat]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_241_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x128 : Shape := ⟨2, ![100000, 128]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 80
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S100000x128, .f32⟩
  | .hbm, ⟨4, _⟩ => ⟨S1000x128, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x128, .f32⟩
  | .hbm, ⟨24, _⟩ => ⟨S16384x128, .i1⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x128, .f32⟩
  | .hbm, ⟨47, _⟩ => ⟨S16384x128, .i1⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384x128, .f32⟩
  | .hbm, ⟨70, _⟩ => ⟨S16384x128, .i1⟩
  | .hbm, ⟨71, _⟩ => ⟨S_, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x128, .f32⟩
  | .hbm, ⟨77, _⟩ => ⟨S_, .f32⟩
  | .hbm, ⟨78, _⟩ => ⟨S16384, .f32⟩
  | .hbm, ⟨79, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_v4 : Ref sig .tc := ⟨.hbm, 75, rfl⟩
abbrev main_v5 : Ref sig .tc := ⟨.hbm, 76, rfl⟩
abbrev main_cst : Ref sig .tc := ⟨.hbm, 77, rfl⟩
abbrev main_v6 : Ref sig .tc := ⟨.hbm, 78, rfl⟩
abbrev main_v7 : Ref sig .tc := ⟨.hbm, 79, rfl⟩

abbrev nD : Nat := 1
abbrev τ : Topo := Topo.v7x

variable {F : FTy → Type} [FloatOps F]
-- ==== Proof.InRange.lean ====
/-
  The precondition read back: every word of the three index arguments names a row of its table.
-/
module

public import proofs.«01_k».proof.Defs
public import proofs.«01_k».proof.Proof.Gen.Pre_in_rows
public import Idealize.ShloMosaic.Lib.ReduceAll

@[expose] public section

noncomputable section

namespace Cert.Proof.Pre

open Idealize.ShloMosaic Cert.Pre_in_rows

variable {F : FTy → Type} [FloatOps F]

/-- A word at least 0 and less than `n`, both as signed words, is a natural below `n`. -/
theorem below_of_word {n : Nat} (hn : n < 2 ^ 31) {v : BitVec 32} (e : IntOp.andi (IntOp.cmpi .sge v 0#32) (IntOp.cmpi .slt v (BitVec.ofNat 32 n)) = 1#1) :
    v.toNat < n := by
  obtain ⟨h1, h2⟩ := IntOp.andi_eq_one.1 e
  have h1 := IntOp.cmpi_sge.1 h1
  have h2 := IntOp.cmpi_slt.1 h2
  simp only [BitVec.toInt_eq_toNat_cond, BitVec.toNat_ofNat, Nat.reducePow, Nat.reduceMod] at h1 h2
  have := v.isLt
  rw [Nat.mod_eq_of_lt (by omega)] at h2
  split at h1 <;> split at h2 <;> omega

/-- Reading a `jnp.all` of such a range check. -/
theorem below_of_all {n : Nat} (hn : n < 2 ^ 31) {a : IVec S16384 32} {u : S_.Idx} [Facts]
    (e : Host.reduce IntOp.andi (andi (cmpi .sge a (broadcastInDim S16384 ![] Facts.bcast_S_S16384 (constantI S_ 32 0#32)))
      (cmpi .slt a (broadcastInDim S16384 ![] Facts.bcast_S_S16384 (constantI S_ 32 (BitVec.ofNat 32 n))))) (constantI S_ 1 1#1)
      Facts.reducesTo_S16384_S_d0 Facts.h_S_ u = 1#1) (j : S16384.Idx) : BitVec.toNat (w := 32) (a j) < n :=
  below_of_word hn (Host.reduce_andi_all _ _ _ _ u e j)

/-- The precondition gives the three ranges. -/
theorem ranges [Facts] {a b c : IVec S16384 32} {x : FVec F S100000x128 .f32} {y : FVec F S1000x128 .f32} (e : fn (F := F) a b c x y = fun _ => 1#1) :
    (∀ j, BitVec.toNat (w := 32) (a j) < 100000) ∧ (∀ j, BitVec.toNat (w := 32) (b j) < 1000) ∧ (∀ j, BitVec.toNat (w := 32) (c j) < 100000) := by
  have e := congrFun e (Shape.Idx.first (s := S_) (by decide))
  obtain ⟨e12, e3⟩ := IntOp.andi_eq_one.1 (show IntOp.andi _ _ = 1#1 from e)
  obtain ⟨e1, e2⟩ := IntOp.andi_eq_one.1 (show IntOp.andi _ _ = 1#1 from e12)
  exact ⟨below_of_all (by decide) e1, below_of_all (by decide) e2, below_of_all (by decide) e3⟩

end Cert.Proof.Pre

end
-- ==== Proof.Program.lean ====
/-
  The tile's program, in the words the proof steps through: the index copies, and per chunk the issue of its three
  gathers, their waits, and the group loop that scores its rows. `cc0__tec_kernel` is this program (`tec_eq`).
-/
module

public import proofs.«01_k».proof.Defs
public import Idealize.ShloMosaic.Lib.SparseCore.Ops
public import Idealize.ShloMosaic.Lib.SparseCore.Stream
public import Idealize.ShloMosaic.Lib.Tactic
public import proofs.«01_k».proof.Proof.Gen.KernelIdeal

@[expose] public section

noncomputable section

namespace Cert.Proof.Tile

open Cert.KernelIdeal Cert.KernelIdeal.Gen
open Idealize.ShloMosaic Idealize.SL.Sem

variable {F : FTy → Type} [FloatOps F]

/-! ## The arrays and the buffers -/

abbrev hArr : Memref sig .scVector .hbm S32x8x64 .i32 := Memref.whole main_v0_scv
abbrev rArr : Memref sig .scVector .hbm S32x8x64 .i32 := Memref.whole main_v1_scv
abbrev tArr : Memref sig .scVector .hbm S32x8x64 .i32 := Memref.whole main_v2_scv
abbrev entA : Memref sig .scVector .hbm S100000x128 .f32 := Memref.whole main_arg3_scv
abbrev relA : Memref sig .scVector .hbm S1000x128 .f32 := Memref.whole main_arg4_scv
abbrev outA : Memref sig .scVector .hbm S32x512 .f32 := Memref.whole main_v3_scv
abbrev hIdx : Memref sig .scVector .vmem S8x64 .i32 := Memref.whole cc0_scratch0
abbrev rIdx : Memref sig .scVector .vmem S8x64 .i32 := Memref.whole cc0_scratch1
abbrev tIdx : Memref sig .scVector .vmem S8x64 .i32 := Memref.whole cc0_scratch2
abbrev outV : Memref sig .scVector .vmem S512 .f32 := Memref.whole cc0_scratch12

/-- Buffer set `i` of the ring: the rows of `h`, of `r`, of `t`. -/
abbrev bufH : Fin 3 → Memref sig .scVector .vmem S64x128 .f32
  | 0 => Memref.whole cc0_scratch3 | 1 => Memref.whole cc0_scratch6 | 2 => Memref.whole cc0_scratch9
abbrev bufR : Fin 3 → Memref sig .scVector .vmem S64x128 .f32
  | 0 => Memref.whole cc0_scratch4 | 1 => Memref.whole cc0_scratch7 | 2 => Memref.whole cc0_scratch10
abbrev bufT : Fin 3 → Memref sig .scVector .vmem S64x128 .f32
  | 0 => Memref.whole cc0_scratch5 | 1 => Memref.whole cc0_scratch8 | 2 => Memref.whole cc0_scratch11
/-- The gathers' semaphore of buffer set `i`. -/
abbrev ringSem : Fin 3 → DmaSem sig
  | 0 => cc0_scratch13.sem | 1 => cc0_scratch14.sem | 2 => cc0_scratch15.sem

/-- The entity and the relation table, as a gather names them. -/
abbrev entAll : Memref sig .scVector .hbm S100000x128 .f32 :=
  entA.slice (Rect.unit (s := S100000x128) ![0, 0] S100000x128.size inb_S100000x128_S100000x128_0_0) (fun _ => rfl)
abbrev relAll : Memref sig .scVector .hbm S1000x128 .f32 :=
  relA.slice (Rect.unit (s := S1000x128) ![0, 0] S1000x128.size inb_S1000x128_S1000x128_0_0) (fun _ => rfl)

theorem row_inb (c : Fin 8) : ∀ a, (![c.val, 0] : Fin 2 → ℕ) a + S1x64.size a ≤ S8x64.size a := by
  have := c.isLt
  intro a
  match a with
  | 0 => show c.val + 1 ≤ 8; omega
  | 1 => exact Nat.le_refl _

/-- Row `c` of an index buffer: chunk `c`'s list. -/
abbrev listRow (b : Memref sig .scVector .vmem S8x64 .i32) (c : Fin 8) : Memref sig .scVector .vmem S64 .i32 :=
  (b.slice (Rect.unit (s := S8x64) ![c.val, 0] S1x64.size (row_inb c)) (fun _ => rfl)).squeeze S64 squeezes_S1x64_S64

/-- Row `i`'s block of an index array, and of the result. -/
abbrev idxRow (i : grid0.Coords) (A : Memref sig .scVector .hbm S32x8x64 .i32) : Memref sig .scVector .hbm S8x64 .i32 :=
  (A.slice (Rect.unit (s := S32x8x64) (k0_off1 i) S1x8x64.size (k0_off1_inb i)) (fun _ => rfl)).squeeze S8x64 squeezes_S1x8x64_S8x64
abbrev outRow (i : grid0.Coords) : Memref sig .scVector .hbm S512 .f32 :=
  (outA.slice (Rect.unit (s := S32x512) (k0_off10 i) S1x512.size (k0_off10_inb i)) (fun _ => rfl)).squeeze S512 squeezes_S1x512_S512

section Prog

variable {cc : Fin τ.nSC} {ss : Fin τ.nSub}

/-- One column of one group: three loads at the lanes' rows and columns, and the accumulator's next value. -/
def one (A B C : Memref sig .scVector .vmem S64x128 .f32) (lanes row : IVec S16 32) (w : BitVec 32) (acc : FVec F S16 .f32) :
    Prog (TpuEff nD τ sig (Elt F) Λ₀ (.scVector cc ss)) (FVec F S16 .f32) := do
  let col : IVec S16 32 := andi (addi lanes (broadcast S16 w)) (broadcast S16 127#32)
  have hw : k0_chk1 row col := (← Prog.lift (TpuEff.assume (k0_chk1 row col) (k0_chk1.dec row col))).down
  let a : Vec F S16 .f32 ← SparseCore.vectorLoadIdx A ![row, col] (k0_idx1_inb row col hw) (View.loads_vmem h_S64x128)
  let b : Vec F S16 .f32 ← SparseCore.vectorLoadIdx B ![row, col] (k0_idx1_inb row col hw) (View.loads_vmem h_S64x128)
  let c : Vec F S16 .f32 ← SparseCore.vectorLoadIdx C ![row, col] (k0_idx1_inb row col hw) (View.loads_vmem h_S64x128)
  pure (addf acc (absf (subf (addf a b) c)))

/-- `n` pairs of columns from `16 * jj`: the even columns into the first accumulator, the odd into the second. -/
def pairs (A B C : Memref sig .scVector .vmem S64x128 .f32) (lanes row : IVec S16 32) (jj : BitVec 32) :
    ℕ → FVec F S16 .f32 × FVec F S16 .f32 → Prog (TpuEff nD τ sig (Elt F) Λ₀ (.scVector cc ss)) (FVec F S16 .f32 × FVec F S16 .f32)
  | 0, x => pure x
  | n + 1, x => do
    let y ← pairs A B C lanes row jj n x
    let a ← one A B C lanes row (Scalar.addi (Scalar.muli jj 16#32) (BitVec.ofNat 32 (2 * n))) y.1
    let b ← one A B C lanes row (Scalar.addi (Scalar.muli jj 16#32) (BitVec.ofNat 32 (2 * n + 1))) y.2
    pure (a, b)

abbrev lanes16 : IVec S16 32 := iota .scVector S16 32 [0] iota_S16_d0_w32_scVector

/-- Group `g`'s sixteen rows of a chunk. -/
def rowsOf (g : Fin k0_t1_loop.trips) : IVec S16 32 :=
  addi (broadcast S16 (Scalar.muli (Scalar.addi 0#32 (Scalar.muli (Scf.iv 0#32 1#32 g) 1#32)) 16#32)) lanes16

/-- One group of a chunk: its sixteen rows scored, and stored at `off g` of the tile's result buffer. -/
def group (A B C : Memref sig .scVector .vmem S64x128 .f32) (off : Fin k0_t1_loop.trips → Fin 1 → ℕ)
    (inb : ∀ g a, off g a + S16.size a ≤ S512.size a) (g : Fin k0_t1_loop.trips) :
    Prog (TpuEff nD τ sig (Elt F) Λ₀ (.scVector cc ss)) PUnit := do
  let x ← Scf.Loop.for k0_t2_loop k0_t2_ok
    ((broadcast S16 (Scalar.ofBits .f32 0x00000000#32), broadcast S16 (Scalar.ofBits .f32 0x00000000#32)) : FVec F S16 .f32 × FVec F S16 .f32)
    fun k x => pairs A B C lanes16 (rowsOf g) (Scf.iv 0#32 1#32 k) 8 x
  let _v : Vec F S16 .f32 ← Prog.lift (.load outV (Rect.unit (s := S512) (off g) S16.size (inb g)).toLoadRect (View.loadsAt_vmem h_S16))
  Prog.lift (.store outV (Rect.unit (s := S512) (off g) S16.size (inb g))
    (subf (broadcast S16 (Scalar.ofBits .f32 0x00000000#32)) (addf x.1 x.2)) Finset.univ (View.stores_vmem_bits_univ h_S16 rfl) (.inl rfl))
  pure ⟨⟩

/-- A chunk's four groups. -/
def chunk (A B C : Memref sig .scVector .vmem S64x128 .f32) (off : Fin k0_t1_loop.trips → Fin 1 → ℕ)
    (inb : ∀ g a, off g a + S16.size a ≤ S512.size a) : Prog (TpuEff nD τ sig (Elt F) Λ₀ (.scVector cc ss)) PUnit :=
  Scf.Loop.for k0_t1_loop k0_t1_ok ⟨⟩ fun g _ => group A B C off inb g

/-- Chunk `c`'s three gathers, into buffer set `i`. -/
def fire (c : Fin 8) (A B C : Memref sig .scVector .vmem S64x128 .f32) (sem : DmaSem sig) : Prog (TpuEff nD τ sig (Elt F) Λ₀ (.scVector cc ss)) PUnit := do
  SparseCore.enqueueIndirectGather rfl entAll A gathers_S100000x128_S64x128 (listRow hIdx c) rfl sem (View.wordExact_bits rfl) rfl (Or.inl rfl)
  SparseCore.enqueueIndirectGather rfl relAll B gathers_S1000x128_S64x128 (listRow rIdx c) rfl sem (View.wordExact_bits rfl) rfl (Or.inl rfl)
  SparseCore.enqueueIndirectGather rfl entAll C gathers_S100000x128_S64x128 (listRow tIdx c) rfl sem (View.wordExact_bits rfl) rfl (Or.inl rfl)

/-- Their three waits. -/
def await (A B C : Memref sig .scVector .vmem S64x128 .f32) (hA : A.IsWhole) (hB : B.IsWhole) (hC : C.IsWhole) (sem : DmaSem sig) :
    Prog (TpuEff nD τ sig (Elt F) Λ₀ (.scVector cc ss)) PUnit := do
  SparseCore.waitIndirectGather sem entAll A (View.wordExact_bits rfl) hA.wordExact
  SparseCore.waitIndirectGather sem relAll B (View.wordExact_bits rfl) hB.wordExact
  SparseCore.waitIndirectGather sem entAll C (View.wordExact_bits rfl) hC.wordExact

abbrev fireAt (c : Fin 8) (i : Fin 3) : Prog (TpuEff nD τ sig (Elt F) Λ₀ (.scVector cc ss)) PUnit :=
  fire c (bufH i) (bufR i) (bufT i) (ringSem i)
theorem bufH_whole : ∀ i, (bufH i).IsWhole | 0 => Memref.isWhole_whole _ | 1 => Memref.isWhole_whole _ | 2 => Memref.isWhole_whole _
theorem bufR_whole : ∀ i, (bufR i).IsWhole | 0 => Memref.isWhole_whole _ | 1 => Memref.isWhole_whole _ | 2 => Memref.isWhole_whole _
theorem bufT_whole : ∀ i, (bufT i).IsWhole | 0 => Memref.isWhole_whole _ | 1 => Memref.isWhole_whole _ | 2 => Memref.isWhole_whole _
abbrev awaitAt (i : Fin 3) : Prog (TpuEff nD τ sig (Elt F) Λ₀ (.scVector cc ss)) PUnit :=
  await (bufH i) (bufR i) (bufT i) (bufH_whole i) (bufR_whole i) (bufT_whole i) (ringSem i)
abbrev chunkAt (i : Fin 3) (off : Fin k0_t1_loop.trips → Fin 1 → ℕ)
    (inb : ∀ g a, off g a + S16.size a ≤ S512.size a) : Prog (TpuEff nD τ sig (Elt F) Λ₀ (.scVector cc ss)) PUnit :=
  chunk (bufH i) (bufR i) (bufT i) off inb

end Prog

/-- The three index copies and their waits. -/
def fetch (i : grid0.Coords) : Prog (TpuEff nD τ sig (Elt F) Λ₀ (.scVector ((i 0).castLE hcore0) ((i 1).castLE hsub0))) PUnit := do
  Prog.lift (.enqueueDma (idxRow i hArr) (.here hIdx) (.dma cc0_scratch16.sem) ((View.wordExact_bits rfl).reshape _ _) (Memref.isWhole_whole _).wordExact ⟨Or.inl rfl, trivial⟩)
  Prog.lift (.enqueueDma (idxRow i rArr) (.here rIdx) (.dma cc0_scratch16.sem) ((View.wordExact_bits rfl).reshape _ _) (Memref.isWhole_whole _).wordExact ⟨Or.inl rfl, trivial⟩)
  Prog.lift (.enqueueDma (idxRow i tArr) (.here tIdx) (.dma cc0_scratch16.sem) ((View.wordExact_bits rfl).reshape _ _) (Memref.isWhole_whole _).wordExact ⟨Or.inl rfl, trivial⟩)
  Prog.lift (.waitDma2 cc0_scratch16.sem (idxRow i hArr) hIdx ((View.wordExact_bits rfl).reshape _ _) (Memref.isWhole_whole _).wordExact)
  Prog.lift (.waitDma2 cc0_scratch16.sem (idxRow i rArr) rIdx ((View.wordExact_bits rfl).reshape _ _) (Memref.isWhole_whole _).wordExact)
  Prog.lift (.waitDma2 cc0_scratch16.sem (idxRow i tArr) tIdx ((View.wordExact_bits rfl).reshape _ _) (Memref.isWhole_whole _).wordExact)

/-- The result's copy out and its wait. -/
def writeOut (i : grid0.Coords) : Prog (TpuEff nD τ sig (Elt F) Λ₀ (.scVector ((i 0).castLE hcore0) ((i 1).castLE hsub0))) PUnit := do
  Prog.lift (.enqueueDma outV (.here (outRow i)) (.dma cc0_scoped0.sem) (Memref.isWhole_whole _).wordExact ((View.wordExact_bits rfl).reshape _ _) ⟨Or.inl rfl, trivial⟩)
  Prog.lift (.waitDma2 cc0_scoped0.sem outV (outRow i) (Memref.isWhole_whole _).wordExact ((View.wordExact_bits rfl).reshape _ _))

/-- The eight chunks, two kept in flight. -/
def ring {cc : Fin τ.nSC} {ss : Fin τ.nSub} : Prog (TpuEff nD τ sig (Elt F) Λ₀ (.scVector cc ss)) PUnit := do
  fireAt 0 0; fireAt 1 1
  awaitAt 0; fireAt 2 2; chunkAt 0 k0_off2 k0_off2_inb
  awaitAt 1; fireAt 3 0; chunkAt 1 k0_off3 k0_off3_inb
  awaitAt 2; fireAt 4 1; chunkAt 2 k0_off4 k0_off4_inb
  awaitAt 0; fireAt 5 2; chunkAt 0 k0_off5 k0_off5_inb
  awaitAt 1; fireAt 6 0; chunkAt 1 k0_off6 k0_off6_inb
  awaitAt 2; fireAt 7 1; chunkAt 2 k0_off7 k0_off7_inb
  awaitAt 0; chunkAt 0 k0_off8 k0_off8_inb
  awaitAt 1; chunkAt 1 k0_off9 k0_off9_inb

/-- The tile's program. -/
def tile (i : grid0.Coords) : Prog (TpuEff nD τ sig (Elt F) Λ₀ (.scVector ((i 0).castLE hcore0) ((i 1).castLE hsub0))) PUnit := do
  fetch i
  ring
  writeOut i

end Cert.Proof.Tile

end
-- ==== Proof.Score.lean ====
/-
  What a row's score is, in the order the tile adds it up: lane `l` of a group walks the 128 columns from column `l`
  round, the even steps in one accumulator and the odd ones in another, and the score is zero minus their sum.
-/
module

public import proofs.«01_k».proof.Proof.Program

@[expose] public section

noncomputable section

namespace Cert.Proof.Tile

open Cert.KernelIdeal Cert.KernelIdeal.Gen
open Idealize.ShloMosaic Idealize.SL.Sem

variable {F : FTy → Type} [FloatOps F]

/-- Step `j`'s column of lane `l`. -/
def colAt (l j : ℕ) : Fin 128 := ⟨(l + j) % 128, Nat.mod_lt _ (by decide)⟩

/-- What step `j` of lane `l` adds. -/
def stepTerm (h r t : Fin 128 → F .f32) (l j : ℕ) : F .f32 :=
  FloatOps.absf (FloatOps.subf (FloatOps.addf (h (colAt l j)) (r (colAt l j))) (t (colAt l j)))

def zeroF : F .f32 := Scalar.ofBits .f32 0x00000000#32

/-- The two accumulators after `n` pairs of steps. -/
def evens (h r t : Fin 128 → F .f32) (l : ℕ) : ℕ → F .f32
  | 0 => zeroF
  | n + 1 => FloatOps.addf (evens h r t l n) (stepTerm h r t l (2 * n))
def odds (h r t : Fin 128 → F .f32) (l : ℕ) : ℕ → F .f32
  | 0 => zeroF
  | n + 1 => FloatOps.addf (odds h r t l n) (stepTerm h r t l (2 * n + 1))

/-- A row's score, at lane `l`. -/
def score (h r t : Fin 128 → F .f32) (l : ℕ) : F .f32 :=
  FloatOps.subf zeroF (FloatOps.addf (evens h r t l 64) (odds h r t l 64))

/-- Row `r`, column `c` of a gather buffer; and a row of its contents. -/
def cell (r : Fin 64) (c : Fin 128) : S64x128.Idx := fun a => match a with | 0 => r | 1 => c
def line (f : S64x128.Idx → F .f32) (r : Fin 64) : Fin 128 → F .f32 := fun c => f (cell r c)

/-! ## The words the loads are indexed by -/

theorem trips_groups : k0_t1_loop.trips = 4 := by decide
theorem trips_steps : k0_t2_loop.trips = 8 := by decide

/-- Lane `x`'s row of group `g`. -/
def rowAt (g : Fin k0_t1_loop.trips) (x : S16.Idx) : Fin 64 :=
  ⟨16 * g.val + (x 0).val, by
    have h1 := lt_of_lt_of_eq g.isLt trips_groups; have h2 : (x 0).val < 16 := (x 0).isLt
    omega⟩

theorem iv_eq {n : ℕ} (k : Fin n) : Scf.iv 0#32 1#32 k = BitVec.ofNat 32 k.val := by
  unfold Scf.iv; simp

theorem lanes16_apply (x : S16.Idx) : lanes16 x = BitVec.ofNat 32 (x 0).val := by
  show BitVec.ofNat 32 (0 * 16 + (x 0).val) = _
  rw [Nat.zero_mul, Nat.zero_add]

theorem rowsOf_toNat (g : Fin k0_t1_loop.trips) (x : S16.Idx) : (rowsOf g x).toNat = (rowAt g x).val := by
  have h1 := lt_of_lt_of_eq g.isLt trips_groups
  have h2 : (x 0).val < 16 := (x 0).isLt
  show ((0#32 + Scf.iv 0#32 1#32 g * 1#32) * 16#32 + lanes16 x).toNat = 16 * g.val + (x 0).val
  rw [iv_eq, lanes16_apply]
  simp only [BitVec.toNat_add, BitVec.toNat_mul, BitVec.toNat_ofNat]
  omega

/-- The columns of step `j`. -/
def colsOf (j : ℕ) : IVec S16 32 := andi (addi lanes16 (broadcast S16 (BitVec.ofNat 32 j))) (broadcast S16 127#32)

theorem colsOf_toNat (j : ℕ) (hj : j < 1024) (x : S16.Idx) : (colsOf j x).toNat = (colAt (x 0).val j).val := by
  have h2 : (x 0).val < 16 := (x 0).isLt
  show ((lanes16 x + BitVec.ofNat 32 j) &&& 127#32).toNat = ((x 0).val + j) % 128
  rw [lanes16_apply, BitVec.toNat_and, show (127#32 : BitVec 32).toNat = 2 ^ 7 - 1 from rfl, Nat.and_two_pow_sub_one_eq_mod]
  simp only [BitVec.toNat_add, BitVec.toNat_ofNat]
  omega

theorem inb (g : Fin k0_t1_loop.trips) (j : ℕ) (hj : j < 1024) :
    ∀ a x, ((![rowsOf g, colsOf j] : Fin 2 → IVec S16 32) a x).toNat < S64x128.size a := by
  intro a x
  match a with
  | 0 => show (rowsOf g x).toNat < 64; rw [rowsOf_toNat]; exact (rowAt g x).isLt
  | 1 => show (colsOf j x).toNat < 128; rw [colsOf_toNat j hj]; exact (colAt _ _).isLt

theorem chk (g : Fin k0_t1_loop.trips) (j : ℕ) (hj : j < 1024) : k0_chk1 (rowsOf g) (colsOf j) :=
  ⟨inb g j hj, inb g j hj, inb g j hj⟩

/-- What a load at them reads of a buffer. -/
theorem loadIdx_apply (f : S64x128.Idx → F .f32) (g : Fin k0_t1_loop.trips) (j : ℕ) (hj : j < 1024)
    (h : ∀ a x, ((![rowsOf g, colsOf j] : Fin 2 → IVec S16 32) a x).toNat < S64x128.size a) (x : S16.Idx) :
    loadIdx (e := .f32) f ![rowsOf g, colsOf j] h x = line f (rowAt g x) (colAt (x 0).val j) := by
  show f _ = f _
  congr 1
  funext a
  match a with
  | 0 => exact Fin.ext (rowsOf_toNat g x)
  | 1 => exact Fin.ext (colsOf_toNat j hj x)

end Cert.Proof.Tile

end
-- ==== Proof.GatherBatch.lean ====
/-
  Several indirect gathers issued on ONE DMA semaphore before any of them is waited for: every row of every
  gather is one transfer of a counted batch, so the three gathers of a chunk are one batch of `3 * 64` rows and
  the three waits consume it a third at a time.
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic Idealize.ShloMosaic.SparseCore Idealize.ShloMosaic.Transfers
open Idealize.SL Idealize.SL.RA Idealize.SL.BI
open scoped Idealize.SL.BI
open Idealize.SL.BI.BIBase Idealize.SL.BI.Laws Idealize.SL.ProofMode Idealize.SL.Sem

section Pending

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Transfers `k, …, k + m - 1` of `n`. -/
def shiftEmb {n : ℕ} (k m : ℕ) (h : k + m ≤ n) : Fin m ↪ Fin n where
  toFun j := ⟨k + j.val, by have := j.isLt; omega⟩
  inj' a b e := Fin.ext (by have := congrArg Fin.val e; simp only at this; omega)

/-- The issue rights from the `k`-th on are the next `m` of them and those from the `k + m`-th on. -/
theorem bigSep_pending_add {n : ℕ} (Φ : Fin n → sProp 𝕄) (k m : ℕ) (h : k + m ≤ n) :
    bigSep (pending k) Φ = iprop(bigSep Finset.univ (fun j : Fin m => Φ (shiftEmb k m h j)) ∗ bigSep (pending (k + m)) Φ) := by
  classical
  have hp : pending (n := n) k = (Finset.univ.map (shiftEmb k m h)) ∪ pending (k + m) := by
    ext t
    simp only [pending, Finset.mem_filter, Finset.mem_univ, true_and, Finset.mem_union, Finset.mem_map]
    constructor
    · intro ht
      by_cases h' : k + m ≤ t.val
      · exact .inr h'
      · exact .inl ⟨⟨t.val - k, by omega⟩, Fin.ext (by show k + (t.val - k) = t.val; omega)⟩
    · rintro (⟨j, rfl⟩ | ht)
      · exact Nat.le_add_right _ _
      · omega
  have hd : Disjoint (Finset.univ.map (shiftEmb k m h)) (pending (n := n) (k + m)) := by
    refine Finset.disjoint_left.mpr fun t ht ht' => ?_
    obtain ⟨j, -, rfl⟩ := Finset.mem_map.mp ht
    have h1 : k + m ≤ k + j.val := (Finset.mem_filter.mp ht').2
    have := j.isLt
    omega
  rw [hp, BI.bigSep_union hd, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Entry `j` of a list read row-major. -/
def entryAt {o : ℕ} (hn : si.numel = o) (j : Fin o) : si.Idx := si.rowMajor.symm (j.cast hn.symm)

theorem entryAt_bijective {o : ℕ} (hn : si.numel = o) : Function.Bijective (entryAt (si := si) hn) :=
  si.rowMajor.symm.bijective.comp (finCongr hn.symm).bijective

/-- Row `j`'s part of a gather's operands, the destination at the contents `fT`: its row of the destination, its entry
    of the list, its piece of the source's share. At the contents before the gather it is what the row starts from; at
    those after it, what the row brings. -/
def rowGot (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fT : Buf (Elt F) (dst.view.loc c)) (fo : Buf (Elt F) (offs.view.loc c))
    (ho : 0 < s.size hg.axis') (j : Fin (s.size hg.axis')) : sProp 𝕄 :=
  iprop(((dst.view.loc c ↦[(dst.view.slice (s.rowRect hg.axis' j)).set]{fullShare} fT)
      ∗ (offs.view.loc c ↦[{offs.view.emb (entryAt hn j)}]{qo} fo)) ∗ (src.view.loc c ↦[src.view.set]{pieceOf q _ ho j} fs))

/-- The rows' parts together are the destination, the list's share and the source's share. -/
theorem rowGot_all (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (f : Buf (Elt F) (dst.view.loc c)) (fo : Buf (Elt F) (offs.view.loc c))
    (ho : 0 < s.size hg.axis') :
    bigSep Finset.univ (rowGot (Ix := Ix) (Name := Name) (U := U) (Lvl := Lvl) c src dst hg offs hn q qo fs f fo ho)
      = iprop(((dst.view.loc c ↦[dst.view.set]{fullShare} f) ∗ (offs.view.loc c ↦[offs.view.set]{qo} fo)) ∗ (src.view.loc c ↦[src.view.set]{q} fs)) := by
  refine ((BI.bigSep_sep _ _ _).trans (congrArg₂ _ (BI.bigSep_sep _ _ _) rfl)).trans ?_
  exact congrArg₂ _ (congrArg₂ _ (pointsTo_rows c _ _ _ f).symm (pointsTo_entries c _ _ (entryAt_bijective hn) qo fo).symm)
    (pointsTo_piecesOf _ fs ho q).symm

/-- All of a gather's rows: the destination at `fT`, the source's share and the list's back. -/
theorem rowGot_join (src : Memref sig c.2.kind sp s₀ e) (dst : Memref sig c.2.kind .vmem s e) (hg : s₀.Gathers a s)
    (offs : Memref sig c.2.kind .vmem si .i32) (hn : si.numel = s.size hg.axis') (q qo : PosShare TreeShare)
    (fs : Buf (Elt F) (src.view.loc c)) (fT : Buf (Elt F) (dst.view.loc c)) (fo : Buf (Elt F) (offs.view.loc c))
    (ho : 0 < s.size hg.axis') :
    bigSep Finset.univ (rowGot (Ix := Ix) (Name := Name) (U := U) (Lvl := Lvl) c src dst hg offs hn q qo fs fT fo ho)
      ⊢ iprop((dst.view.loc c ↦[dst.view.set]{fullShare} fT) ∗ (src.view.loc c ↦[src.view.set]{q} fs) ∗ (offs.view.loc c ↦[offs.view.set]{qo} fo)) := by
  rw [rowGot_all]
  iintro ⟨⟨Hd, Ho⟩, Hs⟩
  isplitl [Hd]; · iexact Hd
  isplitl [Hs] <;> iassumption

/-- A row written through its own view holds there what the whole destination holds once the gather's payload is written. -/
theorem row_written (src : Memref sig c.2.kind sp s₀ e) (dst : Memref sig c.2.kind .vmem s e) (hg : s₀.Gathers a s)
    (fs : Buf (Elt F) (src.view.loc c)) (fd fT : Buf (Elt F) (dst.view.loc c)) (r : Fin (s.size hg.axis') → Fin (s₀.size hg.axis))
    (hfT : ∀ i ∈ dst.view.set, dst.view.write (Elt F) fd (gatherPayload hg (src.view.read (Elt F) fs) r) Finset.univ i = fT i)
    (j : Fin (s.size hg.axis')) (i : Idx (dst.view.loc c)) (hi : i ∈ (dst.view.slice (s.rowRect hg.axis' j)).set) :
    (dst.view.slice (s.rowRect hg.axis' j)).write (Elt F) fd (fun x => src.view.read (Elt F) fs (hg.rowIdx (r j) x)) Finset.univ i = fT i := by
  obtain ⟨x, -, rfl⟩ := Finset.mem_map.mp hi
  refine (View.write_emb_of_mem (v := dst.view.slice (s.rowRect hg.axis' j)) fd _ (Finset.mem_univ x)).trans ?_
  refine Eq.trans ?_ (hfT (dst.view.emb ((s.rowRect hg.axis' j).emb x)) (Finset.mem_map_of_mem _ (Finset.mem_univ _)))
  refine Eq.trans ?_ (View.write_emb_of_mem (v := dst.view) fd _ (Finset.mem_univ ((s.rowRect hg.axis' j).emb x))).symm
  exact congrArg (fun y => cast _ (src.view.read (Elt F) fs y)) (Shape.Gathers.idx_rowRect_emb hg r j x).symm

/-- One row of a gather as transfer `t` of a batch: its part of the operands and the right to issue `t` are its entry of
    the list and, once that is back, what the transfer of the row asks for. -/
theorem row_ready [EC.LandsIn (upEmb : UEmb _ 𝕄)]
    (src : Memref sig c.2.kind sp s₀ e) (dst : Memref sig c.2.kind .vmem s e) (hg : s₀.Gathers a s)
    (offs : Memref sig c.2.kind .vmem si .i32) (hn : si.numel = s.size hg.axis') (sem : DmaSem sig)
    (hsrc : src.view.WordExact) (he : e.bits = 32) (hsp : sp = .hbm ∨ sp = .shared) (hr : s₀.StreamRows a)
    (q qo : PosShare TreeShare) (fs : Buf (Elt F) (src.view.loc c)) (fd fT : Buf (Elt F) (dst.view.loc c)) (fo : Buf (Elt F) (offs.view.loc c))
    {n N γ₀ : ℕ} {γ : Fin n → ℕ} {D : Fin n → sProp 𝕄} {κ : Name} (ho : 0 < s.size hg.axis') (r : Fin (s.size hg.axis') → Fin (s₀.size hg.axis))
    (j : Fin (s.size hg.axis')) (t : Fin n) (hN : (dst.slice (s.rowRect hg.axis' j) (s.stride_rowRect hg.axis' j)).view.dmaCredit = N)
    (hfT : ∀ i ∈ dst.view.set, dst.view.write (Elt F) fd (gatherPayload hg (src.view.read (Elt F) fs) r) Finset.univ i = fT i)
    (hD : rowGot c src dst hg offs hn q qo fs fT fo ho j ⊢ D t) :
    iprop(inv κ (batchBody EC (c, SemLoc.dma sem) N D γ γ₀) ∗ rowGot c src dst hg offs hn q qo fs fd fo ho j ∗ count EC (γ t) 0)
      ⊢ iprop((offs.view.loc c ↦[{offs.view.emb (entryAt hn j)}]{qo} fo)
          ∗ ((offs.view.loc c ↦[{offs.view.emb (entryAt hn j)}]{qo} fo) -∗ rowRes c (gatherRow c src dst hg sem hsrc he hsp hr j (r j)))) := by
  have back : iprop(((dst.view.loc c ↦[(dst.view.slice (s.rowRect hg.axis' j)).set]{fullShare}
        (dst.view.slice (s.rowRect hg.axis' j)).write (Elt F) fd (fun x => src.view.read (Elt F) fs (hg.rowIdx (r j) x)) Finset.univ)
      ∗ (offs.view.loc c ↦[{offs.view.emb (entryAt hn j)}]{qo} fo)) ∗ (src.view.loc c ↦[src.view.set]{pieceOf q _ ho j} fs)) ⊢ D t := by
    rw [pointsTo_congr (row_written c src dst hg fs fd fT r hfT j)]
    exact hD
  unfold rowGot rowRes
  iintro ⟨#Hbatch, ⟨⟨Hrow, Hentry⟩, Hpiece⟩, Hright⟩
  isplitl [Hentry]; · iexact Hentry
  iintro Hentry
  iexists pieceOf q _ ho j, fs, iprop((dst.view.loc c ↦[(dst.view.slice (s.rowRect hg.axis' j)).set]{fullShare}
      (dst.view.slice (s.rowRect hg.axis' j)).write (Elt F) fd (fun x => src.view.read (Elt F) fs (hg.rowIdx (r j) x)) Finset.univ)
    ∗ (offs.view.loc c ↦[{offs.view.emb (entryAt hn j)}]{qo} fo))
  isplitl [Hpiece]; · iexact Hpiece
  isplitl [Hrow Hentry]
  · iapply writeUpdate_frame
    isplitl [Hrow]
    · iapply (pointsTo_writeUpdate c (v := dst.view.slice (s.rowRect hg.axis' j)) subset_rfl) $$ Hrow
    · iexact Hentry
  · rw [show (gatherRow c src dst hg sem hsrc he hsp hr j (r j)).dst.view.amount (SemLoc.dma sem) = N from hN]
    iapply (batch_creditUpdate EC (D := D) t back)
    isplitr
    · iexact Hbatch
    · iexact Hright

/-- The issue of a gather whose rows are the next transfers of a batch: holding a share of the source, the
    destination outright, a share of the list (every word in range) and the batch with `k₀` transfers issued, the
    tile continues holding the batch with the gather's rows issued as well. Row `j`'s delivery at the contents `fT`
    — what the destination holds once all rows are in — must be the batch's delivery `k₀ + j`. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd fT : Buf (Elt F) (dst.view.loc c)} {fo : Buf (Elt F) (offs.view.loc c)}
    {n : ℕ} {D : Fin n → sProp 𝕄} {k₀ u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hfT : ∀ i ∈ dst.view.set, dst.view.write (Elt F) fd (gatherPayload hg (src.view.read (Elt F) fs) (rows (offs.view.read (Elt F) fo) hn hin)) Finset.univ i = fT i)
    (hroom : k₀ + s.size hg.axis' ≤ n) (hu : u ≤ k₀ * N)
    (hD : ∀ (j : Fin (s.size hg.axis')) (t : Fin n), t.val = k₀ + j.val → rowGot c src dst hg offs hn q qo fs fT fo ho j ⊢ D t) :
    iprop((src.view.loc c ↦[src.view.set]{q} fs) ∗ (dst.view.loc c ↦[dst.view.set]{fullShare} fd)
        ∗ (offs.view.loc c ↦[offs.view.set]{qo} fo) ∗ Batch EC c (.dma sem) ι N D k₀ u)
      ⊢ iprop((Batch EC c (.dma sem) ι N D (k₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j x => (rowOf (s₀.size hg.axis) x).map (gatherRow c src dst hg sem hsrc he hsp hr j)) 0
  have agree : S.RowsAgree := fun j x x' ρ ρ' h h' => by
    rcases Option.map_eq_some_iff.mp h with ⟨y, -, rfl⟩
    rcases Option.map_eq_some_iff.mp h' with ⟨y', -, rfl⟩
    rfl
  have served : ∀ j, S.row j (S.word fo j)
      = some (gatherRow c src dst hg sem hsrc he hsp hr j (rows (offs.view.read (Elt F) fo) hn hin j)) := fun j =>
    congrArg (Option.map _) (rowOf_of_lt (hin (entryAt hn j)))
  have units : (k₀ + s.size hg.axis') * N - u = (k₀ * N - u) + s.size hg.axis' * N := by rw [Nat.add_mul]; omega
  unfold Batch
  iintro ⟨Hsrc, Hdst, Hlist, ⟨%γ, %γ₀, %κ, #Hbatch, Hrights, Hwaited, Hunits⟩⟩ Hk
  ihave Hrows := (Entails.of_eq (rowGot_all c src dst hg offs hn q qo fs fd fo ho).symm) $$ [Hsrc Hdst Hlist]
  · isplitr [Hsrc]
    · isplitl [Hdst] <;> iassumption
    · iexact Hsrc
  ihave Hsplit := (Entails.of_eq (bigSep_pending_add (fun t => count EC (γ t) 0) k₀ (s.size hg.axis') hroom)) $$ Hrights
  icases Hsplit with ⟨Hnow, Hlater⟩
  iapply (wp_enqueueIndirectDma 𝒱 c bd Set.univ (qo := qo) (fo := fo) ι (s.size hg.axis' * N) agree served (sum_rowCredit_eq _ hN rfl)) $$ [Hrows Hnow]
  · unfold Stream.res
    iapply (Transfers.bigSep_mono_pers Finset.univ (inv κ (batchBody EC (c, SemLoc.dma sem) N D γ γ₀)) _ _ fun j _ =>
      row_ready EC c src dst hg offs hn sem hsrc he hsp hr q qo fs fd fT fo ho _ j (shiftEmb k₀ _ hroom j) (hN j) hfT (hD j _ rfl))
    isplitr; · iexact Hbatch
    iapply (Transfers.bigSep_sep_in _ _ _)
    isplitl [Hrows] <;> iassumption
  iintro Hmore
  iapply Hk
  iexists γ, γ₀, κ
  isplitr; · iexact Hbatch
  isplitl [Hlater]; · iexact Hlater
  isplitl [Hwaited]; · iexact Hwaited
  rw [units, ← tallyAt_add]
  icombine Hunits Hmore as H
  iexact H

end Cert.Proof.GatherBatch
-- ==== Proof.Setup.lean ====
/-
  The launch as the proof names it: the configuration, the variants, and the resource algebra.
-/
module

public import proofs.«01_k».proof.Proof.Score
public import proofs.«01_k».proof.Proof.GatherBatch
public import Idealize.ShloMosaic.Lib.SparseCore.Quiescent
public import Idealize.ShloMosaic.Lib.StableHlo.Run
public import Idealize.ShloMosaic.Lib.Pipeline.Kit

@[expose] public section

noncomputable section

namespace Cert.Proof.Tile

open Cert.KernelIdeal Cert.KernelIdeal.Gen
open Idealize.ShloMosaic Idealize.SL Idealize.SL.RA Idealize.SL.BI Idealize.SL.Sem
open Idealize.ShloMosaic.SparseCore (S V T)
open Idealize.ShloMosaic.SparseCore.Cfg (HIx)
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds and the transfers' counters. -/
abbrev UH : Type := URounds (GSem nD τ sig) ℕ
abbrev UU : Type := UH × Counters
abbrev EH : Emb UH (MT nD τ sig (HIx 1) (Elt F) ℕ UU ℕ) := embL
abbrev EC : UEmb Counters (MT nD τ sig (HIx 1) (Elt F) ℕ UU ℕ) := countersEmb

/-- What a thread of the launch holds. -/
abbrev HP (F : FTy → Type) : Type := sProp (MT nD τ sig (HIx 1) (Elt F) ℕ UU ℕ)

end Cert.Proof.Tile

end
-- ==== Proof.Compute.lean ====
/-
  The group loops: holding a chunk's rows in the three gather buffers, the tile leaves their scores in its result
  buffer.
-/
module

public import proofs.«01_k».proof.Proof.Setup

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)
open Idealize.ShloMosaic.Tactic

variable {F : FTy → Type} [FloatOps F]

local notation "𝕄" => MT nD τ sig (HIx 1) (Elt F) ℕ UU ℕ

variable (d : Dev nD) (cc : Fin τ.nSC) (ss : Fin τ.nSub)

/-- A gather buffer whole. -/
abbrev bufPts (A : Memref sig .scVector .vmem S64x128 .f32) (f : Buf (Elt F) ((A.access (.whole S64x128)).loc (V d cc ss))) : HP F :=
  (A.access (.whole S64x128)).loc (V d cc ss) ↦{fullShare} f

variable (A B C : Memref sig .scVector .vmem S64x128 .f32)
  (fA : Buf (Elt F) ((A.access (.whole S64x128)).loc (V d cc ss)))
  (fB : Buf (Elt F) ((B.access (.whole S64x128)).loc (V d cc ss)))
  (fC : Buf (Elt F) ((C.access (.whole S64x128)).loc (V d cc ss)))

/-- The three buffers of a chunk. -/
abbrev bufs3 : HP F := iprop(bufPts d cc ss A fA ∗ bufPts d cc ss B fB ∗ bufPts d cc ss C fC)

/-- Row `r` of a buffer's contents. -/
abbrev lineOf (f : Buf (Elt F) ((A.access (.whole S64x128)).loc (V d cc ss))) (r : Fin 64) : Fin 128 → F .f32 :=
  line ((A.access (.whole S64x128)).read (Elt F) f) r

/-- What step `j` adds in lane `x` of group `g`. -/
abbrev stepAt (g : Fin k0_t1_loop.trips) (j : ℕ) (x : S16.Idx) : F .f32 :=
  stepTerm (lineOf d cc ss A fA (rowAt g x)) (lineOf d cc ss B fB (rowAt g x)) (lineOf d cc ss C fC (rowAt g x)) (x 0).val j

variable {α : Type} {Q : α → HP F}

theorem one_value (g : Fin k0_t1_loop.trips) (j : ℕ) (hj : j < 1024) (acc : FVec F S16 .f32)
    (h : ∀ a x, ((![rowsOf g, andi (addi lanes16 (broadcast S16 (BitVec.ofNat 32 j))) (broadcast S16 127#32)] : Fin 2 → IVec S16 32) a x).toNat < S64x128.size a) :
    addf acc (absf (subf (addf (loadIdx (e := .f32) ((A.access (.whole S64x128)).read (Elt F) fA) ![rowsOf g, andi (addi lanes16 (broadcast S16 (BitVec.ofNat 32 j))) (broadcast S16 127#32)] h)
        (loadIdx (e := .f32) ((B.access (.whole S64x128)).read (Elt F) fB) ![rowsOf g, andi (addi lanes16 (broadcast S16 (BitVec.ofNat 32 j))) (broadcast S16 127#32)] h))
      (loadIdx (e := .f32) ((C.access (.whole S64x128)).read (Elt F) fC) ![rowsOf g, andi (addi lanes16 (broadcast S16 (BitVec.ofNat 32 j))) (broadcast S16 127#32)] h)))
      = fun x => FloatOps.addf (acc x) (stepAt d cc ss A B C fA fB fC g j x) := by
  funext x
  exact congrArg (FloatOps.addf (acc x)) (congrArg FloatOps.absf (congrArg₂ FloatOps.subf
    (congrArg₂ FloatOps.addf (loadIdx_apply ((A.access (.whole S64x128)).read (Elt F) fA) g j hj h x)
      (loadIdx_apply ((B.access (.whole S64x128)).read (Elt F) fB) g j hj h x))
    (loadIdx_apply ((C.access (.whole S64x128)).read (Elt F) fC) g j hj h x)))

theorem one_wp (g : Fin k0_t1_loop.trips) (j : ℕ) (hj : j < 1024) (acc : FVec F S16 .f32)
    (k : FVec F S16 .f32 → Prog (TpuEff nD τ sig (Elt F) Λ₀ (.scVector cc ss)) α) :
    bufs3 d cc ss A B C fA fB fC
      ⊢ iprop((bufs3 d cc ss A B C fA fB fC
          -∗ wp frame (wpE (defs₀ (F := F)) 𝒱₀ (V d cc ss) none) Set.univ
            (k (fun x => FloatOps.addf (acc x) (stepAt d cc ss A B C fA fB fC g j x))) Q)
        -∗ wp frame (wpE (defs₀ (F := F)) 𝒱₀ (V d cc ss) none) Set.univ
            (one A B C lanes16 (rowsOf g) (BitVec.ofNat 32 j) acc >>= k) Q) := by
  unfold one
  simp only [bind_assoc, pure_bind, Prog.bind_lift, Prog.bind_op]
  rw [wp_assume_of 𝒱₀ (V d cc ss) none Set.univ (show k0_chk1 (rowsOf g) (andi (addi lanes16 (broadcast S16 (BitVec.ofNat 32 j))) (broadcast S16 127#32)) from chk g j hj)]
  iintro ⟨HA, HB, HC⟩ Hk
  iapply (SparseCore.wp_vectorLoadIdx 𝒱₀ (V d cc ss) none Set.univ (Finset.subset_univ _)) $$ HA
  iintro HA
  iapply (SparseCore.wp_vectorLoadIdx 𝒱₀ (V d cc ss) none Set.univ (Finset.subset_univ _)) $$ HB
  iintro HB
  iapply (SparseCore.wp_vectorLoadIdx 𝒱₀ (V d cc ss) none Set.univ (Finset.subset_univ _)) $$ HC
  iintro HC
  rw [one_value d cc ss A B C fA fB fC g j hj acc]
  iapply Hk
  isplitl [HA]; · iexact HA
  isplitl [HB]; · iexact HB
  iexact HC

theorem word_eq (q n : ℕ) : Scalar.addi (Scalar.muli (BitVec.ofNat 32 q) 16#32) (BitVec.ofNat 32 n) = BitVec.ofNat 32 (16 * q + n) := by
  show BitVec.ofNat 32 q * BitVec.ofNat 32 16 + BitVec.ofNat 32 n = _
  rw [← BitVec.ofNat_mul, ← BitVec.ofNat_add, Nat.mul_comm]

/-- The two accumulators after `n` pairs of steps, in every lane. -/
def accs (g : Fin k0_t1_loop.trips) (n : ℕ) : FVec F S16 .f32 × FVec F S16 .f32 :=
  (fun x => evens (lineOf d cc ss A fA (rowAt g x)) (lineOf d cc ss B fB (rowAt g x)) (lineOf d cc ss C fC (rowAt g x)) (x 0).val n,
   fun x => odds (lineOf d cc ss A fA (rowAt g x)) (lineOf d cc ss B fB (rowAt g x)) (lineOf d cc ss C fC (rowAt g x)) (x 0).val n)

theorem accs_succ (g : Fin k0_t1_loop.trips) (n : ℕ) :
    (((fun x => FloatOps.addf ((accs d cc ss A B C fA fB fC g n).1 x) (stepAt d cc ss A B C fA fB fC g (2 * n) x)),
      (fun x => FloatOps.addf ((accs d cc ss A B C fA fB fC g n).2 x) (stepAt d cc ss A B C fA fB fC g (2 * n + 1) x))) : FVec F S16 .f32 × FVec F S16 .f32)
      = accs d cc ss A B C fA fB fC g (n + 1) := rfl

theorem pairs_wp (g : Fin k0_t1_loop.trips) (q : ℕ) (hq : q < 8) (n : ℕ) (hn : n ≤ 8) :
    ∀ (k : FVec F S16 .f32 × FVec F S16 .f32 → Prog (TpuEff nD τ sig (Elt F) Λ₀ (.scVector cc ss)) α),
    bufs3 d cc ss A B C fA fB fC
      ⊢ iprop((bufs3 d cc ss A B C fA fB fC
          -∗ wp frame (wpE (defs₀ (F := F)) 𝒱₀ (V d cc ss) none) Set.univ (k (accs d cc ss A B C fA fB fC g (8 * q + n))) Q)
        -∗ wp frame (wpE (defs₀ (F := F)) 𝒱₀ (V d cc ss) none) Set.univ
            (pairs A B C lanes16 (rowsOf g) (BitVec.ofNat 32 q) n (accs d cc ss A B C fA fB fC g (8 * q)) >>= k) Q) := by
  induction n with
  | zero =>
    intro k
    iintro H Hk
    iapply Hk; iexact H
  | succ n ih =>
    intro k
    unfold pairs
    simp only [bind_assoc, pure_bind]
    iintro H Hk
    iapply (ih (by omega) _) $$ H
    iintro H
    rw [word_eq, word_eq]
    iapply (one_wp d cc ss A B C fA fB fC g _ (by omega) _ _) $$ H
    iintro H
    iapply (one_wp d cc ss A B C fA fB fC g _ (by omega) _ _) $$ H
    iintro H
    rw [show 16 * q + 2 * n = 2 * (8 * q + n) by omega, show 16 * q + (2 * n + 1) = 2 * (8 * q + n) + 1 by omega, accs_succ]
    iapply Hk; iexact H

/-! ## A group's store -/

def laneOf (n : Fin 16) : S16.Idx := fun a => match a with | 0 => n

/-- The position of lane `x` in the sixteen from `n`. -/
theorem store_hit (f : Buf (Elt F) (outV.view.loc (V d cc ss))) (off : Fin 1 → ℕ) (inb : ∀ a, off a + S16.size a ≤ S512.size a)
    (w : S16.Idx → Elt F .f32) (x : S512.Idx) (l : S16.Idx) (h : (x 0).val = off 0 + (l 0).val) :
    (outV.access (Rect.unit (s := S512) off S16.size inb)).write (Elt F) f w Finset.univ x = w l := by
  have e : (outV.access (Rect.unit (s := S512) off S16.size inb)).emb l = x := by
    funext a
    match a with
    | 0 => exact Fin.ext (by
        show off 0 + 1 * (l 0).val = (x 0).val
        omega)
  rw [← e]
  exact (View.write_emb_of_mem _ _ (Finset.mem_univ l)).trans (cast_eq _ _)

theorem store_miss (f : Buf (Elt F) (outV.view.loc (V d cc ss))) (off : Fin 1 → ℕ) (inb : ∀ a, off a + S16.size a ≤ S512.size a)
    (w : S16.Idx → Elt F .f32) (x : S512.Idx) (h : (x 0).val < off 0) :
    (outV.access (Rect.unit (s := S512) off S16.size inb)).write (Elt F) f w Finset.univ x = f x := by
  refine View.write_of_not_mem _ _ _ fun hm => ?_
  obtain ⟨l, -, e⟩ := Finset.mem_map.mp hm
  have h0 : off 0 + 1 * (l 0).val = (x 0).val := congrArg (fun y : S512.Idx => (y 0).val) e
  omega

variable (G : Buf (Elt F) (outV.view.loc (V d cc ss)))

/-- The result buffer, its first `n` elements scored. -/
def scored (n : ℕ) : HP F :=
  iprop(∃ f : Buf (Elt F) (outV.view.loc (V d cc ss)), (outV.view.loc (V d cc ss) ↦{fullShare} f) ∗ ⌜∀ x : S512.Idx, (x 0).val < n → f x = G x⌝)

/-- Row `r` of a chunk scored. -/
abbrev rowScore (r : Fin 64) : F .f32 :=
  score (lineOf d cc ss A fA r) (lineOf d cc ss B fB r) (lineOf d cc ss C fC r) (r.val % 16)

theorem accs_score (g : Fin k0_t1_loop.trips) (l : S16.Idx) :
    FloatOps.subf zeroF (FloatOps.addf ((accs d cc ss A B C fA fB fC g 64).1 l) ((accs d cc ss A B C fA fB fC g 64).2 l))
      = rowScore d cc ss A B C fA fB fC (rowAt g l) := by
  have h2 : (l 0).val < 16 := (l 0).isLt
  have e : (rowAt g l).val % 16 = (l 0).val := by
    show (16 * g.val + (l 0).val) % 16 = (l 0).val
    omega
  unfold rowScore score accs
  rw [e]

set_option maxHeartbeats 1000000 in
theorem group_wp (c : ℕ) (off : Fin k0_t1_loop.trips → Fin 1 → ℕ) (inb : ∀ g a, off g a + S16.size a ≤ S512.size a)
    (hoff : ∀ g, off g 0 = 64 * c + 16 * g.val)
    (hG : ∀ (r : Fin 64) (x : S512.Idx), (x 0).val = 64 * c + r.val → G x = rowScore d cc ss A B C fA fB fC r)
    (g : Fin k0_t1_loop.trips) :
    iprop(bufs3 d cc ss A B C fA fB fC ∗ scored d cc ss G (64 * c + 16 * g.val))
      ⊢ wp frame (wpE (defs₀ (F := F)) 𝒱₀ (V d cc ss) none) Set.univ
          (group A B C off inb g)
          fun _ => iprop(bufs3 d cc ss A B C fA fB fC ∗ scored d cc ss G (64 * c + 16 * (g.val + 1))) := by
  unfold group scored
  iintro ⟨H, ⟨%f, Ho, %hf⟩⟩
  iapply (Scf.wp_for_bind frame (wpE (defs₀ (F := F)) 𝒱₀ (V d cc ss) none) Set.univ _ _ _ k0_t2_ok _ _
    (fun n acc => iprop(⌜acc = accs d cc ss A B C fA fB fC g (8 * n)⌝ ∗ bufs3 d cc ss A B C fA fB fC)) ?_) $$ [H]
  · intro k acc
    iintro ⟨%e, H⟩
    subst e
    rw [iv_eq, ← bind_pure (pairs _ _ _ _ _ _ _ _)]
    iapply (pairs_wp d cc ss A B C fA fB fC g k.val (lt_of_lt_of_eq k.isLt trips_steps) 8 (Nat.le_refl _) _) $$ H
    iintro H
    rw [Prog.pure_eq_ret, wp_ret]
    imodintro
    isplitr; · ipureintro; rw [Nat.mul_add, Nat.mul_one]
    iexact H
  · isplitr; · ipureintro; rfl
    iexact H
  iintro %acc ⟨%e, H⟩
  rw [show Scf.trips _ _ _ = 8 from trips_steps] at e
  subst e
  simp only [Prog.bind_lift]
  iapply (wp_load_rect 𝒱₀ (V d cc ss) none Set.univ (m := outV) (r := Rect.unit (s := S512) (off g) S16.size (inb g)) (f := f) (Finset.subset_univ _)) $$ Ho
  iintro Ho
  iapply (wp_store 𝒱₀ (V d cc ss) none Set.univ (m := outV) (r := Rect.unit (s := S512) (off g) S16.size (inb g)) (f := f) (Finset.subset_univ _)) $$ Ho
  iintro Ho
  rw [Prog.pure_eq_ret, wp_ret]
  imodintro
  isplitl [H]; · iexact H
  iexists _
  isplitl [Ho]; · iexact Ho
  ipureintro
  intro x hx
  by_cases hlt : (x 0).val < 64 * c + 16 * g.val
  · rw [store_miss d cc ss f (off g) (inb g) _ x (by rw [hoff]; exact hlt)]
    exact hf x hlt
  · have hl : (x 0).val - (64 * c + 16 * g.val) < 16 := by omega
    rw [store_hit d cc ss f (off g) (inb g) _ x (laneOf ⟨(x 0).val - (64 * c + 16 * g.val), hl⟩) (by rw [hoff]; show _ = _ + ((x 0).val - _); omega)]
    rw [hG (rowAt g (laneOf ⟨(x 0).val - (64 * c + 16 * g.val), hl⟩)) x (by
      show (x 0).val = 64 * c + (16 * g.val + ((x 0).val - (64 * c + 16 * g.val))); omega)]
    exact accs_score d cc ss A B C fA fB fC g _

/-- A chunk's scores. -/
theorem chunk_wp (c : ℕ) (off : Fin k0_t1_loop.trips → Fin 1 → ℕ) (inb : ∀ g a, off g a + S16.size a ≤ S512.size a)
    (hoff : ∀ g, off g 0 = 64 * c + 16 * g.val)
    (hG : ∀ (r : Fin 64) (x : S512.Idx), (x 0).val = 64 * c + r.val → G x = rowScore d cc ss A B C fA fB fC r)
    (k : PUnit → Prog (TpuEff nD τ sig (Elt F) Λ₀ (.scVector cc ss)) α) :
    iprop(bufs3 d cc ss A B C fA fB fC ∗ scored d cc ss G (64 * c))
      ⊢ iprop((iprop(bufs3 d cc ss A B C fA fB fC ∗ scored d cc ss G (64 * (c + 1)))
          -∗ wp frame (wpE (defs₀ (F := F)) 𝒱₀ (V d cc ss) none) Set.univ (k ⟨⟩) Q)
        -∗ wp frame (wpE (defs₀ (F := F)) 𝒱₀ (V d cc ss) none) Set.univ (chunk A B C off inb >>= k) Q) := by
  unfold chunk
  iintro H Hk
  iapply (Scf.wp_for_bind frame (wpE (defs₀ (F := F)) 𝒱₀ (V d cc ss) none) Set.univ _ _ _ k0_t1_ok _ _
    (fun n _ => iprop(bufs3 d cc ss A B C fA fB fC ∗ scored d cc ss G (64 * c + 16 * n)))
    (fun g _ => group_wp d cc ss A B C fA fB fC G c off inb hoff hG g)) $$ [H]
  · iexact H
  iintro %_ H
  rw [show Scf.trips _ _ _ = 4 from trips_groups]
  iapply Hk
  rw [show 64 * (c + 1) = 64 * c + 16 * 4 by omega]
  iexact H

end Cert.Proof.Tile

end
-- ==== Proof.Gathers.lean ====
/-
  A chunk's three gathers, from their issue to their last wait: the row buffers come back holding the table rows the
  chunk's lists name, and the tables' shares and the lists come back as they went in.
-/
module

public import proofs.«01_k».proof.Proof.Compute

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (S V T gatherPayload rows)
open Idealize.ShloMosaic.SparseCore.Cfg (HIx)
open Idealize.ShloMosaic.Transfers (Batch)
open Idealize.ShloMosaic.Tactic
open Cert.Proof.GatherBatch

variable {F : FTy → Type} [FloatOps F]

local notation "𝕄" => MT nD τ sig (HIx 1) (Elt F) ℕ UU ℕ

/-! ## What the gathers read -/

/-- Entry `r` of chunk `c`'s list; row `e` of a table. -/
def at2 (c : Fin 8) (r : Fin 64) : S8x64.Idx := fun a => match a with | 0 => c | 1 => r
def entCell (e : Fin 100000) (c : Fin 128) : S100000x128.Idx := fun a => match a with | 0 => e | 1 => c
def relCell (e : Fin 1000) (c : Fin 128) : S1000x128.Idx := fun a => match a with | 0 => e | 1 => c

theorem listRow_emb (b : Memref sig .scVector .vmem S8x64 .i32) (c : Fin 8) (x : S64.Idx) :
    (listRow b c).view.emb x = b.view.emb (at2 c (x 0)) := by
  have e : Shape.reshapeEquiv squeezes_S1x64_S64.numel_eq x = (fun a => match a with | 0 => (0 : Fin 1) | 1 => x 0 : S1x64.Idx) := by
    refine Shape.reshapeEquiv_eq_of_rowMajor _ ?_
    refine (Shape.rowMajor_val_two _).trans (Eq.trans ?_ (Shape.rowMajor_val_one _).symm)
    show 0 * 64 + (x 0).val = (x 0).val
    omega
  show b.view.emb ((Rect.unit (s := S8x64) ![c.val, 0] S1x64.size (row_inb c)).emb (Shape.reshapeEquiv squeezes_S1x64_S64.numel_eq x)) = _
  rw [e]
  congr 1
  funext a
  match a with
  | 0 => exact Fin.ext (by show c.val + 1 * 0 = c.val; omega)
  | 1 => exact Fin.ext (by show 0 + 1 * (x 0).val = (x 0).val; omega)

theorem listRow_read (b : Memref sig .scVector .vmem S8x64 .i32) (c : Fin 8) (f : b.view.ty.Contents (Elt F)) (x : S64.Idx) :
    (listRow b c).view.read (Elt F) f x = b.view.read (Elt F) f (at2 c (x 0)) := by
  rw [View.read_apply, View.read_apply]
  show cast _ (f ((listRow b c).view.emb x)) = _
  rw [listRow_emb]

theorem entry_zero (k : Fin 64) : (S64.rowMajor.symm (k.cast rfl) 0).val = k.val := by
  have h := Shape.rowMajor_val_one (S64.rowMajor.symm (k.cast rfl))
  rw [← h]
  show (S64.rowMajor (S64.rowMajor.symm _)).val = _
  rw [Equiv.apply_symm_apply]
  rfl

theorem rows_val {z : ℕ} (b : Memref sig .scVector .vmem S8x64 .i32) (c : Fin 8) (f : b.view.ty.Contents (Elt F))
    (hin : ∀ x, ((listRow b c).view.read (Elt F) f x).toNat < z) (k : Fin 64) :
    (rows ((listRow b c).view.read (Elt F) f) rfl hin k : Fin z).val = (b.view.read (Elt F) f (at2 c k)).toNat := by
  show ((listRow b c).view.read (Elt F) f (S64.rowMajor.symm (k.cast rfl))).toNat = _
  rw [listRow_read]
  congr 3
  exact Fin.ext (entry_zero k)

theorem ent_emb (y : S100000x128.Idx) : entAll.view.emb y = y := by
  funext a
  match a with
  | 0 => exact Fin.ext (by show 0 + 1 * (y 0).val = (y 0).val; omega)
  | 1 => exact Fin.ext (by show 0 + 1 * (y 1).val = (y 1).val; omega)

theorem rel_emb (y : S1000x128.Idx) : relAll.view.emb y = y := by
  funext a
  match a with
  | 0 => exact Fin.ext (by show 0 + 1 * (y 0).val = (y 0).val; omega)
  | 1 => exact Fin.ext (by show 0 + 1 * (y 1).val = (y 1).val; omega)

/-- Row `r`, column `col` of what a gather of the entity table brings. -/
theorem ent_payload (fE : S100000x128.Idx → Elt F .f32) (b : Memref sig .scVector .vmem S8x64 .i32) (c : Fin 8) (f : b.view.ty.Contents (Elt F))
    (hin : ∀ x, ((listRow b c).view.read (Elt F) f x).toNat < 100000) (H : Fin 8 → Fin 64 → Fin 100000)
    (hH : ∀ r, (b.view.read (Elt F) f (at2 c r)).toNat = (H c r).val) (r : Fin 64) (col : Fin 128) :
    gatherPayload gathers_S100000x128_S64x128 (entAll.view.read (Elt F) fE) (rows ((listRow b c).view.read (Elt F) f) rfl hin) (cell r col)
      = fE (entCell (H c r) col) := by
  show fE (entAll.view.emb _) = _
  rw [ent_emb]
  congr 1
  funext a
  match a with
  | 0 => exact Fin.ext ((rows_val b c f hin r).trans (hH r))
  | 1 => rfl

/-- The same of the relation table. -/
theorem rel_payload (fR : S1000x128.Idx → Elt F .f32) (b : Memref sig .scVector .vmem S8x64 .i32) (c : Fin 8) (f : b.view.ty.Contents (Elt F))
    (hin : ∀ x, ((listRow b c).view.read (Elt F) f x).toNat < 1000) (H : Fin 8 → Fin 64 → Fin 1000)
    (hH : ∀ r, (b.view.read (Elt F) f (at2 c r)).toNat = (H c r).val) (r : Fin 64) (col : Fin 128) :
    gatherPayload gathers_S1000x128_S64x128 (relAll.view.read (Elt F) fR) (rows ((listRow b c).view.read (Elt F) f) rfl hin) (cell r col)
      = fR (relCell (H c r) col) := by
  show fR (relAll.view.emb _) = _
  rw [rel_emb]
  congr 1
  funext a
  match a with
  | 0 => exact Fin.ext ((rows_val b c f hin r).trans (hH r))
  | 1 => rfl

theorem hin_of {z : ℕ} (b : Memref sig .scVector .vmem S8x64 .i32) (c : Fin 8) (f : b.view.ty.Contents (Elt F))
    (H : Fin 8 → Fin 64 → Fin z) (hH : ∀ r, (b.view.read (Elt F) f (at2 c r)).toNat = (H c r).val) :
    ∀ x, ((listRow b c).view.read (Elt F) f x).toNat < z := by
  intro x
  rw [listRow_read]
  exact lt_of_eq_of_lt (hH (x 0)) (H c (x 0)).isLt

/-- A gather buffer written whole, read by rows. -/
theorem lineOf_write (d : Dev nD) (cc : Fin τ.nSC) (ss : Fin τ.nSub) (A : Memref sig .scVector .vmem S64x128 .f32)
    (f : Buf (Elt F) (A.view.loc (V d cc ss))) (w : S64x128.Idx → Elt F .f32) (r : Fin 64) :
    lineOf d cc ss A (A.view.write (Elt F) f w Finset.univ) r = fun c => w (cell r c) := by
  funext c
  show (A.access (.whole S64x128)).read (Elt F) (A.view.write (Elt F) f w Finset.univ) (cell r c) = _
  rw [View.read_apply]
  have e : (A.access (.whole S64x128)).emb (cell r c) = A.view.emb (cell r c) := by
    show A.view.emb ((Rect.whole S64x128).emb (cell r c)) = _
    congr 1
    funext a
    exact Fin.ext (by show 0 + 1 * (cell r c a).val = _; omega)
  rw [e, View.write_emb_of_mem _ _ (Finset.mem_univ _), cast_cast, cast_eq]

/-! ## A chunk's batch -/

theorem rows_pos : 0 < S64x128.size gathers_S100000x128_S64x128.axis' := by decide
theorem rows_pos' : 0 < S64x128.size gathers_S1000x128_S64x128.axis' := by decide

variable (d : Dev nD) (cc : Fin τ.nSC) (ss : Fin τ.nSub)
  (fE : Buf (Elt F) (entAll.view.loc (V d cc ss))) (fR : Buf (Elt F) (relAll.view.loc (V d cc ss)))
  (fh : Buf (Elt F) (hIdx.view.loc (V d cc ss))) (fr : Buf (Elt F) (rIdx.view.loc (V d cc ss))) (ft : Buf (Elt F) (tIdx.view.loc (V d cc ss)))
  (c : Fin 8) (q0 q1 q2 : PosShare TreeShare)
  (A B C : Memref sig .scVector .vmem S64x128 .f32)

/-- What a chunk's gathers take besides their buffers: shares of the two tables and the chunk's row of each list. -/
def feed : HP F :=
  iprop(((entAll.view.loc (V d cc ss) ↦[entAll.view.set]{q0} fE) ∗ ((listRow hIdx c).view.loc (V d cc ss) ↦[(listRow hIdx c).view.set]{fullShare} fh))
    ∗ ((relAll.view.loc (V d cc ss) ↦[relAll.view.set]{q1} fR) ∗ ((listRow rIdx c).view.loc (V d cc ss) ↦[(listRow rIdx c).view.set]{fullShare} fr))
    ∗ ((entAll.view.loc (V d cc ss) ↦[entAll.view.set]{q2} fE) ∗ ((listRow tIdx c).view.loc (V d cc ss) ↦[(listRow tIdx c).view.set]{fullShare} ft)))

/-- Row `j` of stream `g` in. -/
def gotAt (fA : Buf (Elt F) (A.view.loc (V d cc ss))) (fB : Buf (Elt F) (B.view.loc (V d cc ss))) (fC : Buf (Elt F) (C.view.loc (V d cc ss)))
    (g : Fin 3) (j : Fin 64) : HP F :=
  match g with
  | 0 => rowGot (V d cc ss) entAll A gathers_S100000x128_S64x128 (listRow hIdx c) rfl q0 fullShare fE fA fh rows_pos j
  | 1 => rowGot (V d cc ss) relAll B gathers_S1000x128_S64x128 (listRow rIdx c) rfl q1 fullShare fR fB fr rows_pos' j
  | 2 => rowGot (V d cc ss) entAll C gathers_S100000x128_S64x128 (listRow tIdx c) rfl q2 fullShare fE fC ft rows_pos j

/-- The batch's deliveries, stream by stream. -/
def got (fA : Buf (Elt F) (A.view.loc (V d cc ss))) (fB : Buf (Elt F) (B.view.loc (V d cc ss))) (fC : Buf (Elt F) (C.view.loc (V d cc ss)))
    (t : Fin (3 * 64)) : HP F :=
  gotAt d cc ss fE fR fh fr ft c q0 q1 q2 A B C fA fB fC (finProdFinEquiv.symm t).1 (finProdFinEquiv.symm t).2

instance got_storable (fA : Buf (Elt F) (A.view.loc (V d cc ss))) (fB : Buf (Elt F) (B.view.loc (V d cc ss))) (fC : Buf (Elt F) (C.view.loc (V d cc ss)))
    (t : Fin (3 * 64)) : BI.Storable (upEmb : UEmb _ 𝕄) (got d cc ss fE fR fh fr ft c q0 q1 q2 A B C fA fB fC t) := by
  unfold got gotAt rowGot
  split <;> infer_instance

theorem got_of (fA : Buf (Elt F) (A.view.loc (V d cc ss))) (fB : Buf (Elt F) (B.view.loc (V d cc ss))) (fC : Buf (Elt F) (C.view.loc (V d cc ss)))
    (g : Fin 3) (j : Fin 64) (t : Fin (3 * 64)) (h : t.val = g.val * 64 + j.val) :
    gotAt d cc ss fE fR fh fr ft c q0 q1 q2 A B C fA fB fC g j ⊢ got d cc ss fE fR fh fr ft c q0 q1 q2 A B C fA fB fC t := by
  have e : t = finProdFinEquiv (g, j) := Fin.ext (by
    rw [h]; show _ = j.val + 64 * g.val; omega)
  subst e
  unfold got
  rw [Equiv.symm_apply_apply]

theorem got_all (fA : Buf (Elt F) (A.view.loc (V d cc ss))) (fB : Buf (Elt F) (B.view.loc (V d cc ss))) (fC : Buf (Elt F) (C.view.loc (V d cc ss))) :
    bigSep Finset.univ (got d cc ss fE fR fh fr ft c q0 q1 q2 A B C fA fB fC)
      ⊢ iprop(((A.view.loc (V d cc ss) ↦[A.view.set]{fullShare} fA) ∗ (B.view.loc (V d cc ss) ↦[B.view.set]{fullShare} fB)
          ∗ (C.view.loc (V d cc ss) ↦[C.view.set]{fullShare} fC)) ∗ feed d cc ss fE fR fh fr ft c q0 q1 q2) := by
  rw [bigSep_univ_equiv finProdFinEquiv]
  unfold got
  simp only [Equiv.symm_apply_apply]
  rw [← Finset.univ_product_univ, SparseCore.bigSep_product, bigSep_univ_eq_bigSepL [0, 1, 2] (by decide) (by decide)]
  unfold feed
  have h0 : bigSep Finset.univ (gotAt d cc ss fE fR fh fr ft c q0 q1 q2 A B C fA fB fC 0) ⊢ _ :=
    rowGot_join (V d cc ss) entAll A gathers_S100000x128_S64x128 (listRow hIdx c) rfl q0 fullShare fE fA fh rows_pos
  have h1 : bigSep Finset.univ (gotAt d cc ss fE fR fh fr ft c q0 q1 q2 A B C fA fB fC 1) ⊢ _ :=
    rowGot_join (V d cc ss) relAll B gathers_S1000x128_S64x128 (listRow rIdx c) rfl q1 fullShare fR fB fr rows_pos'
  have h2 : bigSep Finset.univ (gotAt d cc ss fE fR fh fr ft c q0 q1 q2 A B C fA fB fC 2) ⊢ _ :=
    rowGot_join (V d cc ss) entAll C gathers_S100000x128_S64x128 (listRow tIdx c) rfl q2 fullShare fE fC ft rows_pos
  show iprop(bigSep Finset.univ (gotAt d cc ss fE fR fh fr ft c q0 q1 q2 A B C fA fB fC 0) ∗ bigSep Finset.univ (gotAt d cc ss fE fR fh fr ft c q0 q1 q2 A B C fA fB fC 1)
    ∗ bigSep Finset.univ (gotAt d cc ss fE fR fh fr ft c q0 q1 q2 A B C fA fB fC 2)) ⊢ _
  iintro ⟨H0, H1, H2⟩
  ihave H0 := h0 $$ H0
  ihave H1 := h1 $$ H1
  ihave H2 := h2 $$ H2
  icases H0 with ⟨HA, HE, Hh⟩
  icases H1 with ⟨HB, HR, Hr⟩
  icases H2 with ⟨HC, HE', Ht⟩
  isplitl [HA HB HC]
  · isplitl [HA]; · iexact HA
    isplitl [HB]; · iexact HB
    iexact HC
  isplitl [HE Hh]; · isplitl [HE] <;> iassumption
  isplitl [HR Hr]; · isplitl [HR] <;> iassumption
  isplitl [HE'] <;> iassumption

/-- The row buffers hold the table rows the chunk's lists name. -/
structure Brought (H : Fin 8 → Fin 64 → Fin 100000) (R : Fin 8 → Fin 64 → Fin 1000) (T : Fin 8 → Fin 64 → Fin 100000)
    (fA : Buf (Elt F) (A.view.loc (V d cc ss))) (fB : Buf (Elt F) (B.view.loc (V d cc ss))) (fC : Buf (Elt F) (C.view.loc (V d cc ss))) : Prop where
  head : ∀ r, lineOf d cc ss A fA r = fun col => fE (entCell (H c r) col)
  rel : ∀ r, lineOf d cc ss B fB r = fun col => fR (relCell (R c r) col)
  tail : ∀ r, lineOf d cc ss C fC r = fun col => fE (entCell (T c r) col)

/-- A chunk's gathers on their way, into contents known at the issue. -/
def inFlight (H : Fin 8 → Fin 64 → Fin 100000) (R : Fin 8 → Fin 64 → Fin 1000) (T : Fin 8 → Fin 64 → Fin 100000) (sem : DmaSem sig) : HP F :=
  iprop(∃ fA fB fC, ⌜Brought d cc ss fE fR c A B C H R T fA fB fC⌝
    ∗ Batch EC (V d cc ss) (.dma sem) none 4096 (got d cc ss fE fR fh fr ft c q0 q1 q2 A B C fA fB fC) (3 * 64) 0)

variable {α : Type} {Q : α → HP F}

set_option maxRecDepth 20000 in
theorem ent_credit (A : Memref sig .scVector .vmem S64x128 .f32) : ∀ j, (A.slice (S64x128.rowRect gathers_S100000x128_S64x128.axis' j)
    (S64x128.stride_rowRect gathers_S100000x128_S64x128.axis' j)).view.dmaCredit = 4096 := fun _ => rfl
set_option maxRecDepth 20000 in
theorem rel_credit (A : Memref sig .scVector .vmem S64x128 .f32) : ∀ j, (A.slice (S64x128.rowRect gathers_S1000x128_S64x128.axis' j)
    (S64x128.stride_rowRect gathers_S1000x128_S64x128.axis' j)).view.dmaCredit = 4096 := fun _ => rfl
theorem buf_credit (A : Memref sig .scVector .vmem S64x128 .f32) : A.view.dmaCredit = 64 * 4096 := rfl

/-- A chunk's gathers issued. -/
theorem fire_wp (H : Fin 8 → Fin 64 → Fin 100000) (R : Fin 8 → Fin 64 → Fin 1000) (T : Fin 8 → Fin 64 → Fin 100000)
    (hH : ∀ r, (hIdx.view.read (Elt F) fh (at2 c r)).toNat = (H c r).val)
    (hR : ∀ r, (rIdx.view.read (Elt F) fr (at2 c r)).toNat = (R c r).val)
    (hT : ∀ r, (tIdx.view.read (Elt F) ft (at2 c r)).toNat = (T c r).val)
    (sem : DmaSem sig) (gA : Buf (Elt F) (A.view.loc (V d cc ss))) (gB : Buf (Elt F) (B.view.loc (V d cc ss))) (gC : Buf (Elt F) (C.view.loc (V d cc ss)))
    (k : PUnit → Prog (TpuEff nD τ sig (Elt F) Λ₀ (.scVector cc ss)) α) :
    iprop(semVal (V d cc ss, .dma sem) 0
        ∗ ((A.view.loc (V d cc ss) ↦[A.view.set]{fullShare} gA) ∗ (B.view.loc (V d cc ss) ↦[B.view.set]{fullShare} gB)
          ∗ (C.view.loc (V d cc ss) ↦[C.view.set]{fullShare} gC))
        ∗ feed d cc ss fE fR fh fr ft c q0 q1 q2)
      ⊢ iprop((inFlight d cc ss fE fR fh fr ft c q0 q1 q2 A B C H R T sem
          -∗ wp frame (wpE (defs₀ (F := F)) 𝒱₀ (V d cc ss) none) Set.univ (k ⟨⟩) Q)
        -∗ wp frame (wpE (defs₀ (F := F)) 𝒱₀ (V d cc ss) none) Set.univ (fire c A B C sem >>= k) Q) := by
  have iH := hin_of hIdx c fh H hH
  have iR := hin_of rIdx c fr R hR
  have iT := hin_of tIdx c ft T hT
  let fA : Buf (Elt F) (A.view.loc (V d cc ss)) := A.view.write (Elt F) gA
    (gatherPayload gathers_S100000x128_S64x128 (entAll.view.read (Elt F) fE) (rows ((listRow hIdx c).view.read (Elt F) fh) rfl iH)) Finset.univ
  let fB : Buf (Elt F) (B.view.loc (V d cc ss)) := B.view.write (Elt F) gB
    (gatherPayload gathers_S1000x128_S64x128 (relAll.view.read (Elt F) fR) (rows ((listRow rIdx c).view.read (Elt F) fr) rfl iR)) Finset.univ
  let fC : Buf (Elt F) (C.view.loc (V d cc ss)) := C.view.write (Elt F) gC
    (gatherPayload gathers_S100000x128_S64x128 (entAll.view.read (Elt F) fE) (rows ((listRow tIdx c).view.read (Elt F) ft) rfl iT)) Finset.univ
  have hB : Brought d cc ss fE fR c A B C H R T fA fB fC :=
    ⟨fun r => (lineOf_write d cc ss A gA _ r).trans (funext fun col => ent_payload fE hIdx c fh iH H hH r col),
      fun r => (lineOf_write d cc ss B gB _ r).trans (funext fun col => rel_payload fR rIdx c fr iR R hR r col),
      fun r => (lineOf_write d cc ss C gC _ r).trans (funext fun col => ent_payload fE tIdx c ft iT T hT r col)⟩
  unfold fire feed
  simp only [bind_assoc]
  iintro ⟨Hs, ⟨HA, HB, HC⟩, ⟨HE, Hh⟩, ⟨HR, Hr⟩, ⟨HE', Ht⟩⟩ Hk
  imod (Transfers.batch_alloc' EC (c := V d cc ss) (sm := .dma sem) none 4096 (got d cc ss fE fR fh fr ft c q0 q1 q2 A B C fA fB fC)) $$ Hs with Hb
  iapply (wp_gatherBatch EC 𝒱₀ (V d cc ss) none (src := entAll) (dst := A) (offs := listRow hIdx c) (fT := fA) (k₀ := 0) (u := 0)
    none 4096 (ent_credit A) rows_pos iH (fun _ _ => rfl) (by decide) (Nat.zero_le _)
    (fun j t h => got_of d cc ss fE fR fh fr ft c q0 q1 q2 A B C fA fB fC 0 j t h)) $$ [HE HA Hh Hb]
  · isplitl [HE]; · iexact HE
    isplitl [HA]; · iexact HA
    isplitl [Hh]; · iexact Hh
    iexact Hb
  iintro Hb
  iapply (wp_gatherBatch EC 𝒱₀ (V d cc ss) none (src := relAll) (dst := B) (offs := listRow rIdx c) (fT := fB) (k₀ := 64) (u := 0)
    none 4096 (rel_credit B) rows_pos' iR (fun _ _ => rfl) (by decide) (Nat.zero_le _)
    (fun j t h => got_of d cc ss fE fR fh fr ft c q0 q1 q2 A B C fA fB fC 1 j t h)) $$ [HR HB Hr Hb]
  · isplitl [HR]; · iexact HR
    isplitl [HB]; · iexact HB
    isplitl [Hr]; · iexact Hr
    iexact Hb
  iintro Hb
  iapply (wp_gatherBatch EC 𝒱₀ (V d cc ss) none (src := entAll) (dst := C) (offs := listRow tIdx c) (fT := fC) (k₀ := 128) (u := 0)
    none 4096 (ent_credit C) rows_pos iT (fun _ _ => rfl) (by decide) (Nat.zero_le _)
    (fun j t h => got_of d cc ss fE fR fh fr ft c q0 q1 q2 A B C fA fB fC 2 j t h)) $$ [HE' HC Ht Hb]
  · isplitl [HE']; · iexact HE'
    isplitl [HC]; · iexact HC
    isplitl [Ht]; · iexact Ht
    iexact Hb
  iintro Hb
  iapply Hk
  unfold inFlight
  iexists fA, fB, fC
  isplitr; · ipureintro; exact hB
  iexact Hb

/-- What the tile owes, its waits so far its own. -/
def owing (O : CellTallies nD τ sig (HIx 1)) (W : Waits sig (HIx 1)) : HP F :=
  iprop(∃ W', ⌜∀ p ∈ W', p ∈ W ∨ p.2 = none⌝ ∗ owes (V d cc ss) O W')

/-- Their waits: the buffers hold the rows, and what the gathers took is back. -/
theorem await_wp (H : Fin 8 → Fin 64 → Fin 100000) (R : Fin 8 → Fin 64 → Fin 1000) (T : Fin 8 → Fin 64 → Fin 100000)
    (hA : A.IsWhole) (hB : B.IsWhole) (hC : C.IsWhole) (sem : DmaSem sig) (O : CellTallies nD τ sig (HIx 1)) (W : Waits sig (HIx 1))
    (k : PUnit → Prog (TpuEff nD τ sig (Elt F) Λ₀ (.scVector cc ss)) α) :
    iprop(inFlight d cc ss fE fR fh fr ft c q0 q1 q2 A B C H R T sem ∗ owing d cc ss O W ∗ Transfers.MayWaits (V d cc ss) none O)
      ⊢ iprop((∀ fA fB fC, ⌜Brought d cc ss fE fR c A B C H R T fA fB fC⌝
          -∗ iprop(semVal (V d cc ss, .dma sem) 0
            ∗ ((A.view.loc (V d cc ss) ↦[A.view.set]{fullShare} fA) ∗ (B.view.loc (V d cc ss) ↦[B.view.set]{fullShare} fB)
              ∗ (C.view.loc (V d cc ss) ↦[C.view.set]{fullShare} fC))
            ∗ feed d cc ss fE fR fh fr ft c q0 q1 q2 ∗ owing d cc ss O W)
          -∗ wp frame (wpE (defs₀ (F := F)) 𝒱₀ (V d cc ss) none) Set.univ (k ⟨⟩) Q)
        -∗ wp frame (wpE (defs₀ (F := F)) 𝒱₀ (V d cc ss) none) Set.univ (await A B C hA hB hC sem >>= k) Q) := by
  unfold await inFlight owing
  simp only [bind_assoc, SparseCore.waitIndirectGather_bind]
  iintro ⟨⟨%fA, %fB, %fC, %hb, Hb⟩, ⟨%W', %hW, HO⟩, #HM⟩ Hk
  iapply (Transfers.wp_waitBatchMulO EC 𝒱₀ (V d cc ss) none none (N := 4096) (n := 3 * 64) (j := 3 * 64) (u := 0) 64 (buf_credit A) (by decide)) $$ [Hb HO]
  · isplitl [Hb]; · iexact Hb
    isplitl [HO]; · iexact HO
    iapply (Transfers.MayWaits.elim (.dma sem)) $$ HM
  iintro ⟨Hb, HO⟩
  iapply (Transfers.wp_waitBatchMulO EC 𝒱₀ (V d cc ss) none none (N := 4096) (n := 3 * 64) (j := 3 * 64) (u := 0 + 64 * 4096) 64 (buf_credit B) (by decide)) $$ [Hb HO]
  · isplitl [Hb]; · iexact Hb
    isplitl [HO]; · iexact HO
    iapply (Transfers.MayWaits.elim (.dma sem)) $$ HM
  iintro ⟨Hb, HO⟩
  iapply (Transfers.wp_waitBatchAllO EC 𝒱₀ (V d cc ss) none none (N := 4096) (n := 3 * 64) (u := 0 + 64 * 4096 + 64 * 4096) (buf_credit C) (by decide) (by decide)) $$ [Hb HO]
  · isplitl [Hb]; · iexact Hb
    isplitl [HO]; · iexact HO
    iapply (Transfers.MayWaits.elim (.dma sem)) $$ HM
  iintro ⟨HD, Hs, HO⟩
  ihave HD := (got_all d cc ss fE fR fh fr ft c q0 q1 q2 A B C fA fB fC) $$ HD
  icases HD with ⟨Hbuf, Hf⟩
  iapply Hk $$ %fA %fB %fC %hb [Hs Hbuf Hf HO]
  isplitl [Hs]; · iexact Hs
  isplitl [Hbuf]; · iexact Hbuf
  isplitl [Hf]; · iexact Hf
  iexists (insert (SemLoc.dma sem, none) (insert (SemLoc.dma sem, none) (insert (SemLoc.dma sem, none) W')))
  isplitr
  · ipureintro
    intro p hp
    simp only [Finset.mem_insert] at hp
    rcases hp with rfl | rfl | rfl | hp
    · exact Or.inr rfl
    · exact Or.inr rfl
    · exact Or.inr rfl
    · exact hW p hp
  iexact HO

end Cert.Proof.Tile

end
-- ==== Proof.Ring.lean ====
/-
  The eight chunks in order, two kept in flight: what the loop holds between its steps, and the tile's 512 scores at
  its end.
-/
module

public import proofs.«01_k».proof.Proof.Gathers

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)
open Idealize.ShloMosaic.Tactic

variable {F : FTy → Type} [FloatOps F]

local notation "𝕄" => MT nD τ sig (HIx 1) (Elt F) ℕ UU ℕ

/-- The chunk and the entry of a tile's result. -/
def chunkOf (x : S512.Idx) : Fin 8 := ⟨(x 0).val / 64, by have : (x 0).val < 512 := (x 0).isLt; omega⟩
def entryOf (x : S512.Idx) : Fin 64 := ⟨(x 0).val % 64, Nat.mod_lt _ (by decide)⟩

/-- A tile's 512 scores, of the table rows its lists name. -/
def tileScore (fE : S100000x128.Idx → F .f32) (fR : S1000x128.Idx → F .f32)
    (H : Fin 8 → Fin 64 → Fin 100000) (R : Fin 8 → Fin 64 → Fin 1000) (T : Fin 8 → Fin 64 → Fin 100000) (x : S512.Idx) : F .f32 :=
  score (fun col => fE (entCell (H (chunkOf x) (entryOf x)) col)) (fun col => fR (relCell (R (chunkOf x) (entryOf x)) col))
    (fun col => fE (entCell (T (chunkOf x) (entryOf x)) col)) ((entryOf x).val % 16)

variable (d : Dev nD) (cc : Fin τ.nSC) (ss : Fin τ.nSub)
  (fE : Buf (Elt F) (entAll.view.loc (V d cc ss))) (fR : Buf (Elt F) (relAll.view.loc (V d cc ss)))
  (fh : Buf (Elt F) (hIdx.view.loc (V d cc ss))) (fr : Buf (Elt F) (rIdx.view.loc (V d cc ss))) (ft : Buf (Elt F) (tIdx.view.loc (V d cc ss)))
  (H : Fin 8 → Fin 64 → Fin 100000) (R : Fin 8 → Fin 64 → Fin 1000) (T : Fin 8 → Fin 64 → Fin 100000)
  (q0 q1 q2 : Fin 8 → PosShare TreeShare)

/-- Chunk `c`'s shares and lists, at its own pieces. -/
abbrev feedAt (c : Fin 8) : HP F := feed d cc ss fE fR fh fr ft c (q0 c) (q1 c) (q2 c)

/-- Three row buffers, at given contents. -/
abbrev held (i : Fin 3) (fA : Buf (Elt F) ((bufH i).view.loc (V d cc ss))) (fB : Buf (Elt F) ((bufR i).view.loc (V d cc ss)))
    (fC : Buf (Elt F) ((bufT i).view.loc (V d cc ss))) : HP F :=
  iprop(((bufH i).view.loc (V d cc ss) ↦[(bufH i).view.set]{fullShare} fA) ∗ ((bufR i).view.loc (V d cc ss) ↦[(bufR i).view.set]{fullShare} fB)
    ∗ ((bufT i).view.loc (V d cc ss) ↦[(bufT i).view.set]{fullShare} fC))

/-- Buffer set `i` free: its semaphore at zero, its buffers at whatever they hold. -/
def slot (i : Fin 3) : HP F := iprop(semVal (V d cc ss, .dma (ringSem i)) 0 ∗ ∃ fA fB fC, held d cc ss i fA fB fC)

/-- Chunk `c` on its way into buffer set `i`. -/
def flight (c : Fin 8) (i : Fin 3) : HP F :=
  inFlight d cc ss fE fR fh fr ft c (q0 c) (q1 c) (q2 c) (bufH i) (bufR i) (bufT i) H R T (ringSem i)

/-- Chunk `c` arrived in buffer set `i`. -/
def loaded (c : Fin 8) (i : Fin 3) : HP F :=
  iprop(semVal (V d cc ss, .dma (ringSem i)) 0 ∗ ∃ fA fB fC, ⌜Brought d cc ss fE fR c (bufH i) (bufR i) (bufT i) H R T fA fB fC⌝ ∗ held d cc ss i fA fB fC)

variable {α : Type} {Q : α → HP F}

theorem fireAt_wp (hH : ∀ c r, (hIdx.view.read (Elt F) fh (at2 c r)).toNat = (H c r).val)
    (hR : ∀ c r, (rIdx.view.read (Elt F) fr (at2 c r)).toNat = (R c r).val)
    (hT : ∀ c r, (tIdx.view.read (Elt F) ft (at2 c r)).toNat = (T c r).val) (c : Fin 8) (i : Fin 3)
    (k : PUnit → Prog (TpuEff nD τ sig (Elt F) Λ₀ (.scVector cc ss)) α) :
    iprop(slot d cc ss i ∗ feedAt d cc ss fE fR fh fr ft q0 q1 q2 c)
      ⊢ iprop((flight d cc ss fE fR fh fr ft H R T q0 q1 q2 c i -∗ wp frame (wpE (defs₀ (F := F)) 𝒱₀ (V d cc ss) none) Set.univ (k ⟨⟩) Q)
        -∗ wp frame (wpE (defs₀ (F := F)) 𝒱₀ (V d cc ss) none) Set.univ (fireAt c i >>= k) Q) := by
  unfold slot flight
  iintro ⟨⟨Hs, %fA, %fB, %fC, Hb⟩, Hf⟩ Hk
  iapply (fire_wp d cc ss fE fR fh fr ft c (q0 c) (q1 c) (q2 c) (bufH i) (bufR i) (bufT i) H R T (hH c) (hR c) (hT c) (ringSem i) fA fB fC k) $$ [Hs Hb Hf]
  · isplitl [Hs]; · iexact Hs
    isplitl [Hb]; · iexact Hb
    iexact Hf
  iexact Hk

theorem awaitAt_wp (O : CellTallies nD τ sig (HIx 1)) (W : Waits sig (HIx 1)) (c : Fin 8) (i : Fin 3)
    (k : PUnit → Prog (TpuEff nD τ sig (Elt F) Λ₀ (.scVector cc ss)) α) :
    iprop(flight d cc ss fE fR fh fr ft H R T q0 q1 q2 c i ∗ owing d cc ss O W ∗ Transfers.MayWaits (V d cc ss) none O)
      ⊢ iprop((iprop(loaded d cc ss fE fR H R T c i ∗ feedAt d cc ss fE fR fh fr ft q0 q1 q2 c ∗ owing d cc ss O W)
          -∗ wp frame (wpE (defs₀ (F := F)) 𝒱₀ (V d cc ss) none) Set.univ (k ⟨⟩) Q)
        -∗ wp frame (wpE (defs₀ (F := F)) 𝒱₀ (V d cc ss) none) Set.univ (awaitAt i >>= k) Q) := by
  unfold flight loaded
  iintro H0 Hk
  iapply (await_wp d cc ss fE fR fh fr ft c (q0 c) (q1 c) (q2 c) (bufH i) (bufR i) (bufT i) H R T (bufH_whole i) (bufR_whole i) (bufT_whole i)
    (ringSem i) O W k) $$ H0
  iintro %fA %fB %fC %hb ⟨Hs, Hb, Hf, HO⟩
  iapply Hk
  isplitl [Hs Hb]
  · isplitl [Hs]; · iexact Hs
    iexists fA, fB, fC
    isplitr; · ipureintro; exact hb
    iexact Hb
  isplitl [Hf]; · iexact Hf
  iexact HO

theorem held_eq (i : Fin 3) (fA : Buf (Elt F) ((bufH i).view.loc (V d cc ss))) (fB : Buf (Elt F) ((bufR i).view.loc (V d cc ss)))
    (fC : Buf (Elt F) ((bufT i).view.loc (V d cc ss))) :
    held d cc ss i fA fB fC = bufs3 d cc ss (bufH i) (bufR i) (bufT i) fA fB fC := by
  unfold held bufs3 bufPts
  match i with
  | 0 => simp only [Memref.view_whole, View.set_whole]
  | 1 => simp only [Memref.view_whole, View.set_whole]
  | 2 => simp only [Memref.view_whole, View.set_whole]

theorem chunkAt_wp (c : Fin 8) (i : Fin 3) (off : Fin k0_t1_loop.trips → Fin 1 → ℕ) (inb : ∀ g a, off g a + S16.size a ≤ S512.size a)
    (hoff : ∀ g, off g 0 = 64 * c.val + 16 * g.val)
    (k : PUnit → Prog (TpuEff nD τ sig (Elt F) Λ₀ (.scVector cc ss)) α) :
    iprop(loaded d cc ss fE fR H R T c i ∗ scored d cc ss (tileScore fE fR H R T) (64 * c.val))
      ⊢ iprop((iprop(slot d cc ss i ∗ scored d cc ss (tileScore fE fR H R T) (64 * (c.val + 1)))
          -∗ wp frame (wpE (defs₀ (F := F)) 𝒱₀ (V d cc ss) none) Set.univ (k ⟨⟩) Q)
        -∗ wp frame (wpE (defs₀ (F := F)) 𝒱₀ (V d cc ss) none) Set.univ (chunkAt i off inb >>= k) Q) := by
  unfold loaded slot
  iintro ⟨⟨Hs, %fA, %fB, %fC, %hb, Hb⟩, Hsc⟩ Hk
  ihave Hb := (BIBase.Entails.of_eq (held_eq d cc ss i fA fB fC)) $$ Hb
  iapply (chunk_wp d cc ss (bufH i) (bufR i) (bufT i) fA fB fC (tileScore fE fR H R T) c.val off inb hoff (by
    intro r x hx
    have hr : r.val < 64 := r.isLt
    have e1 : chunkOf x = c := Fin.ext (by show (x 0).val / 64 = _; omega)
    have e2 : entryOf x = r := Fin.ext (by show (x 0).val % 64 = _; omega)
    unfold tileScore rowScore
    rw [hb.head, hb.rel, hb.tail, e1, e2]) k) $$ [Hb Hsc]
  · isplitl [Hb]; · iexact Hb
    iexact Hsc
  iintro ⟨Hb, Hsc⟩
  iapply Hk
  isplitl [Hs Hb]
  · isplitl [Hs]; · iexact Hs
    iexists fA, fB, fC
    iapply (BIBase.Entails.of_eq (held_eq d cc ss i fA fB fC).symm) $$ Hb
  iexact Hsc

/-- A step in the middle: chunk `c` awaited, chunk `c'` issued into the free buffers, chunk `c` scored. -/
theorem step_wp (hH : ∀ c r, (hIdx.view.read (Elt F) fh (at2 c r)).toNat = (H c r).val)
    (hR : ∀ c r, (rIdx.view.read (Elt F) fr (at2 c r)).toNat = (R c r).val)
    (hT : ∀ c r, (tIdx.view.read (Elt F) ft (at2 c r)).toNat = (T c r).val)
    (O : CellTallies nD τ sig (HIx 1)) (W : Waits sig (HIx 1)) (c c' : Fin 8) (i i' : Fin 3)
    (off : Fin k0_t1_loop.trips → Fin 1 → ℕ) (inb : ∀ g a, off g a + S16.size a ≤ S512.size a)
    (hoff : ∀ g, off g 0 = 64 * c.val + 16 * g.val)
    (k : PUnit → Prog (TpuEff nD τ sig (Elt F) Λ₀ (.scVector cc ss)) α) :
    iprop(flight d cc ss fE fR fh fr ft H R T q0 q1 q2 c i ∗ slot d cc ss i' ∗ feedAt d cc ss fE fR fh fr ft q0 q1 q2 c'
        ∗ scored d cc ss (tileScore fE fR H R T) (64 * c.val) ∗ owing d cc ss O W ∗ Transfers.MayWaits (V d cc ss) none O)
      ⊢ iprop((iprop(slot d cc ss i ∗ flight d cc ss fE fR fh fr ft H R T q0 q1 q2 c' i' ∗ feedAt d cc ss fE fR fh fr ft q0 q1 q2 c
            ∗ scored d cc ss (tileScore fE fR H R T) (64 * (c.val + 1)) ∗ owing d cc ss O W)
          -∗ wp frame (wpE (defs₀ (F := F)) 𝒱₀ (V d cc ss) none) Set.univ (k ⟨⟩) Q)
        -∗ wp frame (wpE (defs₀ (F := F)) 𝒱₀ (V d cc ss) none) Set.univ
            (awaitAt i >>= fun _ => fireAt c' i' >>= fun _ => chunkAt i off inb >>= k) Q) := by
  iintro ⟨L, S, Fd, Hsc, HO, HM⟩ Hk
  iapply (awaitAt_wp d cc ss fE fR fh fr ft H R T q0 q1 q2 O W c i) $$ [L HO HM]
  · isplitl [L]; · iexact L
    isplitl [HO]; · iexact HO
    iexact HM
  iintro ⟨L, Fc, HO⟩
  iapply (fireAt_wp d cc ss fE fR fh fr ft H R T q0 q1 q2 hH hR hT c' i') $$ [S Fd]
  · isplitl [S]; · iexact S
    iexact Fd
  iintro L'
  iapply (chunkAt_wp d cc ss fE fR H R T c i off inb hoff) $$ [L Hsc]
  · isplitl [L]; · iexact L
    iexact Hsc
  iintro ⟨S, Hsc⟩
  iapply Hk
  isplitl [S]; · iexact S
  isplitl [L']; · iexact L'
  isplitl [Fc]; · iexact Fc
  isplitl [Hsc]; · iexact Hsc
  iexact HO

/-- One of the last two steps: chunk `c` awaited and scored. -/
theorem last_wp (O : CellTallies nD τ sig (HIx 1)) (W : Waits sig (HIx 1)) (c : Fin 8) (i : Fin 3)
    (off : Fin k0_t1_loop.trips → Fin 1 → ℕ) (inb : ∀ g a, off g a + S16.size a ≤ S512.size a)
    (hoff : ∀ g, off g 0 = 64 * c.val + 16 * g.val)
    (k : PUnit → Prog (TpuEff nD τ sig (Elt F) Λ₀ (.scVector cc ss)) α) :
    iprop(flight d cc ss fE fR fh fr ft H R T q0 q1 q2 c i
        ∗ scored d cc ss (tileScore fE fR H R T) (64 * c.val) ∗ owing d cc ss O W ∗ Transfers.MayWaits (V d cc ss) none O)
      ⊢ iprop((iprop(slot d cc ss i ∗ feedAt d cc ss fE fR fh fr ft q0 q1 q2 c
            ∗ scored d cc ss (tileScore fE fR H R T) (64 * (c.val + 1)) ∗ owing d cc ss O W)
          -∗ wp frame (wpE (defs₀ (F := F)) 𝒱₀ (V d cc ss) none) Set.univ (k ⟨⟩) Q)
        -∗ wp frame (wpE (defs₀ (F := F)) 𝒱₀ (V d cc ss) none) Set.univ
            (awaitAt i >>= fun _ => chunkAt i off inb >>= k) Q) := by
  iintro ⟨L, Hsc, HO, HM⟩ Hk
  iapply (awaitAt_wp d cc ss fE fR fh fr ft H R T q0 q1 q2 O W c i) $$ [L HO HM]
  · isplitl [L]; · iexact L
    isplitl [HO]; · iexact HO
    iexact HM
  iintro ⟨L, Fc, HO⟩
  iapply (chunkAt_wp d cc ss fE fR H R T c i off inb hoff) $$ [L Hsc]
  · isplitl [L]; · iexact L
    iexact Hsc
  iintro ⟨S, Hsc⟩
  iapply Hk
  isplitl [S]; · iexact S
  isplitl [Fc]; · iexact Fc
  isplitl [Hsc]; · iexact Hsc
  iexact HO

/-- The stores' offsets, chunk by chunk. -/
theorem off2_at (g) : k0_off2 g 0 = 64 * 0 + 16 * g.val := by rw [k0_off2_eq]; show 16 * g.val = _; omega
theorem off3_at (g) : k0_off3 g 0 = 64 * 1 + 16 * g.val := by rw [k0_off3_eq]; show 16 * g.val + 64 = _; omega
theorem off4_at (g) : k0_off4 g 0 = 64 * 2 + 16 * g.val := by rw [k0_off4_eq]; show 16 * g.val + 128 = _; omega
theorem off5_at (g) : k0_off5 g 0 = 64 * 3 + 16 * g.val := by rw [k0_off5_eq]; show 16 * g.val + 192 = _; omega
theorem off6_at (g) : k0_off6 g 0 = 64 * 4 + 16 * g.val := by rw [k0_off6_eq]; show 16 * g.val + 256 = _; omega
theorem off7_at (g) : k0_off7 g 0 = 64 * 5 + 16 * g.val := by rw [k0_off7_eq]; show 16 * g.val + 320 = _; omega
theorem off8_at (g) : k0_off8 g 0 = 64 * 6 + 16 * g.val := by rw [k0_off8_eq]; show 16 * g.val + 384 = _; omega
theorem off9_at (g) : k0_off9 g 0 = 64 * 7 + 16 * g.val := by rw [k0_off9_eq]; show 16 * g.val + 448 = _; omega

/-- All chunks' shares and lists, and all buffer sets. -/
abbrev feeds : HP F := bigSep Finset.univ (feedAt d cc ss fE fR fh fr ft q0 q1 q2)
abbrev slots : HP F := iprop(slot (F := F) d cc ss 0 ∗ slot d cc ss 1 ∗ slot d cc ss 2)

theorem ring_wp (hH : ∀ c r, (hIdx.view.read (Elt F) fh (at2 c r)).toNat = (H c r).val)
    (hR : ∀ c r, (rIdx.view.read (Elt F) fr (at2 c r)).toNat = (R c r).val)
    (hT : ∀ c r, (tIdx.view.read (Elt F) ft (at2 c r)).toNat = (T c r).val)
    (O : CellTallies nD τ sig (HIx 1)) (W : Waits sig (HIx 1))
    (k : PUnit → Prog (TpuEff nD τ sig (Elt F) Λ₀ (.scVector cc ss)) α) :
    iprop(feeds d cc ss fE fR fh fr ft q0 q1 q2 ∗ slots d cc ss ∗ scored d cc ss (tileScore fE fR H R T) 0
        ∗ owing d cc ss O W ∗ Transfers.MayWaits (V d cc ss) none O)
      ⊢ iprop((iprop(feeds d cc ss fE fR fh fr ft q0 q1 q2 ∗ slots d cc ss ∗ scored d cc ss (tileScore fE fR H R T) 512 ∗ owing d cc ss O W)
          -∗ wp frame (wpE (defs₀ (F := F)) 𝒱₀ (V d cc ss) none) Set.univ (k ⟨⟩) Q)
        -∗ wp frame (wpE (defs₀ (F := F)) 𝒱₀ (V d cc ss) none) Set.univ (ring >>= k) Q) := by
  unfold feeds slots ring
  rw [bigSep_univ_eq_bigSepL [0, 1, 2, 3, 4, 5, 6, 7] (by decide) (by decide)]
  simp only [bind_assoc]
  show iprop((feedAt d cc ss fE fR fh fr ft q0 q1 q2 0 ∗ feedAt d cc ss fE fR fh fr ft q0 q1 q2 1 ∗ feedAt d cc ss fE fR fh fr ft q0 q1 q2 2
    ∗ feedAt d cc ss fE fR fh fr ft q0 q1 q2 3 ∗ feedAt d cc ss fE fR fh fr ft q0 q1 q2 4 ∗ feedAt d cc ss fE fR fh fr ft q0 q1 q2 5
    ∗ feedAt d cc ss fE fR fh fr ft q0 q1 q2 6 ∗ feedAt d cc ss fE fR fh fr ft q0 q1 q2 7) ∗ _ ∗ _ ∗ _ ∗ _) ⊢ iprop((iprop((feedAt d cc ss fE fR fh fr ft q0 q1 q2 0 ∗ feedAt d cc ss fE fR fh fr ft q0 q1 q2 1 ∗ feedAt d cc ss fE fR fh fr ft q0 q1 q2 2
    ∗ feedAt d cc ss fE fR fh fr ft q0 q1 q2 3 ∗ feedAt d cc ss fE fR fh fr ft q0 q1 q2 4 ∗ feedAt d cc ss fE fR fh fr ft q0 q1 q2 5
    ∗ feedAt d cc ss fE fR fh fr ft q0 q1 q2 6 ∗ feedAt d cc ss fE fR fh fr ft q0 q1 q2 7) ∗ _ ∗ _ ∗ _) -∗ _) -∗ _)
  iintro ⟨⟨F0, F1, F2, F3, F4, F5, F6, F7⟩, ⟨S0, S1, S2⟩, Hsc, HO, #HM⟩ Hk
  iapply (fireAt_wp d cc ss fE fR fh fr ft H R T q0 q1 q2 hH hR hT 0 0) $$ [S0 F0]
  · isplitl [S0] <;> iassumption
  iintro L0
  iapply (fireAt_wp d cc ss fE fR fh fr ft H R T q0 q1 q2 hH hR hT 1 1) $$ [S1 F1]
  · isplitl [S1] <;> iassumption
  iintro L1
  iapply (step_wp d cc ss fE fR fh fr ft H R T q0 q1 q2 hH hR hT O W 0 2 0 2 _ _ off2_at) $$ [L0 S2 F2 Hsc HO]
  · isplitl [L0]; · iexact L0
    isplitl [S2]; · iexact S2
    isplitl [F2]; · iexact F2
    isplitl [Hsc]; · iexact Hsc
    isplitl [HO]; · iexact HO
    iexact HM
  iintro ⟨S0, L2, F0, Hsc, HO⟩
  iapply (step_wp d cc ss fE fR fh fr ft H R T q0 q1 q2 hH hR hT O W 1 3 1 0 _ _ off3_at) $$ [L1 S0 F3 Hsc HO]
  · isplitl [L1]; · iexact L1
    isplitl [S0]; · iexact S0
    isplitl [F3]; · iexact F3
    isplitl [Hsc]; · iexact Hsc
    isplitl [HO]; · iexact HO
    iexact HM
  iintro ⟨S1, L3, F1, Hsc, HO⟩
  iapply (step_wp d cc ss fE fR fh fr ft H R T q0 q1 q2 hH hR hT O W 2 4 2 1 _ _ off4_at) $$ [L2 S1 F4 Hsc HO]
  · isplitl [L2]; · iexact L2
    isplitl [S1]; · iexact S1
    isplitl [F4]; · iexact F4
    isplitl [Hsc]; · iexact Hsc
    isplitl [HO]; · iexact HO
    iexact HM
  iintro ⟨S2, L4, F2, Hsc, HO⟩
  iapply (step_wp d cc ss fE fR fh fr ft H R T q0 q1 q2 hH hR hT O W 3 5 0 2 _ _ off5_at) $$ [L3 S2 F5 Hsc HO]
  · isplitl [L3]; · iexact L3
    isplitl [S2]; · iexact S2
    isplitl [F5]; · iexact F5
    isplitl [Hsc]; · iexact Hsc
    isplitl [HO]; · iexact HO
    iexact HM
  iintro ⟨S0, L5, F3, Hsc, HO⟩
  iapply (step_wp d cc ss fE fR fh fr ft H R T q0 q1 q2 hH hR hT O W 4 6 1 0 _ _ off6_at) $$ [L4 S0 F6 Hsc HO]
  · isplitl [L4]; · iexact L4
    isplitl [S0]; · iexact S0
    isplitl [F6]; · iexact F6
    isplitl [Hsc]; · iexact Hsc
    isplitl [HO]; · iexact HO
    iexact HM
  iintro ⟨S1, L6, F4, Hsc, HO⟩
  iapply (step_wp d cc ss fE fR fh fr ft H R T q0 q1 q2 hH hR hT O W 5 7 2 1 _ _ off7_at) $$ [L5 S1 F7 Hsc HO]
  · isplitl [L5]; · iexact L5
    isplitl [S1]; · iexact S1
    isplitl [F7]; · iexact F7
    isplitl [Hsc]; · iexact Hsc
    isplitl [HO]; · iexact HO
    iexact HM
  iintro ⟨S2, L7, F5, Hsc, HO⟩
  iapply (last_wp d cc ss fE fR fh fr ft H R T q0 q1 q2 O W 6 0 _ _ off8_at) $$ [L6 Hsc HO]
  · isplitl [L6]; · iexact L6
    isplitl [Hsc]; · iexact Hsc
    isplitl [HO]; · iexact HO
    iexact HM
  iintro ⟨S0, F6, Hsc, HO⟩
  iapply (last_wp d cc ss fE fR fh fr ft H R T q0 q1 q2 O W 7 1 _ _ off9_at) $$ [L7 Hsc HO]
  · isplitl [L7]; · iexact L7
    isplitl [Hsc]; · iexact Hsc
    isplitl [HO]; · iexact HO
    iexact HM
  iintro ⟨S1, F7, Hsc, HO⟩
  iapply Hk
  isplitl [F0 F1 F2 F3 F4 F5 F6 F7]
  · isplitl [F0]; · iexact F0
    isplitl [F1]; · iexact F1
    isplitl [F2]; · iexact F2
    isplitl [F3]; · iexact F3
    isplitl [F4]; · iexact F4
    isplitl [F5]; · iexact F5
    isplitl [F6]; · iexact F6
    iexact F7
  isplitl [S0 S1 S2]
  · isplitl [S0]; · iexact S0
    isplitl [S1]; · iexact S1
    iexact S2
  isplitl [Hsc]; · iexact Hsc
  iexact HO

end Cert.Proof.Tile

end
-- ==== Proof.Fetch.lean ====
/-
  The tile's own copies: its block of the three index arrays into the index buffers, and its result out.
-/
module

public import proofs.«01_k».proof.Proof.Ring

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx)
open Idealize.ShloMosaic.Transfers (Batch)
open Idealize.ShloMosaic.Tactic

variable {F : FTy → Type} [FloatOps F]

local notation "𝕄" => MT nD τ sig (HIx 1) (Elt F) ℕ UU ℕ

abbrev cV (i : grid0.Coords) : Fin τ.nSC := (i 0).castLE hcore0
abbrev jV (i : grid0.Coords) : Fin τ.nSub := (i 1).castLE hsub0

section
variable (d : Dev nD) (i : grid0.Coords)

/-- A block of an index array and its index buffer, before and after the copy. -/
abbrev blockPts (A : Memref sig .scVector .hbm S32x8x64 .i32) (q : PosShare TreeShare) (f : Buf (Elt F) ((idxRow i A).view.loc (V d (cV i) (jV i)))) : HP F :=
  (idxRow i A).view.loc (V d (cV i) (jV i)) ↦[(idxRow i A).view.set]{q} f
abbrev listPts (b : Memref sig .scVector .vmem S8x64 .i32) (f : Buf (Elt F) (b.view.loc (V d (cV i) (jV i)))) : HP F :=
  b.view.loc (V d (cV i) (jV i)) ↦[b.view.set]{fullShare} f
abbrev copied (A : Memref sig .scVector .hbm S32x8x64 .i32) (b : Memref sig .scVector .vmem S8x64 .i32)
    (f : Buf (Elt F) ((idxRow i A).view.loc (V d (cV i) (jV i)))) (g : Buf (Elt F) (b.view.loc (V d (cV i) (jV i)))) : Buf (Elt F) (b.view.loc (V d (cV i) (jV i))) :=
  b.view.write (Elt F) g ((idxRow i A).view.read (Elt F) f) Finset.univ

variable (qh qr qt : PosShare TreeShare)
  (vh : Buf (Elt F) ((idxRow i hArr).view.loc (V d (cV i) (jV i)))) (vr : Buf (Elt F) ((idxRow i rArr).view.loc (V d (cV i) (jV i))))
  (vt : Buf (Elt F) ((idxRow i tArr).view.loc (V d (cV i) (jV i))))
  (gh : Buf (Elt F) (hIdx.view.loc (V d (cV i) (jV i)))) (gr : Buf (Elt F) (rIdx.view.loc (V d (cV i) (jV i))))
  (gt : Buf (Elt F) (tIdx.view.loc (V d (cV i) (jV i))))

/-- What each copy brings. -/
def fetched : Fin 3 → HP F
  | 0 => iprop(listPts d i hIdx (copied d i hArr hIdx vh gh) ∗ blockPts d i hArr qh vh)
  | 1 => iprop(listPts d i rIdx (copied d i rArr rIdx vr gr) ∗ blockPts d i rArr qr vr)
  | 2 => iprop(listPts d i tIdx (copied d i tArr tIdx vt gt) ∗ blockPts d i tArr qt vt)

instance fetched_storable (t : Fin 3) : BI.Storable (upEmb : UEmb _ 𝕄) (fetched d i qh qr qt vh vr vt gh gr gt t) := by
  unfold fetched
  split <;> infer_instance

theorem fetched_all : bigSep Finset.univ (fetched d i qh qr qt vh vr vt gh gr gt)
    = iprop((listPts d i hIdx (copied d i hArr hIdx vh gh) ∗ blockPts d i hArr qh vh)
      ∗ (listPts d i rIdx (copied d i rArr rIdx vr gr) ∗ blockPts d i rArr qr vr)
      ∗ (listPts d i tIdx (copied d i tArr tIdx vt gt) ∗ blockPts d i tArr qt vt)) := by
  rw [bigSep_univ_eq_bigSepL [0, 1, 2] (by decide) (by decide)]
  rfl

variable {α : Type} {Q : α → HP F}

theorem list_credit (b : Memref sig .scVector .vmem S8x64 .i32) : b.view.amount (.dma cc0_scratch16.sem) = 16384 := rfl
theorem list_credit' (b : Memref sig .scVector .vmem S8x64 .i32) : b.view.dmaCredit = 16384 := rfl

theorem fetched_h : iprop((hIdx.view.loc (V d (cV i) (jV i)) ↦[hIdx.view.set]{fullShare}
      (hIdx.view.write (Elt F) gh (ReadAs.same.apply ((idxRow i hArr).view.read (Elt F) vh)) Finset.univ)) ∗ blockPts d i hArr qh vh)
    ⊢ fetched d i qh qr qt vh vr vt gh gr gt ⟨0, by decide⟩ := BIBase.Entails.rfl
theorem fetched_r : iprop((rIdx.view.loc (V d (cV i) (jV i)) ↦[rIdx.view.set]{fullShare}
      (rIdx.view.write (Elt F) gr (ReadAs.same.apply ((idxRow i rArr).view.read (Elt F) vr)) Finset.univ)) ∗ blockPts d i rArr qr vr)
    ⊢ fetched d i qh qr qt vh vr vt gh gr gt ⟨1, by decide⟩ := BIBase.Entails.rfl
theorem fetched_t : iprop((tIdx.view.loc (V d (cV i) (jV i)) ↦[tIdx.view.set]{fullShare}
      (tIdx.view.write (Elt F) gt (ReadAs.same.apply ((idxRow i tArr).view.read (Elt F) vt)) Finset.univ)) ∗ blockPts d i tArr qt vt)
    ⊢ fetched d i qh qr qt vh vr vt gh gr gt ⟨2, by decide⟩ := BIBase.Entails.rfl

theorem fetch_wp (O : CellTallies nD τ sig (HIx 1)) (W : Waits sig (HIx 1))
    (k : PUnit → Prog (TpuEff nD τ sig (Elt F) Λ₀ (.scVector (cV i) (jV i))) α) :
    iprop(semVal (V d (cV i) (jV i), .dma cc0_scratch16.sem) 0
        ∗ (listPts d i hIdx gh ∗ blockPts d i hArr qh vh) ∗ (listPts d i rIdx gr ∗ blockPts d i rArr qr vr) ∗ (listPts d i tIdx gt ∗ blockPts d i tArr qt vt)
        ∗ owing d (cV i) (jV i) O W ∗ Transfers.MayWaits (V d (cV i) (jV i)) none O)
      ⊢ iprop((iprop(semVal (V d (cV i) (jV i), .dma cc0_scratch16.sem) 0
            ∗ ((listPts d i hIdx (copied d i hArr hIdx vh gh) ∗ blockPts d i hArr qh vh)
              ∗ (listPts d i rIdx (copied d i rArr rIdx vr gr) ∗ blockPts d i rArr qr vr)
              ∗ (listPts d i tIdx (copied d i tArr tIdx vt gt) ∗ blockPts d i tArr qt vt))
            ∗ owing d (cV i) (jV i) O W)
          -∗ wp frame (wpE (defs₀ (F := F)) 𝒱₀ (V d (cV i) (jV i)) none) Set.univ (k ⟨⟩) Q)
        -∗ wp frame (wpE (defs₀ (F := F)) 𝒱₀ (V d (cV i) (jV i)) none) Set.univ (fetch i >>= k) Q) := by
  unfold fetch owing
  simp only [bind_assoc, Prog.bind_lift]
  iintro ⟨Hs, ⟨Hh, Hbh⟩, ⟨Hr, Hbr⟩, ⟨Ht, Hbt⟩, ⟨%W', %hW, HO⟩, #HM⟩ Hk
  imod (Transfers.batch_alloc' EC (c := V d (cV i) (jV i)) (sm := .dma cc0_scratch16.sem) none 16384 (fetched d i qh qr qt vh vr vt gh gr gt)) $$ Hs with Hb
  iapply (Transfers.wp_dmaBatch EC 𝒱₀ (V d (cV i) (jV i)) none (src := idxRow i hArr) (dst := hIdx) (q := qh) (fs := vh) (fd := gh) (j := 0) (u := 0)
    none 16384 (list_credit hIdx) (subset_refl _) (by decide) (Nat.zero_le _) (fetched_h d i qh qr qt vh vr vt gh gr gt)) $$ [Hh Hbh Hb]
  · isplitl [Hbh]; · iexact Hbh
    isplitl [Hh]; · iexact Hh
    iexact Hb
  iintro Hb
  iapply (Transfers.wp_dmaBatch EC 𝒱₀ (V d (cV i) (jV i)) none (src := idxRow i rArr) (dst := rIdx) (q := qr) (fs := vr) (fd := gr) (j := 1) (u := 0)
    none 16384 (list_credit rIdx) (subset_refl _) (by decide) (Nat.zero_le _) (fetched_r d i qh qr qt vh vr vt gh gr gt)) $$ [Hr Hbr Hb]
  · isplitl [Hbr]; · iexact Hbr
    isplitl [Hr]; · iexact Hr
    iexact Hb
  iintro Hb
  iapply (Transfers.wp_dmaBatch EC 𝒱₀ (V d (cV i) (jV i)) none (src := idxRow i tArr) (dst := tIdx) (q := qt) (fs := vt) (fd := gt) (j := 2) (u := 0)
    none 16384 (list_credit tIdx) (subset_refl _) (by decide) (Nat.zero_le _) (fetched_t d i qh qr qt vh vr vt gh gr gt)) $$ [Ht Hbt Hb]
  · isplitl [Hbt]; · iexact Hbt
    isplitl [Ht]; · iexact Ht
    iexact Hb
  iintro Hb
  iapply (Transfers.wp_waitBatchO EC 𝒱₀ (V d (cV i) (jV i)) none none (N := 16384) (n := 3) (u := 0) (list_credit' hIdx) (by decide)) $$ [Hb HO]
  · isplitl [Hb]; · iexact Hb
    isplitl [HO]; · iexact HO
    iapply (Transfers.MayWaits.elim (.dma cc0_scratch16.sem)) $$ HM
  iintro ⟨Hb, HO⟩
  iapply (Transfers.wp_waitBatchO EC 𝒱₀ (V d (cV i) (jV i)) none none (N := 16384) (n := 3) (u := 0 + 16384) (list_credit' rIdx) (by decide)) $$ [Hb HO]
  · isplitl [Hb]; · iexact Hb
    isplitl [HO]; · iexact HO
    iapply (Transfers.MayWaits.elim (.dma cc0_scratch16.sem)) $$ HM
  iintro ⟨Hb, HO⟩
  iapply (Transfers.wp_waitBatchLastO EC 𝒱₀ (V d (cV i) (jV i)) none none (N := 16384) (n := 3) (u := 0 + 16384 + 16384) (list_credit' tIdx) (by decide) (by decide)) $$ [Hb HO]
  · isplitl [Hb]; · iexact Hb
    isplitl [HO]; · iexact HO
    iapply (Transfers.MayWaits.elim (.dma cc0_scratch16.sem)) $$ HM
  iintro ⟨HD, Hs, HO⟩
  ihave HD := (BIBase.Entails.of_eq (fetched_all d i qh qr qt vh vr vt gh gr gt)) $$ HD
  iapply Hk
  isplitl [Hs]; · iexact Hs
  isplitl [HD]; · iexact HD
  iexists (insert (SemLoc.dma cc0_scratch16.sem, none) (insert (SemLoc.dma cc0_scratch16.sem, none) (insert (SemLoc.dma cc0_scratch16.sem, none) W')))
  isplitr
  · ipureintro
    intro p hp
    simp only [Finset.mem_insert] at hp
    rcases hp with rfl | rfl | rfl | hp
    · exact Or.inr rfl
    · exact Or.inr rfl
    · exact Or.inr rfl
    · exact hW p hp
  iexact HO

/-- The tile's row of the result, and its result buffer. -/
abbrev rowPts (f : Buf (Elt F) ((outRow i).view.loc (V d (cV i) (jV i)))) : HP F :=
  (outRow i).view.loc (V d (cV i) (jV i)) ↦[(outRow i).view.set]{fullShare} f
abbrev resPts (f : Buf (Elt F) (outV.view.loc (V d (cV i) (jV i)))) : HP F :=
  outV.view.loc (V d (cV i) (jV i)) ↦[outV.view.set]{fullShare} f

def sent (fo : Buf (Elt F) ((outRow i).view.loc (V d (cV i) (jV i)))) (f : Buf (Elt F) (outV.view.loc (V d (cV i) (jV i)))) : Fin 1 → HP F :=
  fun _ => iprop(rowPts d i ((outRow i).view.write (Elt F) fo (outV.view.read (Elt F) f) Finset.univ) ∗ resPts d i f)

instance sent_storable (fo : Buf (Elt F) ((outRow i).view.loc (V d (cV i) (jV i)))) (f : Buf (Elt F) (outV.view.loc (V d (cV i) (jV i)))) (t : Fin 1) :
    BI.Storable (upEmb : UEmb _ 𝕄) (sent d i fo f t) := by
  unfold sent; infer_instance

theorem outRow_credit : (outRow i).view.amount (.dma cc0_scoped0.sem) = 16384 := rfl
theorem outRow_credit' : (outRow i).view.dmaCredit = 16384 := rfl

theorem sent_of (fo : Buf (Elt F) ((outRow i).view.loc (V d (cV i) (jV i)))) (f : Buf (Elt F) (outV.view.loc (V d (cV i) (jV i)))) :
    iprop(((outRow i).view.loc (V d (cV i) (jV i)) ↦[(outRow i).view.set]{fullShare}
        ((outRow i).view.write (Elt F) fo (ReadAs.same.apply (outV.view.read (Elt F) f)) Finset.univ)) ∗ resPts d i f)
      ⊢ sent d i fo f ⟨0, by decide⟩ := BIBase.Entails.rfl

theorem sent_all (fo : Buf (Elt F) ((outRow i).view.loc (V d (cV i) (jV i)))) (f : Buf (Elt F) (outV.view.loc (V d (cV i) (jV i)))) :
    bigSep Finset.univ (sent d i fo f)
      ⊢ iprop(rowPts d i ((outRow i).view.write (Elt F) fo (outV.view.read (Elt F) f) Finset.univ) ∗ resPts d i f) :=
  BIBase.Entails.of_eq (bigSep_univ_of_subsingleton (0 : Fin 1) (Φ := sent d i fo f))

theorem writeOut_wp (O : CellTallies nD τ sig (HIx 1)) (W : Waits sig (HIx 1))
    (fo : Buf (Elt F) ((outRow i).view.loc (V d (cV i) (jV i)))) (f : Buf (Elt F) (outV.view.loc (V d (cV i) (jV i))))
    (k : PUnit → Prog (TpuEff nD τ sig (Elt F) Λ₀ (.scVector (cV i) (jV i))) α) :
    iprop(semVal (V d (cV i) (jV i), .dma cc0_scoped0.sem) 0 ∗ rowPts d i fo ∗ resPts d i f
        ∗ owing d (cV i) (jV i) O W ∗ Transfers.MayWaits (V d (cV i) (jV i)) none O)
      ⊢ iprop((iprop(semVal (V d (cV i) (jV i), .dma cc0_scoped0.sem) 0
            ∗ (rowPts d i ((outRow i).view.write (Elt F) fo (outV.view.read (Elt F) f) Finset.univ) ∗ resPts d i f)
            ∗ owing d (cV i) (jV i) O W)
          -∗ wp frame (wpE (defs₀ (F := F)) 𝒱₀ (V d (cV i) (jV i)) none) Set.univ (k ⟨⟩) Q)
        -∗ wp frame (wpE (defs₀ (F := F)) 𝒱₀ (V d (cV i) (jV i)) none) Set.univ (writeOut i >>= k) Q) := by
  unfold writeOut owing
  simp only [bind_assoc, Prog.bind_lift]
  iintro ⟨Hs, Ho, Hv, ⟨%W', %hW, HO⟩, #HM⟩ Hk
  imod (Transfers.batch_alloc' EC (c := V d (cV i) (jV i)) (sm := .dma cc0_scoped0.sem) none 16384 (sent d i fo f)) $$ Hs with Hb
  iapply (Transfers.wp_dmaBatch EC 𝒱₀ (V d (cV i) (jV i)) none (src := outV) (dst := outRow i) (q := fullShare) (fs := f) (fd := fo) (j := 0) (u := 0)
    none 16384 (outRow_credit i) (subset_refl _) (by decide) (Nat.zero_le _) (sent_of d i fo f)) $$ [Ho Hv Hb]
  · isplitl [Hv]; · iexact Hv
    isplitl [Ho]; · iexact Ho
    iexact Hb
  iintro Hb
  iapply (Transfers.wp_waitBatchLastO EC 𝒱₀ (V d (cV i) (jV i)) none none (N := 16384) (n := 1) (u := 0) (outRow_credit' i) (by decide) (by decide)) $$ [Hb HO]
  · isplitl [Hb]; · iexact Hb
    isplitl [HO]; · iexact HO
    iapply (Transfers.MayWaits.elim (.dma cc0_scoped0.sem)) $$ HM
  iintro ⟨HD, Hs, HO⟩
  ihave HD := (sent_all d i fo f) $$ HD
  iapply Hk
  isplitl [Hs]; · iexact Hs
  isplitl [HD]; · iexact HD
  iexists (insert (SemLoc.dma cc0_scoped0.sem, none) W')
  isplitr
  · ipureintro
    intro p hp
    rcases Finset.mem_insert.mp hp with rfl | hp
    · exact Or.inr rfl
    · exact hW p hp
  iexact HO

end

end Cert.Proof.Tile

end
-- ==== Proof.Blocks.lean ====
/-
  A tile's task in terms of the whole arrays: its blocks, what its lists name, the result's row it writes, and the
  shares its chunks take.
-/
module

public import proofs.«01_k».proof.Proof.Fetch

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx ownBufs ownSems0 ownCells ownRefs mem_ownCells mem_ownRefs)
open Idealize.ShloMosaic.Tactic

variable {F : FTy → Type} [FloatOps F]

local notation "𝕄" => MT nD τ sig (HIx 1) (Elt F) ℕ UU ℕ

/-! ## The tile's number, and the cells of its blocks -/

theorem bound_core : grid0.bound 0 = 2 := rfl
theorem bound_sub : grid0.bound 1 = 16 := rfl

def wid (i : grid0.Coords) : Fin 32 :=
  ⟨2 * (i 1).val + (i 0).val, by
    have h0 : (i 0).val < 2 := (i 0).isLt
    have h1 : (i 1).val < 16 := (i 1).isLt
    omega⟩

def cell3 (w : Fin 32) (c : Fin 8) (r : Fin 64) : S32x8x64.Idx := fun a => match a with | 0 => w | 1 => c | 2 => r
def cell2 (w : Fin 32) (k : Fin 512) : S32x512.Idx := fun a => match a with | 0 => w | 1 => k
def cell1 (k : Fin 512) : S512.Idx := fun a => match a with | 0 => k

theorem idxRow_emb (i : grid0.Coords) (A : Memref sig .scVector .hbm S32x8x64 .i32) (x : S8x64.Idx) :
    (idxRow i A).view.emb x = A.view.emb (cell3 (wid i) (x 0) (x 1)) := by
  have e : Shape.reshapeEquiv squeezes_S1x8x64_S8x64.numel_eq x
      = (fun a => match a with | 0 => (0 : Fin 1) | 1 => x 0 | 2 => x 1 : S1x8x64.Idx) := by
    refine Shape.reshapeEquiv_eq_of_rowMajor _ ?_
    refine (Shape.rowMajor_val_three _).trans (Eq.trans ?_ (Shape.rowMajor_val_two _).symm)
    show (0 * 8 + (x 0).val) * 64 + (x 1).val = (x 0).val * 64 + (x 1).val
    omega
  show A.view.emb ((Rect.unit (s := S32x8x64) (k0_off1 i) S1x8x64.size (k0_off1_inb i)).emb (Shape.reshapeEquiv squeezes_S1x8x64_S8x64.numel_eq x)) = _
  rw [e]
  congr 1
  funext a
  match a with
  | 0 => exact Fin.ext (by show k0_off1 i 0 + 1 * 0 = 2 * (i 1).val + (i 0).val; rw [k0_off1_eq]; show 2 * (i 1).val + (i 0).val + 1 * 0 = _; omega)
  | 1 => exact Fin.ext (by show k0_off1 i 1 + 1 * (x 0).val = (x 0).val; rw [k0_off1_eq]; show 0 + 1 * (x 0).val = _; omega)
  | 2 => exact Fin.ext (by show k0_off1 i 2 + 1 * (x 1).val = (x 1).val; rw [k0_off1_eq]; show 0 + 1 * (x 1).val = _; omega)

theorem outRow_emb (i : grid0.Coords) (x : S512.Idx) : (outRow i).view.emb x = outA.view.emb (cell2 (wid i) (x 0)) := by
  have e : Shape.reshapeEquiv squeezes_S1x512_S512.numel_eq x = (fun a => match a with | 0 => (0 : Fin 1) | 1 => x 0 : S1x512.Idx) := by
    refine Shape.reshapeEquiv_eq_of_rowMajor _ ?_
    refine (Shape.rowMajor_val_two _).trans (Eq.trans ?_ (Shape.rowMajor_val_one _).symm)
    show 0 * 512 + (x 0).val = (x 0).val
    omega
  show outA.view.emb ((Rect.unit (s := S32x512) (k0_off10 i) S1x512.size (k0_off10_inb i)).emb (Shape.reshapeEquiv squeezes_S1x512_S512.numel_eq x)) = _
  rw [e]
  congr 1
  funext a
  match a with
  | 0 => exact Fin.ext (by show k0_off10 i 0 + 1 * 0 = 2 * (i 1).val + (i 0).val; rw [k0_off10_eq]; show 2 * (i 1).val + (i 0).val + 1 * 0 = _; omega)
  | 1 => exact Fin.ext (by show k0_off10 i 1 + 1 * (x 0).val = (x 0).val; rw [k0_off10_eq]; show 0 + 1 * (x 0).val = _; omega)

/-! ## What the tile's lists name, and the whole result -/

/-- The rows that tile `w`'s lists name, of an index array whose words are all below `z`. -/
def words {z : ℕ} (v : S32x8x64.Idx → BitVec 32) (ok : ∀ y, (v y).toNat < z) (w : Fin 32) (c : Fin 8) (r : Fin 64) : Fin z :=
  ⟨(v (cell3 w c r)).toNat, ok _⟩

/-- The whole result, by the tile that writes each row. -/
def outRes (fE : S100000x128.Idx → F .f32) (fR : S1000x128.Idx → F .f32) (h r t : S32x8x64.Idx → BitVec 32)
    (okh : ∀ y, (h y).toNat < 100000) (okr : ∀ y, (r y).toNat < 1000) (okt : ∀ y, (t y).toNat < 100000) (y : S32x512.Idx) : F .f32 :=
  tileScore fE fR (words h okh (y 0)) (words r okr (y 0)) (words t okt (y 0)) (cell1 (y 1))

section
variable (d : Dev nD) (i : grid0.Coords)

theorem fetched_word (A : Memref sig .scVector .hbm S32x8x64 .i32) (b : Memref sig .scVector .vmem S8x64 .i32)
    (f : Buf (Elt F) ((idxRow i A).view.loc (V d (cV i) (jV i)))) (g : Buf (Elt F) (b.view.loc (V d (cV i) (jV i)))) (x : S8x64.Idx) :
    b.view.read (Elt F) (copied d i A b f g) x = A.view.read (Elt F) f (cell3 (wid i) (x 0) (x 1)) := by
  unfold copied
  rw [View.read_write_univ, View.read_apply, View.read_apply]
  show cast _ (f ((idxRow i A).view.emb x)) = _
  rw [idxRow_emb]

theorem row_result (fE : S100000x128.Idx → F .f32) (fR : S1000x128.Idx → F .f32) (h r t : S32x8x64.Idx → BitVec 32)
    (okh : ∀ y, (h y).toNat < 100000) (okr : ∀ y, (r y).toNat < 1000) (okt : ∀ y, (t y).toNat < 100000)
    (fo : Buf (Elt F) ((outRow i).view.loc (V d (cV i) (jV i)))) (f : Buf (Elt F) (outV.view.loc (V d (cV i) (jV i))))
    (hf : ∀ x : S512.Idx, f x = tileScore fE fR (words h okh (wid i)) (words r okr (wid i)) (words t okt (wid i)) x) :
    (rowPts d i ((outRow i).view.write (Elt F) fo (outV.view.read (Elt F) f) Finset.univ) : HP F)
      = rowPts d i (outRes fE fR h r t okh okr okt) := by
  refine pointsTo_congr fun y hy => ?_
  obtain ⟨x, -, rfl⟩ := Finset.mem_map.mp hy
  rw [View.write_emb_of_mem _ _ (Finset.mem_univ _), View.read_apply, cast_cast, cast_eq]
  show f (outV.view.emb x) = outRes fE fR h r t okh okr okt ((outRow i).view.emb x)
  rw [outRow_emb]
  have e : cell1 (x 0) = x := by
    funext a
    match a with
    | 0 => rfl
  show f x = tileScore fE fR (words h okh (wid i)) (words r okr (wid i)) (words t okt (wid i)) (cell1 (x 0))
  rw [e]
  exact hf x

/-! ## The shares and lists of the eight chunks -/

theorem list_parts (b : Memref sig .scVector .vmem S8x64 .i32) (f : Buf (Elt F) (b.view.loc (V d (cV i) (jV i)))) :
    (listPts d i b f : HP F) = bigSep Finset.univ fun c : Fin 8 =>
      ((listRow b c).view.loc (V d (cV i) (jV i)) ↦[(listRow b c).view.set]{fullShare} f) := by
  have hm : ∀ c y, y ∈ (listRow b c).view.set ↔ ∃ r : Fin 64, y = b.view.emb (at2 c r) := by
    intro c y
    constructor
    · intro hy
      obtain ⟨x, -, rfl⟩ := Finset.mem_map.mp hy
      exact ⟨x 0, listRow_emb b c x⟩
    · rintro ⟨r, rfl⟩
      refine Finset.mem_map.mpr ⟨(fun a => match a with | 0 => r : S64.Idx), Finset.mem_univ _, ?_⟩
      exact listRow_emb b c _
  have hdis : ∀ c ∈ (Finset.univ : Finset (Fin 8)), ∀ c' ∈ (Finset.univ : Finset (Fin 8)), c ≠ c' →
      Disjoint (listRow b c).view.set (listRow b c').view.set := by
    intro c _ c' _ hne
    rw [Finset.disjoint_left]
    intro y hy hy'
    obtain ⟨r, rfl⟩ := (hm c y).mp hy
    obtain ⟨r', e⟩ := (hm c' _).mp hy'
    exact hne (congrFun (b.view.emb.injective e) 0)
  have hcov : (Finset.univ : Finset (Fin 8)).biUnion (fun c => (listRow b c).view.set) = b.view.set := by
    ext y
    rw [Finset.mem_biUnion]
    constructor
    · rintro ⟨c, -, hy⟩
      obtain ⟨r, rfl⟩ := (hm c y).mp hy
      exact Finset.mem_map.mpr ⟨_, Finset.mem_univ _, rfl⟩
    · intro hy
      obtain ⟨x, -, rfl⟩ := Finset.mem_map.mp hy
      refine ⟨x 0, Finset.mem_univ _, (hm _ _).mpr ⟨x 1, congrArg _ ?_⟩⟩
      funext a
      match a with
      | 0 => rfl
      | 1 => rfl
  rw [show (listPts d i b f : HP F) = (b.view.loc (V d (cV i) (jV i)) ↦[b.view.set]{fullShare} f) from rfl, ← hcov]
  exact pointsTo_biUnion Finset.univ (ℓ := b.view.loc (V d (cV i) (jV i))) (fun c => (listRow b c).view.set) hdis

theorem eight_pos : 0 < 8 := by decide

/-- The two tables' shares at a tile, and its lists, are what its eight chunks take. -/
theorem feeds_eq (qE qR : PosShare TreeShare)
    (fE : Buf (Elt F) (entAll.view.loc (V d (cV i) (jV i)))) (fR : Buf (Elt F) (relAll.view.loc (V d (cV i) (jV i))))
    (fh : Buf (Elt F) (hIdx.view.loc (V d (cV i) (jV i)))) (fr : Buf (Elt F) (rIdx.view.loc (V d (cV i) (jV i))))
    (ft : Buf (Elt F) (tIdx.view.loc (V d (cV i) (jV i)))) :
    feeds d (cV i) (jV i) fE fR fh fr ft (pieceOf qE.left 8 eight_pos) (pieceOf qR 8 eight_pos) (pieceOf qE.right 8 eight_pos)
      = iprop((((entAll.view.loc (V d (cV i) (jV i)) ↦[entAll.view.set]{qE.left} fE) ∗ listPts d i hIdx fh)
          ∗ ((relAll.view.loc (V d (cV i) (jV i)) ↦[relAll.view.set]{qR} fR) ∗ listPts d i rIdx fr)
          ∗ ((entAll.view.loc (V d (cV i) (jV i)) ↦[entAll.view.set]{qE.right} fE) ∗ listPts d i tIdx ft))) := by
  unfold feeds feedAt feed
  rw [bigSep_sep', bigSep_sep', bigSep_sep', bigSep_sep', bigSep_sep',
    list_parts d i hIdx fh, list_parts d i rIdx fr, list_parts d i tIdx ft,
    pointsTo_piecesOf entAll.view.set fE eight_pos qE.left, pointsTo_piecesOf entAll.view.set fE eight_pos qE.right,
    pointsTo_piecesOf relAll.view.set fR eight_pos qR]

theorem ent_set : entAll.view.set = Finset.univ := by
  refine Finset.eq_univ_iff_forall.mpr fun y => Finset.mem_map.mpr ⟨y, Finset.mem_univ _, ent_emb y⟩
theorem rel_set : relAll.view.set = Finset.univ := by
  refine Finset.eq_univ_iff_forall.mpr fun y => Finset.mem_map.mpr ⟨y, Finset.mem_univ _, rel_emb y⟩

/-! ## The tile's own buffers and semaphores -/

/-- A buffer of the tile's, at whatever it holds. -/
def anyM {sp : Space} {s : Shape} {e : EltTy} (b : Memref sig .scVector sp s e) : HP F :=
  iprop(∃ f, b.view.loc (V d (cV i) (jV i)) ↦[b.view.set]{fullShare} f)

theorem anyM_univ {sp : Space} {s : Shape} {e : EltTy} (b : Memref sig .scVector sp s e) (hb : b.view.set = Finset.univ) :
    (anyM d i b : HP F) = iprop(∃ f, b.view.loc (V d (cV i) (jV i)) ↦{fullShare} f) := by
  unfold anyM
  rw [hb]

def scr : Fin 13 → Ref sig .scVector
  | 0 => cc0_scratch0 | 1 => cc0_scratch1 | 2 => cc0_scratch2 | 3 => cc0_scratch3 | 4 => cc0_scratch4 | 5 => cc0_scratch5
  | 6 => cc0_scratch6 | 7 => cc0_scratch7 | 8 => cc0_scratch8 | 9 => cc0_scratch9 | 10 => cc0_scratch10 | 11 => cc0_scratch11
  | 12 => cc0_scratch12

def sems : Fin 5 → DmaSem sig
  | 0 => cc0_scratch13.sem | 1 => cc0_scratch14.sem | 2 => cc0_scratch15.sem | 3 => cc0_scratch16.sem | 4 => cc0_scoped0.sem

/-- The members a one-to-one function names, apart from the rest. -/
theorem bigSep_named {I J : Type} [DecidableEq I] [DecidableEq J] {s : Finset I} {t : Finset J} {f : J → I} (hf : Set.InjOn f t)
    (hs : ∀ j ∈ t, f j ∈ s) {Φ : I → HP F} :
    bigSep s Φ = iprop(bigSep t (fun j => Φ (f j)) ∗ bigSep (s \ t.image f) Φ) := by
  have hsub : t.image f ⊆ s := by
    intro x hx
    obtain ⟨j, hj, rfl⟩ := Finset.mem_image.mp hx
    exact hs j hj
  rw [SparseCore.bigSep_sdiff_split' hsub, bigSep_image_of_injOn hf]

theorem scr_injective : ∀ a b, scr a = scr b → a = b := by decide
theorem sems_injective : ∀ a b, sems a = sems b → a = b := by decide
theorem scr_own : ∀ a, (((Proc.scVector (cV i) (jV i)).devRef (scr a)) : DevRef τ sig).owner = .proc (.scVector (cV i) (jV i)) := by
  intro a
  fin_cases a <;> rfl
theorem sems_scoped : ∀ a, (SemLoc.dma (sems a) : SemLoc sig).isScoped .scVector = true := by decide

abbrev slotSem (a : Fin 5) : HP F := semVal (V d (cV i) (jV i), .dma (sems a)) 0

theorem cells_own (a : Fin 5) : ((V d (cV i) (jV i), .dma (sems a)) : GSem nD τ sig) ∈ ownCells (V d (cV i) (jV i)) :=
  mem_ownCells.mpr ⟨rfl, sems_scoped a⟩

/-- The tile's thirteen scratch buffers. -/
def allBufs : HP F :=
  iprop(anyM d i hIdx ∗ anyM d i rIdx ∗ anyM d i tIdx
    ∗ anyM d i (bufH 0) ∗ anyM d i (bufR 0) ∗ anyM d i (bufT 0)
    ∗ anyM d i (bufH 1) ∗ anyM d i (bufR 1) ∗ anyM d i (bufT 1)
    ∗ anyM d i (bufH 2) ∗ anyM d i (bufR 2) ∗ anyM d i (bufT 2) ∗ anyM d i outV)

/-- Its five semaphores, at zero. -/
def allSems : HP F := iprop(slotSem d i 0 ∗ slotSem d i 1 ∗ slotSem d i 2 ∗ slotSem d i 3 ∗ slotSem d i 4)

theorem ownSems0_parts : (ownSems0 (V d (cV i) (jV i)) : HP F)
    = iprop(allSems d i
        ∗ bigSep (ownCells (V d (cV i) (jV i)) \ Finset.univ.image fun a => ((V d (cV i) (jV i), .dma (sems a)) : GSem nD τ sig)) fun g => semVal g 0) := by
  unfold SparseCore.Cfg.ownSems0 allSems
  rw [bigSep_named (t := (Finset.univ : Finset (Fin 5))) (f := fun a => ((V d (cV i) (jV i), .dma (sems a)) : GSem nD τ sig))
    (fun a _ b _ e => sems_injective a b (SemLoc.dma.inj (Prod.mk.inj e).2)) (fun a _ => cells_own d i a),
    bigSep_univ_eq_bigSepL [0, 1, 2, 3, 4] (by decide) (by decide)]
  rfl

theorem ownBufs_parts : (ownBufs (V d (cV i) (jV i)) : HP F)
    = iprop(allBufs d i
        ∗ bigSep (ownRefs (τ := τ) (.scVector (cV i) (jV i)) \ Finset.univ.image fun a => (Proc.scVector (cV i) (jV i)).devRef (scr a))
            fun b => iprop(∃ f, ((d, b) : Loc nD τ sig) ↦{fullShare} f)) := by
  unfold SparseCore.Cfg.ownBufs allBufs
  refine (bigSep_named (t := (Finset.univ : Finset (Fin 13))) (f := fun a => (Proc.scVector (cV i) (jV i)).devRef (scr a))
    (fun a _ b _ e => scr_injective a b (Proc.devRef_injective _ e))
    (fun a _ => SparseCore.Cfg.mem_ownRefs_of_owner (p := Proc.scVector (cV i) (jV i)) (scr_own i a))).trans ?_
  rw [bigSep_univ_eq_bigSepL [0, 1, 2, 3, 4, 5, 6, 7, 8, 9, 10, 11, 12] (by decide) (by decide),
    anyM_univ d i hIdx (View.set_whole _), anyM_univ d i rIdx (View.set_whole _), anyM_univ d i tIdx (View.set_whole _),
    anyM_univ d i (bufH 0) (View.set_whole _), anyM_univ d i (bufR 0) (View.set_whole _), anyM_univ d i (bufT 0) (View.set_whole _),
    anyM_univ d i (bufH 1) (View.set_whole _), anyM_univ d i (bufR 1) (View.set_whole _), anyM_univ d i (bufT 1) (View.set_whole _),
    anyM_univ d i (bufH 2) (View.set_whole _), anyM_univ d i (bufR 2) (View.set_whole _), anyM_univ d i (bufT 2) (View.set_whole _),
    anyM_univ d i outV (View.set_whole _)]
  rfl

/-- A buffer set is its semaphore and its three buffers. -/
theorem slot_parts (k : Fin 3) : (slot d (cV i) (jV i) k : HP F)
    ⊣⊢ iprop(semVal (V d (cV i) (jV i), .dma (ringSem k)) 0 ∗ anyM d i (bufH k) ∗ anyM d i (bufR k) ∗ anyM d i (bufT k)) := by
  unfold slot anyM
  constructor
  · iintro ⟨Hs, %fA, %fB, %fC, HA, HB, HC⟩
    isplitl [Hs]; · iexact Hs
    isplitl [HA]; · iexists fA; iexact HA
    isplitl [HB]; · iexists fB; iexact HB
    iexists fC; iexact HC
  · iintro ⟨Hs, ⟨%fA, HA⟩, ⟨%fB, HB⟩, %fC, HC⟩
    isplitl [Hs]; · iexact Hs
    iexists fA, fB, fC
    isplitl [HA]; · iexact HA
    isplitl [HB]; · iexact HB
    iexact HC

/-- Nothing is scored of a result buffer to begin with; -/
theorem scored_zero (G : S512.Idx → F .f32) : (anyM d i outV : HP F) ⊢ scored d (cV i) (jV i) G 0 := by
  rw [anyM_univ d i outV (View.set_whole _)]
  unfold scored
  iintro ⟨%f, H⟩
  iexists f
  isplitl [H]; · iexact H
  ipureintro
  intro x hx
  exact absurd hx (Nat.not_lt_zero _)

/-- at the end, all of it is. -/
theorem scored_full (G : S512.Idx → F .f32) :
    (scored d (cV i) (jV i) G 512 : HP F) ⊢ iprop(∃ f : Buf (Elt F) (outV.view.loc (V d (cV i) (jV i))), ⌜∀ x : S512.Idx, f x = G x⌝ ∗ resPts d i f) := by
  have hs : outV.view.set = Finset.univ := View.set_whole _
  unfold scored resPts
  rw [hs]
  iintro ⟨%f, H, %hf⟩
  iexists f
  isplitr
  · ipureintro
    intro x
    exact hf x (x 0).isLt
  iexact H

end

end Cert.Proof.Tile

end
-- ==== Proof.ProgramEq.lean ====
/-
  The printed tile program is the one the proof steps through.
-/
module
public import proofs.«01_k».proof.Proof.Program
@[expose] public section
noncomputable section
namespace Cert.Proof.Tile
open Cert.KernelIdeal Cert.KernelIdeal.Gen
open Idealize.ShloMosaic Idealize.SL.Sem
variable {F : FTy → Type} [FloatOps F]
set_option cleanup.letToHave false in
set_option maxRecDepth 100000 in
set_option maxHeartbeats 40000000 in
theorem tec_eq (i : grid0.Coords) :
    cc0__tec_kernel (F := F) i hArr (Memref.isWhole_whole _) rArr (Memref.isWhole_whole _) tArr (Memref.isWhole_whole _)
      entA (Memref.isWhole_whole _) relA (Memref.isWhole_whole _) outA (Memref.isWhole_whole _)
      hIdx (Memref.isWhole_whole _) rIdx (Memref.isWhole_whole _) tIdx (Memref.isWhole_whole _)
      (bufH 0) (Memref.isWhole_whole _) (bufR 0) (Memref.isWhole_whole _) (bufT 0) (Memref.isWhole_whole _)
      (bufH 1) (Memref.isWhole_whole _) (bufR 1) (Memref.isWhole_whole _) (bufT 1) (Memref.isWhole_whole _)
      (bufH 2) (Memref.isWhole_whole _) (bufR 2) (Memref.isWhole_whole _) (bufT 2) (Memref.isWhole_whole _)
      outV (Memref.isWhole_whole _) cc0_scratch13 cc0_scratch14 cc0_scratch15 cc0_scratch16 cc0_scoped0
      = tile i := by
  simp (maxSteps := 10000000) only [cc0__tec_kernel, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40,
    tile, fetch, ring, writeOut, fire, await, chunk, group, pairs, one, bind_assoc, pure_bind]
  rfl

end Cert.Proof.Tile

end
-- ==== Proof.TileBody.lean ====
/-
  The tile's program from its operands to its result: its three blocks of indices and its shares of the two tables
  come back as they went in, and its row of the result holds the scores of the rows the indices name.
-/
module

public import proofs.«01_k».proof.Proof.Blocks
public import proofs.«01_k».proof.Proof.ProgramEq

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (S V T)
open Idealize.ShloMosaic.SparseCore.Cfg (HIx ownBufs ownSems0 ownCells ownRefs mem_ownCells mem_ownRefs)
open Idealize.ShloMosaic.Tactic

variable {F : FTy → Type} [FloatOps F]

local notation "𝕄" => MT nD τ sig (HIx 1) (Elt F) ℕ UU ℕ

section
variable (d : Dev nD) (i : grid0.Coords)
  (fE : Buf (Elt F) (entAll.view.loc (V d (cV i) (jV i)))) (fR : Buf (Elt F) (relAll.view.loc (V d (cV i) (jV i))))
  (h r t : S32x8x64.Idx → BitVec 32)
  (okh : ∀ y, (h y).toNat < 100000) (okr : ∀ y, (r y).toNat < 1000) (okt : ∀ y, (t y).toNat < 100000)
  (qh qr qt qE qR : PosShare TreeShare)

/-- What a tile takes of the arrays, and brings back, but for its row of the result. -/
def operands : HP F :=
  iprop(blockPts d i hArr qh h ∗ blockPts d i rArr qr r ∗ blockPts d i tArr qt t
    ∗ (entAll.view.loc (V d (cV i) (jV i)) ↦[entAll.view.set]{qE} fE) ∗ (relAll.view.loc (V d (cV i) (jV i)) ↦[relAll.view.set]{qR} fR))

theorem tile_split : (tile i : Prog (TpuEff nD τ sig (Elt F) Λ₀ (.scVector (cV i) (jV i))) PUnit)
    = fetch i >>= fun _ => ring >>= fun _ => writeOut i >>= fun _ => pure ⟨⟩ := by
  have e : (writeOut i : Prog (TpuEff nD τ sig (Elt F) Λ₀ (.scVector (cV i) (jV i))) PUnit) >>= (fun _ => pure ⟨⟩) = writeOut i := bind_pure _
  rw [e]
  rfl

theorem tile_wp (fo : Buf (Elt F) ((outRow i).view.loc (V d (cV i) (jV i)))) (O : CellTallies nD τ sig (HIx 1)) (W : Waits sig (HIx 1)) :
    iprop(operands d i fE fR h r t qh qr qt qE qR ∗ rowPts d i fo ∗ allBufs d i ∗ allSems d i
        ∗ owing d (cV i) (jV i) O W ∗ Transfers.MayWaits (V d (cV i) (jV i)) none O)
      ⊢ wp frame (wpE (defs₀ (F := F)) 𝒱₀ (V d (cV i) (jV i)) none) Set.univ (tile i) fun _ =>
          iprop(operands d i fE fR h r t qh qr qt qE qR ∗ rowPts d i (outRes fE fR h r t okh okr okt) ∗ allBufs d i ∗ allSems d i
            ∗ owing d (cV i) (jV i) O W) := by
  rw [tile_split]
  unfold operands allBufs allSems slotSem
  iintro ⟨⟨Hh, Hr, Ht, HE, HR⟩, Ho, ⟨B0, B1, B2, B3, B4, B5, B6, B7, B8, B9, B10, B11, B12⟩, ⟨S0, S1, S2, S3, S4⟩, HO, #HM⟩
  ihave B0 := (BIBase.Entails.of_eq (show (anyM d i hIdx : HP F) = iprop(∃ f, listPts d i hIdx f) from rfl)) $$ B0
  ihave B1 := (BIBase.Entails.of_eq (show (anyM d i rIdx : HP F) = iprop(∃ f, listPts d i rIdx f) from rfl)) $$ B1
  ihave B2 := (BIBase.Entails.of_eq (show (anyM d i tIdx : HP F) = iprop(∃ f, listPts d i tIdx f) from rfl)) $$ B2
  icases B0 with ⟨%gh, B0⟩
  icases B1 with ⟨%gr, B1⟩
  icases B2 with ⟨%gt, B2⟩
  iapply (fetch_wp d i qh qr qt h r t gh gr gt O W) $$ [S3 B0 B1 B2 Hh Hr Ht HO]
  · isplitl [S3]; · iexact S3
    isplitl [B0 Hh]
    · isplitl [B0]; · iexact B0
      iexact Hh
    isplitl [B1 Hr]
    · isplitl [B1]; · iexact B1
      iexact Hr
    isplitl [B2 Ht]
    · isplitl [B2]; · iexact B2
      iexact Ht
    isplitl [HO]; · iexact HO
    iexact HM
  iintro ⟨S3, ⟨⟨B0, Hh⟩, ⟨B1, Hr⟩, B2, Ht⟩, HO⟩
  ihave HE := (pointsTo_share (PosShare.mem_left_op_right qE)).1 $$ HE
  icases HE with ⟨HE1, HE2⟩
  iapply (ring_wp d (cV i) (jV i) fE fR (copied d i hArr hIdx h gh) (copied d i rArr rIdx r gr) (copied d i tArr tIdx t gt)
    (words h okh (wid i)) (words r okr (wid i)) (words t okt (wid i))
    (pieceOf qE.left 8 eight_pos) (pieceOf qR 8 eight_pos) (pieceOf qE.right 8 eight_pos)
    (fun c x => by rw [fetched_word d i hArr hIdx h gh (at2 c x)]; rfl)
    (fun c x => by rw [fetched_word d i rArr rIdx r gr (at2 c x)]; rfl)
    (fun c x => by rw [fetched_word d i tArr tIdx t gt (at2 c x)]; rfl) O W) $$ [HE1 HE2 HR B0 B1 B2 B3 B4 B5 B6 B7 B8 B9 B10 B11 B12 S0 S1 S2 HO]
  · isplitl [HE1 HE2 HR B0 B1 B2]
    · iapply (BIBase.Entails.of_eq (feeds_eq d i qE qR fE fR (copied d i hArr hIdx h gh) (copied d i rArr rIdx r gr) (copied d i tArr tIdx t gt)).symm)
      isplitl [HE1 B0]
      · isplitl [HE1]; · iexact HE1
        iexact B0
      isplitl [HR B1]
      · isplitl [HR]; · iexact HR
        iexact B1
      isplitl [HE2]; · iexact HE2
      iexact B2
    isplitl [B3 B4 B5 B6 B7 B8 B9 B10 B11 S0 S1 S2]
    · unfold slots
      isplitl [B3 B4 B5 S0]
      · iapply (slot_parts d i 0).2
        isplitl [S0]; · iexact S0
        isplitl [B3]; · iexact B3
        isplitl [B4]; · iexact B4
        iexact B5
      isplitl [B6 B7 B8 S1]
      · iapply (slot_parts d i 1).2
        isplitl [S1]; · iexact S1
        isplitl [B6]; · iexact B6
        isplitl [B7]; · iexact B7
        iexact B8
      iapply (slot_parts d i 2).2
      isplitl [S2]; · iexact S2
      isplitl [B9]; · iexact B9
      isplitl [B10]; · iexact B10
      iexact B11
    isplitl [B12]
    · iapply (scored_zero d i (tileScore fE fR (words h okh (wid i)) (words r okr (wid i)) (words t okt (wid i)))) $$ B12
    isplitl [HO]; · iexact HO
    iexact HM
  iintro ⟨HF, HS, HC, HO⟩
  ihave HF := (BIBase.Entails.of_eq (feeds_eq d i qE qR fE fR (copied d i hArr hIdx h gh) (copied d i rArr rIdx r gr) (copied d i tArr tIdx t gt))) $$ HF
  icases HF with ⟨⟨HE1, B0⟩, ⟨HR, B1⟩, HE2, B2⟩
  ihave HE := (pointsTo_share (PosShare.mem_left_op_right qE)).2 $$ [HE1 HE2]
  · isplitl [HE1]; · iexact HE1
    iexact HE2
  unfold slots
  icases HS with ⟨HS0, HS1, HS2⟩
  ihave HS0 := (slot_parts d i 0).1 $$ HS0
  ihave HS1 := (slot_parts d i 1).1 $$ HS1
  ihave HS2 := (slot_parts d i 2).1 $$ HS2
  icases HS0 with ⟨S0, B3, B4, B5⟩
  icases HS1 with ⟨S1, B6, B7, B8⟩
  icases HS2 with ⟨S2, B9, B10, B11⟩
  ihave HC := (scored_full d i (tileScore fE fR (words h okh (wid i)) (words r okr (wid i)) (words t okt (wid i)))) $$ HC
  icases HC with ⟨%f, %hf, HC⟩
  iapply (writeOut_wp d i O W fo f) $$ [S4 Ho HC HO]
  · isplitl [S4]; · iexact S4
    isplitl [Ho]; · iexact Ho
    isplitl [HC]; · iexact HC
    isplitl [HO]; · iexact HO
    iexact HM
  iintro ⟨S4, ⟨Ho, HC⟩, HO⟩
  ihave Ho := (BIBase.Entails.of_eq (row_result d i fE fR h r t okh okr okt fo f hf)) $$ Ho
  rw [wp_pure]
  imodintro
  isplitl [Hh Hr Ht HE HR]
  · isplitl [Hh]; · iexact Hh
    isplitl [Hr]; · iexact Hr
    isplitl [Ht]; · iexact Ht
    isplitl [HE]; · iexact HE
    iexact HR
  isplitl [Ho]; · iexact Ho
  isplitl [B0 B1 B2 B3 B4 B5 B6 B7 B8 B9 B10 B11 HC]
  · isplitl [B0]; · unfold anyM; iexists _; iexact B0
    isplitl [B1]; · unfold anyM; iexists _; iexact B1
    isplitl [B2]; · unfold anyM; iexists _; iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    unfold anyM; iexists f; iexact HC
  isplitl [S0 S1 S2 S3 S4]
  · isplitl [S0]; · iexact S0
    isplitl [S1]; · iexact S1
    isplitl [S2]; · iexact S2
    isplitl [S3]; · iexact S3
    iexact S4
  iexact HO

end

end Cert.Proof.Tile

end
-- ==== Proof.Task.lean ====
/-
  What the one SparseCore call hands its tiles and takes back, and each tile's part of it.
-/
module

public import proofs.«01_k».proof.Proof.TileBody

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (V)
open Idealize.ShloMosaic.SparseCore.Cfg (HIx ownBufs ownSems0 ownCells ownRefs mem_ownCells mem_ownRefs)
open Idealize.ShloMosaic.Tactic

variable {F : FTy → Type} [FloatOps F]

local notation "𝕄" => MT nD τ sig (HIx 1) (Elt F) ℕ UU ℕ

/-! ## The arrays -/

abbrev hLoc (d : Dev nD) : Loc nD τ sig := (SparseCore.T d).loc main_v0
abbrev rLoc (d : Dev nD) : Loc nD τ sig := (SparseCore.T d).loc main_v1
abbrev tLoc (d : Dev nD) : Loc nD τ sig := (SparseCore.T d).loc main_v2
abbrev eLoc (d : Dev nD) : Loc nD τ sig := (SparseCore.T d).loc main_arg3
abbrev lLoc (d : Dev nD) : Loc nD τ sig := (SparseCore.T d).loc main_arg4
abbrev oLoc (d : Dev nD) : Loc nD τ sig := (SparseCore.T d).loc main_v3

theorem odiv : 32 ∣ S32x512.size 0 := ⟨1, rfl⟩
/-- Tile `w`'s row of the result. -/
abbrev outSet (w : Fin 32) : Finset S32x512.Idx := (Rect.part (s := S32x512) (a₀ := 0) odiv w).set

theorem outRow_set (i : grid0.Coords) : (outRow i).view.set = outSet (wid i) := by
  have e : Rect.unit (s := S32x512) (k0_off10 i) S1x512.size (k0_off10_inb i) = Rect.part (s := S32x512) (a₀ := 0) odiv (wid i) := by
    unfold Rect.part Rect.block
    congr 1 <;> funext a
    · rw [k0_off10_eq]
      match a with
      | 0 => simp [Shape.partIx, Shape.partSize, wid]
      | 1 => simp [Shape.partIx, Shape.partSize]
    · match a with
      | 0 => simp [Shape.partSize]
      | 1 => simp [Shape.partSize]
  show (((outA.view).slice (Rect.unit (s := S32x512) (k0_off10 i) S1x512.size (k0_off10_inb i))).reshape S512 squeezes_S1x512_S512.numel_eq).set = _
  rw [View.set_reshape]
  refine (View.set_slice _ _).trans (Finset.map_refl.trans ?_)
  exact congrArg (fun q : Rect S32x512 => q.set) e

theorem tiles_pos : 0 < 32 := by decide
/-- Tile `w`'s share of an array every tile reads. -/
abbrev sh (w : Fin 32) : PosShare TreeShare := pieceOf fullShare 32 tiles_pos w

section
variable (d : Dev nD) (fE : Buf (Elt F) (eLoc d)) (fR : Buf (Elt F) (lLoc d)) (h : Buf (Elt F) (hLoc d)) (r : Buf (Elt F) (rLoc d)) (t : Buf (Elt F) (tLoc d))

/-- What tile `w` takes and brings back, but for its row of the result. -/
abbrev taken (w : Fin 32) : HP F :=
  iprop((hLoc d ↦{sh w} h) ∗ (rLoc d ↦{sh w} r) ∗ (tLoc d ↦{sh w} t) ∗ (eLoc d ↦{sh w} fE) ∗ (lLoc d ↦{sh w} fR))
abbrev outPts (w : Fin 32) (f : Buf (Elt F) (oLoc d)) : HP F := oLoc d ↦[outSet w]{fullShare} f

variable (i : grid0.Coords)

theorem outPts_row (f : Buf (Elt F) (oLoc d)) : (rowPts d i f : HP F) = outPts d (wid i) f := by
  unfold rowPts
  rw [outRow_set]

/-- Its blocks of the index arrays, out of its shares of them, and back. -/
theorem taken_operands : (taken d fE fR h r t (wid i) : HP F)
    ⊢ iprop(operands d i fE fR h r t (sh (wid i)) (sh (wid i)) (sh (wid i)) (sh (wid i)) (sh (wid i))
      ∗ (operands d i fE fR h r t (sh (wid i)) (sh (wid i)) (sh (wid i)) (sh (wid i)) (sh (wid i)) -∗ taken d fE fR h r t (wid i))) := by
  unfold operands
  rw [ent_set, rel_set]
  iintro ⟨Hh, Hr, Ht, HE, HR⟩
  ihave Hh := (pointsTo_split_subset (ℓ := hLoc d) (q := sh (wid i)) (f := h) (S := Finset.univ) (Finset.subset_univ (idxRow i hArr).view.set)).1 $$ Hh
  ihave Hr := (pointsTo_split_subset (ℓ := rLoc d) (q := sh (wid i)) (f := r) (S := Finset.univ) (Finset.subset_univ (idxRow i rArr).view.set)).1 $$ Hr
  ihave Ht := (pointsTo_split_subset (ℓ := tLoc d) (q := sh (wid i)) (f := t) (S := Finset.univ) (Finset.subset_univ (idxRow i tArr).view.set)).1 $$ Ht
  icases Hh with ⟨Hh, Hh'⟩
  icases Hr with ⟨Hr, Hr'⟩
  icases Ht with ⟨Ht, Ht'⟩
  isplitl [Hh Hr Ht HE HR]
  · isplitl [Hh]; · iexact Hh
    isplitl [Hr]; · iexact Hr
    isplitl [Ht]; · iexact Ht
    isplitl [HE]; · iexact HE
    iexact HR
  iintro ⟨Hh, Hr, Ht, HE, HR⟩
  isplitl [Hh Hh']
  · iapply (pointsTo_split_subset (ℓ := hLoc d) (q := sh (wid i)) (f := h) (S := Finset.univ) (Finset.subset_univ (idxRow i hArr).view.set)).2
    isplitl [Hh]; · iexact Hh
    iexact Hh'
  isplitl [Hr Hr']
  · iapply (pointsTo_split_subset (ℓ := rLoc d) (q := sh (wid i)) (f := r) (S := Finset.univ) (Finset.subset_univ (idxRow i rArr).view.set)).2
    isplitl [Hr]; · iexact Hr
    iexact Hr'
  isplitl [Ht Ht']
  · iapply (pointsTo_split_subset (ℓ := tLoc d) (q := sh (wid i)) (f := t) (S := Finset.univ) (Finset.subset_univ (idxRow i tArr).view.set)).2
    isplitl [Ht]; · iexact Ht
    iexact Ht'
  isplitl [HE]; · iexact HE
  iexact HR

/-- The tile's program, from what it takes to what it brings back. -/
theorem tile_body (okh : ∀ y, (h y).toNat < 100000) (okr : ∀ y, (r y).toNat < 1000) (okt : ∀ y, (t y).toNat < 100000)
    (fo : Buf (Elt F) (oLoc d)) (hF : (K (F := F)).Facts) (O : CellTallies nD τ sig (HIx 1)) (W : Waits sig (HIx 1)) (hO : ∀ g, O g none = 0) :
    iprop(levAts (K (F := F)).L (K (F := F)).lev ∗ emp ∗ (taken d fE fR h r t (wid i) ∗ outPts d (wid i) fo)
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (tile i)
          fun _ => iprop((taken d fE fR h r t (wid i) ∗ outPts d (wid i) (outRes fE fR h r t okh okr okt))
            ∗ scopedBufs (V d (cV i) (jV i)) ∗ scopedSems0 (V d (cV i) (jV i))
            ∗ ∃ W', ⌜∀ p ∈ W', p ∈ W ∨ p.2 = none⌝ ∗ owes (V d (cV i) (jV i)) O W') := by
  rw [(K (F := F)).scopedBufs_V hF d (cV i) (jV i), SparseCore.Cfg.scopedSems0_V (Val := Elt F) d (cV i) (jV i), ownSems0_parts, ownBufs_parts]
  have hw := tile_wp d i fE fR h r t okh okr okt (sh (wid i)) (sh (wid i)) (sh (wid i)) (sh (wid i)) (sh (wid i)) fo O W
  generalize (tile i : Prog (TpuEff nD τ sig (Elt F) Λ₀ (.scVector (cV i) (jV i))) PUnit) = prog at hw ⊢
  iintro ⟨#Hlv, -, ⟨Hin, Ho⟩, ⟨HB, HB'⟩, ⟨HS, HS'⟩, HO⟩
  ihave HM := (show levAts (K (F := F)).L (K (F := F)).lev ⊢ Transfers.MayWaits (V d (cV i) (jV i)) (default : HIx 1) O from
    (K (F := F)).mayWaits_none (thr := V d (cV i) (jV i)) hO) $$ Hlv
  ihave Hin := (taken_operands d fE fR h r t i) $$ Hin
  icases Hin with ⟨Hin, Hback⟩
  ihave Ho := (BIBase.Entails.of_eq (outPts_row d i fo).symm) $$ Ho
  iapply (wp_wand_r frame (wpE (defs₀ (F := F)) 𝒱₀ (V d (cV i) (jV i)) none) Set.univ)
  isplitl [Hin Ho HB HS HO]
  · iapply hw
    isplitl [Hin]; · iexact Hin
    isplitl [Ho]; · iexact Ho
    isplitl [HB]; · iexact HB
    isplitl [HS]; · iexact HS
    isplitl [HO]
    · unfold owing
      iexists W
      isplitr
      · ipureintro; exact fun p hp => Or.inl hp
      iexact HO
    iexact HM
  iintro %_ ⟨Hin, Ho, HB, HS, HO⟩
  isplitl [Hin Ho Hback]
  · isplitl [Hin Hback]; · iapply Hback; iexact Hin
    iapply (BIBase.Entails.of_eq (outPts_row d i (outRes fE fR h r t okh okr okt))); iexact Ho
  isplitl [HB HB']
  · isplitl [HB]; · iexact HB
    iexact HB'
  isplitl [HS HS']
  · isplitl [HS]; · iexact HS
    iexact HS'
  unfold owing
  iexact HO

end

end Cert.Proof.Tile

end
-- ==== Proof.Launch.lean ====
/-
  The whole run: @main's reshapes, the call that hands every tile its part, the reshape of the result; and what every
  fair execution ends with.
-/
module

public import proofs.«01_k».proof.Proof.Task

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore (V)
open Idealize.ShloMosaic.SparseCore.Cfg (HIx)
open Idealize.ShloMosaic.StableHlo (held wp_hlo_within)
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arguments, and what the run makes of them -/

abbrev hArg (d : Dev nD) : Loc nD τ sig := (SparseCore.T d).loc main_arg0
abbrev rArg (d : Dev nD) : Loc nD τ sig := (SparseCore.T d).loc main_arg1
abbrev tArg (d : Dev nD) : Loc nD τ sig := (SparseCore.T d).loc main_arg2
abbrev resLoc (d : Dev nD) : Loc nD τ sig := (SparseCore.T d).loc main_v4

/-- Every index names a row of its table. -/
structure InRows : Prop where
  h : ∀ (d : Dev nD) (j : S16384.Idx), BitVec.toNat (w := 32) (m (hArg d) j) < 100000
  r : ∀ (d : Dev nD) (j : S16384.Idx), BitVec.toNat (w := 32) (m (rArg d) j) < 1000
  t : ∀ (d : Dev nD) (j : S16384.Idx), BitVec.toNat (w := 32) (m (tArg d) j) < 100000

/-- The index arrays as the kernel takes them. -/
def hWords (d : Dev nD) : S32x8x64.Idx → BitVec 32 := shapeCast S32x8x64 (m (hArg d)) shapeCasts_S16384_S32x8x64
def rWords (d : Dev nD) : S32x8x64.Idx → BitVec 32 := shapeCast S32x8x64 (m (rArg d)) shapeCasts_S16384_S32x8x64
def tWords (d : Dev nD) : S32x8x64.Idx → BitVec 32 := shapeCast S32x8x64 (m (tArg d)) shapeCasts_S16384_S32x8x64

variable (ok : InRows m)

/-- The kernel's result, and the program's. -/
def rowsRes (d : Dev nD) : S32x512.Idx → F .f32 :=
  outRes (m (eLoc d)) (m (lLoc d)) (hWords m d) (rWords m d) (tWords m d) (fun _ => ok.h d _) (fun _ => ok.r d _) (fun _ => ok.t d _)
def finalRes (d : Dev nD) : S16384.Idx → F .f32 := shapeCast S16384 (rowsRes m ok d) shapeCasts_S32x512_S16384

/-! ## What the call carries -/

def coordsV (c : Fin (grid0.bound 0)) (s : Fin (grid0.bound 1)) : grid0.Coords :=
  fun | 0 => c | 1 => s | ⟨_ + 2, h⟩ => absurd h (Nat.not_lt.2 (Nat.le_add_left _ _))

/-- The tile of core `c`, subcore `s`. -/
def tileNo (c : Fin 2) (s : Fin 16) : Fin 32 := wid (coordsV c s)

abbrev take (d : Dev nD) (w : Fin 32) : HP F := taken d (m (eLoc d)) (m (lLoc d)) (hWords m d) (rWords m d) (tWords m d) w
abbrev goes (d : Dev nD) (w : Fin 32) : HP F := iprop(take m d w ∗ outPts d w (m (oLoc d)))
abbrev comes (d : Dev nD) (w : Fin 32) : HP F := iprop(take m d w ∗ outPts d w (rowsRes m ok d))

abbrev cFin (c : Fin ((K (F := F)).nCore 0)) : Fin 2 := ⟨c.val, c.isLt⟩
abbrev sFin (s : Fin ((K (F := F)).nSub 0)) : Fin 16 := ⟨s.val, s.isLt⟩

def P : (K (F := F)).Pay (nD := nD) (Val := Elt F) (Name := ℕ) (U := UU) where
  st := fun q d c => match q with | 0 => bigSep Finset.univ fun s : Fin ((K (F := F)).nSub 0) => goes m d (tileNo (cFin (F := F) c) (sFin (F := F) s))
  dn := fun q d c => match q with | 0 => bigSep Finset.univ fun s : Fin ((K (F := F)).nSub 0) => comes m ok d (tileNo (cFin (F := F) c) (sFin (F := F) s))
  go := fun q d c s => match q with | 0 => goes m d (tileNo (cFin (F := F) c) (sFin (F := F) s))
  td := fun q d c s => match q with | 0 => comes m ok d (tileNo (cFin (F := F) c) (sFin (F := F) s))
  x := fun _ _ => iprop(emp)

instance P_storable : (P (F := F) m ok).IsStorable where
  st q d c := match q with
    | 0 => (inferInstance : BI.Storable (upEmb : UEmb _ 𝕄) (bigSep Finset.univ fun s : Fin ((K (F := F)).nSub 0) => goes m d (tileNo (cFin (F := F) c) (sFin (F := F) s))))
  dn q d c := match q with
    | 0 => (inferInstance : BI.Storable (upEmb : UEmb _ 𝕄) (bigSep Finset.univ fun s : Fin ((K (F := F)).nSub 0) => comes m ok d (tileNo (cFin (F := F) c) (sFin (F := F) s))))
  go q d c s := match q with
    | 0 => (inferInstance : BI.Storable (upEmb : UEmb _ 𝕄) (goes m d (tileNo (cFin (F := F) c) (sFin (F := F) s))))
  td q d c s := match q with
    | 0 => (inferInstance : BI.Storable (upEmb : UEmb _ 𝕄) (comes m ok d (tileNo (cFin (F := F) c) (sFin (F := F) s))))

/-! ## The tiles' obligation -/

theorem defs₀_vector (c : Fin τ.nSC) (s : Fin τ.nSub) :
    defs₀ (F := F) (.scVector c s) 0 () = SparseCore.onTile hcore0 hsub0 (fun c s => tile (coordsV c s)) ⟨⟩ c s := by
  simp only [← tec_eq]
  rfl

omit [FloatOps F] in
theorem obl_post {thr : Thread nD τ} {A B C : HP F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
theorem tileObl (hF : (K (F := F)).Facts) : (K (F := F)).TileObl (D (F := F)) 𝒱 (P m ok) v₀ 0 := by
  intro d c i O W hO _ _
  simp only [show (P m ok).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (m (eLoc d)) (m (lLoc d)) (hWords m d) (rWords m d) (tWords m d) (coordsV ⟨_, hci.1⟩ ⟨_, hci.2⟩)
    (fun _ => ok.h d _) (fun _ => ok.r d _) (fun _ => ok.t d _) (m (oLoc d)) hF O W hO).trans (wp_mono frame _ _ fun _ => obl_post)

theorem vecSplit : (K (F := F)).VecSplit' (P m ok) 0 := by
  intro d c
  show (bigSep Finset.univ fun s : Fin ((K (F := F)).nSub 0) => goes m d (tileNo (cFin (F := F) c) (sFin (F := F) s))) ⊢ |={Set.univ}=> iprop(
      (bigSep Finset.univ fun s : Fin ((K (F := F)).nSub 0) => goes m d (tileNo (cFin (F := F) c) (sFin (F := F) s)))
      ∗ ((bigSep Finset.univ fun s : Fin ((K (F := F)).nSub 0) => comes m ok d (tileNo (cFin (F := F) c) (sFin (F := F) s)))
          -∗ bigSep Finset.univ fun s : Fin ((K (F := F)).nSub 0) => comes m ok d (tileNo (cFin (F := F) c) (sFin (F := F) s))))
  iintro H
  imodintro
  isplitl [H]; · iexact H
  iintro H
  iexact H

/-! ## The arrays among the tiles -/

theorem outs_disjoint : ∀ w ∈ (Finset.univ : Finset (Fin 32)), ∀ w' ∈ (Finset.univ : Finset (Fin 32)), w ≠ w' → Disjoint (outSet w) (outSet w') :=
  fun _ _ _ _ h => Rect.part_disjoint odiv h
theorem outs_cover : (Finset.univ : Finset (Fin 32)).biUnion outSet = Finset.univ := Rect.biUnion_part odiv

theorem out_rows (d : Dev nD) (f : Buf (Elt F) (oLoc d)) : (oLoc d ↦{fullShare} f : HP F) = bigSep Finset.univ fun w : Fin 32 => outPts d w f := by
  unfold outPts
  rw [← pointsTo_biUnion Finset.univ (ℓ := oLoc d) outSet outs_disjoint, outs_cover]

/-- The two SparseCores' sixteen tiles are the thirty-two. -/
theorem tiles_all (Φ : Fin 32 → HP F) :
    (bigSep Finset.univ fun c : Fin ((K (F := F)).nCore 0) => bigSep Finset.univ fun s : Fin ((K (F := F)).nSub 0) => Φ (tileNo (cFin (F := F) c) (sFin (F := F) s)))
      = bigSep Finset.univ Φ := by
  have e : ∀ x : Fin 2 × Fin 16, ((Equiv.prodComm (Fin 2) (Fin 16)).trans (finProdFinEquiv : Fin 16 × Fin 2 ≃ Fin (16 * 2))) x = tileNo x.1 x.2 := by
    rintro ⟨c, s⟩
    refine Fin.ext ?_
    show c.val + 2 * s.val = 2 * s.val + c.val
    omega
  rw [bigSep_univ_equiv ((Equiv.prodComm (Fin 2) (Fin 16)).trans (finProdFinEquiv : Fin 16 × Fin 2 ≃ Fin (16 * 2))) Φ]
  simp only [e]
  rw [← Finset.univ_product_univ, SparseCore.bigSep_product]

/-- The arrays whole are what the tiles take. -/
theorem arrays_tiles (d : Dev nD) (fE : Buf (Elt F) (eLoc d)) (fR : Buf (Elt F) (lLoc d)) (h : Buf (Elt F) (hLoc d)) (r : Buf (Elt F) (rLoc d))
    (t : Buf (Elt F) (tLoc d)) (f : Buf (Elt F) (oLoc d)) :
    (bigSep Finset.univ fun w : Fin 32 => iprop(taken d fE fR h r t w ∗ outPts d w f))
      = iprop(((hLoc d ↦{fullShare} h) ∗ (rLoc d ↦{fullShare} r) ∗ (tLoc d ↦{fullShare} t) ∗ (eLoc d ↦{fullShare} fE) ∗ (lLoc d ↦{fullShare} fR))
          ∗ oLoc d ↦{fullShare} f) := by
  unfold taken
  rw [bigSep_sep', bigSep_sep', bigSep_sep', bigSep_sep', bigSep_sep', ← out_rows,
    ← pointsTo_piecesOf Finset.univ h tiles_pos fullShare, ← pointsTo_piecesOf Finset.univ r tiles_pos fullShare,
    ← pointsTo_piecesOf Finset.univ t tiles_pos fullShare, ← pointsTo_piecesOf Finset.univ fE tiles_pos fullShare,
    ← pointsTo_piecesOf Finset.univ fR tiles_pos fullShare]

theorem st_all (d : Dev nD) : (bigSep Finset.univ fun c : Fin ((K (F := F)).nCore 0) => (P m ok).st 0 d c)
    = iprop(((hLoc d ↦{fullShare} hWords m d) ∗ (rLoc d ↦{fullShare} rWords m d) ∗ (tLoc d ↦{fullShare} tWords m d)
        ∗ (eLoc d ↦{fullShare} m (eLoc d)) ∗ (lLoc d ↦{fullShare} m (lLoc d))) ∗ oLoc d ↦{fullShare} m (oLoc d)) :=
  (tiles_all (fun w => goes m d w)).trans (arrays_tiles d _ _ _ _ _ _)
theorem dn_all (d : Dev nD) : (bigSep Finset.univ fun c : Fin ((K (F := F)).nCore 0) => (P m ok).dn 0 d c)
    = iprop(((hLoc d ↦{fullShare} hWords m d) ∗ (rLoc d ↦{fullShare} rWords m d) ∗ (tLoc d ↦{fullShare} tWords m d)
        ∗ (eLoc d ↦{fullShare} m (eLoc d)) ∗ (lLoc d ↦{fullShare} m (lLoc d))) ∗ oLoc d ↦{fullShare} rowsRes m ok d) :=
  (tiles_all (fun w => comes m ok d w)).trans (arrays_tiles d _ _ _ _ _ _)

/-! ## The launch's ghost state -/

def u₀ : UU := (initOf (K (F := F)).hsCells (K (F := F)).hsToks, 1)

omit [FloatOps F] in
theorem emp_all {I : Type} (s : Finset I) : (bigSep s fun _ => iprop(emp)) = (iprop(emp) : HP F) := bigSep_emp_const s

theorem none_owed : (bigSep Finset.univ fun thr : Thread nD τ => bigSep Finset.univ fun q : Fin 1 => (P (F := F) m ok).x q thr) = iprop(emp) :=
  (bigSep_congr fun _ _ => bigSep_univ_of_subsingleton (0 : Fin 1)).trans (emp_all _)

theorem hu₀ : (ownU (u₀ (F := F)) : HP F)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m ok).x q thr) := by
  unfold u₀
  rw [none_owed, emp_all]
  iintro Hu
  ihave H := (ownU_pair (initOf (K (F := F)).hsCells (K (F := F)).hsToks) (1 : Counters)) $$ Hu
  icases H with ⟨HH, -⟩
  imodintro
  isplitl [HH]; · iexact HH
  isplitr <;> iempintro

end Cert.Proof.Tile

end
-- ==== Proof.Main.lean ====
/-
  @main on the TensorCore, and the whole run: every fair execution ends with the arguments as they were, the result at
  the tiles' scores, and every semaphore at zero.
-/
module

public import proofs.«01_k».proof.Proof.Launch

@[expose] public section

noncomputable section

namespace Cert.Proof.Tile

open Cert.KernelIdeal Cert.KernelIdeal.Gen
open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.StableHlo (wp_hlo_within)
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg) (ok : InRows m)

/-! ## The TensorCore's arrays -/

abbrev at' (b : Ref sig .tc) : DevRef τ sig := Proc.devRef .tc b

abbrev opH : HloOp τ sig (Elt F) := StableHlo.reshape main_arg0 main_v0 (rfl : (.i32 : EltTy) = .i32) shapeCasts_S16384_S32x8x64
abbrev opR : HloOp τ sig (Elt F) := StableHlo.reshape main_arg1 main_v1 (rfl : (.i32 : EltTy) = .i32) shapeCasts_S16384_S32x8x64
abbrev opT : HloOp τ sig (Elt F) := StableHlo.reshape main_arg2 main_v2 (rfl : (.i32 : EltTy) = .i32) shapeCasts_S16384_S32x8x64
abbrev opO : HloOp τ sig (Elt F) := StableHlo.reshape main_v3 main_v4 (rfl : (.f32 : EltTy) = .f32) shapeCasts_S32x512_S16384

abbrev arrays : Finset (DevRef τ sig) :=
  {at' main_arg0, at' main_arg1, at' main_arg2, at' main_arg3, at' main_arg4, at' main_v0, at' main_v1, at' main_v2, at' main_v3, at' main_v4}

theorem bufs_opH : (opH (F := F)).bufs ⊆ arrays := show ({at' main_arg0, at' main_v0} : Finset (DevRef τ sig)) ⊆ arrays by decide
theorem bufs_opR : (opR (F := F)).bufs ⊆ arrays := show ({at' main_arg1, at' main_v1} : Finset (DevRef τ sig)) ⊆ arrays by decide
theorem bufs_opT : (opT (F := F)).bufs ⊆ arrays := show ({at' main_arg2, at' main_v2} : Finset (DevRef τ sig)) ⊆ arrays by decide
theorem bufs_opO : (opO (F := F)).bufs ⊆ arrays := show ({at' main_v3, at' main_v4} : Finset (DevRef τ sig)) ⊆ arrays by decide

/-- All ten arrays, at given contents. -/
abbrev tenPts (d : Dev nD) (a0 : Buf (Elt F) (hArg d)) (a1 : Buf (Elt F) (rArg d)) (a2 : Buf (Elt F) (tArg d)) (a3 : Buf (Elt F) (eLoc d))
    (a4 : Buf (Elt F) (lLoc d)) (b0 : Buf (Elt F) (hLoc d)) (b1 : Buf (Elt F) (rLoc d)) (b2 : Buf (Elt F) (tLoc d)) (b3 : Buf (Elt F) (oLoc d))
    (b4 : Buf (Elt F) (resLoc d)) : HP F :=
  iprop((hArg d ↦{fullShare} a0) ∗ (rArg d ↦{fullShare} a1) ∗ (tArg d ↦{fullShare} a2) ∗ (eLoc d ↦{fullShare} a3) ∗ (lLoc d ↦{fullShare} a4)
    ∗ (hLoc d ↦{fullShare} b0) ∗ (rLoc d ↦{fullShare} b1) ∗ (tLoc d ↦{fullShare} b2) ∗ (oLoc d ↦{fullShare} b3) ∗ (resLoc d ↦{fullShare} b4))

theorem held_arrays (d : Dev nD) (W : Valuation τ sig (Elt F)) :
    (StableHlo.held (SparseCore.T d) arrays W : HP F) = tenPts d (W (at' main_arg0)) (W (at' main_arg1)) (W (at' main_arg2)) (W (at' main_arg3)) (W (at' main_arg4))
      (W (at' main_v0)) (W (at' main_v1)) (W (at' main_v2)) (W (at' main_v3)) (W (at' main_v4)) := by
  unfold StableHlo.held arrays tenPts
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_arrays (d : Dev nD) (W : (b : Ref sig .tc) → Buf (Elt F) ((d.tc : Thread nD τ).loc b)) :
    (unscopedBufs d W : HP F) = tenPts d (W main_arg0) (W main_arg1) (W main_arg2) (W main_arg3) (W main_arg4)
      (W main_v0) (W main_v1) (W main_v2) (W main_v3) (W main_v4) := by
  unfold unscopedBufs tenPts
  rw [show (Finset.univ.filter fun b : Ref sig .tc => ¬ b.isScoped)
      = {main_arg0, main_arg1, main_arg2, main_arg3, main_arg4, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- What the arrays hold at the launch, before the call, and after it. -/
def atLaunch (d : Dev nD) : Valuation τ sig (Elt F) := fun b => m (d, b)
def atCall (d : Dev nD) : Valuation τ sig (Elt F) := (opT (F := F)).result ((opR (F := F)).result ((opH (F := F)).result (atLaunch m d)))
def atReturn (d : Dev nD) : Valuation τ sig (Elt F) := Function.update (atCall m d) (at' main_v3) (rowsRes m ok d)

theorem held_launch (d : Dev nD) : (unscopedBufs d (fun b => m ((SparseCore.T d).loc b)) : HP F) = StableHlo.held (SparseCore.T d) arrays (atLaunch m d) := by
  rw [unscoped_arrays, held_arrays]; rfl

/-- A buffer none of the first three operations writes. -/
theorem atCall_kept (d : Dev nD) (b : Ref sig .tc) (h0 : b ≠ main_v0) (h1 : b ≠ main_v1) (h2 : b ≠ main_v2) :
    atCall m d (at' b) = m ((SparseCore.T d).loc b) := by
  unfold atCall
  rw [StableHlo.reshape_result_ne _ _ _ _ _ _ _ h2, StableHlo.reshape_result_ne _ _ _ _ _ _ _ h1, StableHlo.reshape_result_ne _ _ _ _ _ _ _ h0]
  rfl

theorem atCall_h (d : Dev nD) : atCall m d (at' main_v0) = hWords m d := by
  unfold atCall
  rw [StableHlo.reshape_result_ne _ _ _ _ _ _ _ (by decide), StableHlo.reshape_result_ne _ _ _ _ _ _ _ (by decide)]
  exact (StableHlo.reshape_result _ _ _ _ _ _ _).trans rfl
theorem atCall_r (d : Dev nD) : atCall m d (at' main_v1) = rWords m d := by
  unfold atCall
  rw [StableHlo.reshape_result_ne _ _ _ _ _ _ _ (by decide)]
  refine (StableHlo.reshape_result _ _ _ _ _ _ _).trans ?_
  rw [StableHlo.reshape_result_ne _ _ _ _ _ _ _ (by decide)]
  rfl
theorem atCall_t (d : Dev nD) : atCall m d (at' main_v2) = tWords m d := by
  unfold atCall
  refine (StableHlo.reshape_result _ _ _ _ _ _ _).trans ?_
  rw [StableHlo.reshape_result_ne _ _ _ _ _ _ _ (by decide), StableHlo.reshape_result_ne _ _ _ _ _ _ _ (by decide)]
  rfl

theorem held_call (d : Dev nD) : (StableHlo.held (SparseCore.T d) arrays (atCall m d) : HP F)
    = tenPts d (m (hArg d)) (m (rArg d)) (m (tArg d)) (m (eLoc d)) (m (lLoc d)) (hWords m d) (rWords m d) (tWords m d) (m (oLoc d)) (m (resLoc d)) := by
  rw [held_arrays, atCall_h, atCall_r, atCall_t, atCall_kept m d main_arg0 (by decide) (by decide) (by decide),
    atCall_kept m d main_arg1 (by decide) (by decide) (by decide), atCall_kept m d main_arg2 (by decide) (by decide) (by decide),
    atCall_kept m d main_arg3 (by decide) (by decide) (by decide), atCall_kept m d main_arg4 (by decide) (by decide) (by decide),
    atCall_kept m d main_v3 (by decide) (by decide) (by decide), atCall_kept m d main_v4 (by decide) (by decide) (by decide)]

theorem atReturn_kept (d : Dev nD) (b : Ref sig .tc) (h : at' b ≠ at' main_v3) : atReturn m ok d (at' b) = atCall m d (at' b) :=
  Function.update_of_ne h _ _
theorem atReturn_out (d : Dev nD) : atReturn m ok d (at' main_v3) = rowsRes m ok d := Function.update_self _ _ _

theorem held_return (d : Dev nD) : (StableHlo.held (SparseCore.T d) arrays (atReturn m ok d) : HP F)
    = tenPts d (m (hArg d)) (m (rArg d)) (m (tArg d)) (m (eLoc d)) (m (lLoc d)) (hWords m d) (rWords m d) (tWords m d) (rowsRes m ok d) (m (resLoc d)) := by
  rw [held_arrays, atReturn_out, atReturn_kept m ok d main_arg0 (by decide), atReturn_kept m ok d main_arg1 (by decide),
    atReturn_kept m ok d main_arg2 (by decide), atReturn_kept m ok d main_arg3 (by decide), atReturn_kept m ok d main_arg4 (by decide),
    atReturn_kept m ok d main_v0 (by decide), atReturn_kept m ok d main_v1 (by decide), atReturn_kept m ok d main_v2 (by decide),
    atReturn_kept m ok d main_v4 (by decide), atCall_h, atCall_r, atCall_t, atCall_kept m d main_arg0 (by decide) (by decide) (by decide),
    atCall_kept m d main_arg1 (by decide) (by decide) (by decide), atCall_kept m d main_arg2 (by decide) (by decide) (by decide),
    atCall_kept m d main_arg3 (by decide) (by decide) (by decide), atCall_kept m d main_arg4 (by decide) (by decide) (by decide),
    atCall_kept m d main_v4 (by decide) (by decide) (by decide)]

theorem held_end (d : Dev nD) : (StableHlo.held (SparseCore.T d) arrays ((opO (F := F)).result (atReturn m ok d)) : HP F)
    = tenPts d (m (hArg d)) (m (rArg d)) (m (tArg d)) (m (eLoc d)) (m (lLoc d)) (hWords m d) (rWords m d) (tWords m d) (rowsRes m ok d) (finalRes m ok d) := by
  rw [held_arrays]
  rw [StableHlo.reshape_result_ne _ _ _ _ _ _ _ (show main_arg0 ≠ main_v4 by decide), StableHlo.reshape_result_ne _ _ _ _ _ _ _ (show main_arg1 ≠ main_v4 by decide),
    StableHlo.reshape_result_ne _ _ _ _ _ _ _ (show main_arg2 ≠ main_v4 by decide), StableHlo.reshape_result_ne _ _ _ _ _ _ _ (show main_arg3 ≠ main_v4 by decide),
    StableHlo.reshape_result_ne _ _ _ _ _ _ _ (show main_arg4 ≠ main_v4 by decide), StableHlo.reshape_result_ne _ _ _ _ _ _ _ (show main_v0 ≠ main_v4 by decide),
    StableHlo.reshape_result_ne _ _ _ _ _ _ _ (show main_v1 ≠ main_v4 by decide), StableHlo.reshape_result_ne _ _ _ _ _ _ _ (show main_v2 ≠ main_v4 by decide),
    StableHlo.reshape_result_ne _ _ _ _ _ _ _ (show main_v3 ≠ main_v4 by decide),
    show (opO (F := F)).result (atReturn m ok d) (at' main_v4) = finalRes m ok d from
      (StableHlo.reshape_result _ _ _ _ _ _ _).trans (by rw [atReturn_out]; rfl),
    atReturn_out, atReturn_kept m ok d main_arg0 (by decide), atReturn_kept m ok d main_arg1 (by decide),
    atReturn_kept m ok d main_arg2 (by decide), atReturn_kept m ok d main_arg3 (by decide), atReturn_kept m ok d main_arg4 (by decide),
    atReturn_kept m ok d main_v0 (by decide), atReturn_kept m ok d main_v1 (by decide), atReturn_kept m ok d main_v2 (by decide),
    atCall_h, atCall_r, atCall_t, atCall_kept m d main_arg0 (by decide) (by decide) (by decide),
    atCall_kept m d main_arg1 (by decide) (by decide) (by decide), atCall_kept m d main_arg2 (by decide) (by decide) (by decide),
    atCall_kept m d main_arg3 (by decide) (by decide) (by decide), atCall_kept m d main_arg4 (by decide) (by decide) (by decide)]

/-! ## @main -/

/-- What @main keeps for the claim: the arguments, and the result. -/
abbrev FIN (d : Dev nD) : HP F :=
  iprop((hArg d ↦{fullShare} m (hArg d)) ∗ (rArg d ↦{fullShare} m (rArg d)) ∗ (tArg d ↦{fullShare} m (tArg d)) ∗ (eLoc d ↦{fullShare} m (eLoc d))
    ∗ (lLoc d ↦{fullShare} m (lLoc d)) ∗ (resLoc d ↦{fullShare} finalRes m ok d))

theorem hmain (κ : GSem nD τ sig → ℕ) (d : Dev nD) :
    iprop((K (F := F)).ctx EH (P m ok) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m ok d ∗ (K (F := F)).tcEnd d) := by
  unfold SparseCore.Cfg.tcRes SparseCore.Cfg.tcEnd
  rw [held_launch]
  simp only [main, wp_bind, wp_pure]
  iintro ⟨#Hctx, Hst, ⟨Hb, Hheld, Hts, -⟩, -⟩
  iapply (wp_hlo_within 𝒱 (SparseCore.T d) none Set.univ (op := opH) (S := arrays) bufs_opH (V := atLaunch m d)) $$ [Hb Hheld]
  · isplitl [Hb] <;> iassumption
  iintro ⟨Hb, Hheld⟩
  rw [wp_ret]; imodintro
  iapply (wp_hlo_within 𝒱 (SparseCore.T d) none Set.univ (op := opR) (S := arrays) bufs_opR (V := (opH (F := F)).result (atLaunch m d))) $$ [Hb Hheld]
  · isplitl [Hb] <;> iassumption
  iintro ⟨Hb, Hheld⟩
  rw [wp_ret]; imodintro
  iapply (wp_hlo_within 𝒱 (SparseCore.T d) none Set.univ (op := opT) (S := arrays) bufs_opT
    (V := (opR (F := F)).result ((opH (F := F)).result (atLaunch m d)))) $$ [Hb Hheld]
  · isplitl [Hb] <;> iassumption
  iintro ⟨Hb, Hheld⟩
  rw [wp_ret]; imodintro
  ihave Hh := (BIBase.Entails.of_eq (show (StableHlo.held (SparseCore.T d) arrays
    ((opT (F := F)).result ((opR (F := F)).result ((opH (F := F)).result (atLaunch m d)))) : HP F) = _ from held_call m d)) $$ Hheld
  icases Hh with ⟨A0, A1, A2, A3, A4, B0, B1, B2, B3, B4⟩
  iapply ((K (F := F)).wp_run (D (F := F)) 𝒱 (EH := EH) (P := P m ok) κ d 0) $$ [Hst Hb A0 A1 A2 A3 A4 B0 B1 B2 B3 B4 Hts]
  isplitr; · iexact Hctx
  isplitl [Hst]; · iexact Hst
  isplitl [A3 A4 B0 B1 B2 B3]
  · iapply (BIBase.Entails.of_eq (st_all m ok d).symm)
    isplitr [B3]
    · isplitl [B0]; · iexact B0
      isplitl [B1]; · iexact B1
      isplitl [B2]; · iexact B2
      isplitl [A3]; · iexact A3
      iexact A4
    iexact B3
  iintro ⟨Hst, Hdn⟩
  ihave Hdn := (BIBase.Entails.of_eq (dn_all m ok d)) $$ Hdn
  icases Hdn with ⟨⟨B0, B1, B2, A3, A4⟩, B3⟩
  iapply (wp_hlo_within 𝒱 (SparseCore.T d) none Set.univ (op := opO) (S := arrays) bufs_opO (V := atReturn m ok d)) $$ [Hb A0 A1 A2 A3 A4 B0 B1 B2 B3 B4]
  · isplitl [Hb]; · iexact Hb
    iapply (BIBase.Entails.of_eq (held_return m ok d).symm)
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    iexact B4
  iintro ⟨Hb, Hheld⟩
  ihave Hh := (BIBase.Entails.of_eq (held_end m ok d)) $$ Hheld
  icases Hh with ⟨A0, A1, A2, A3, A4, -, -, -, -, B4⟩
  rw [wp_ret]; imodintro; imodintro
  isplitl [Hst]; · iexact Hst
  isplitr [Hb Hts]
  · isplitl [A0]; · iexact A0
    isplitl [A1]; · iexact A1
    isplitl [A2]; · iexact A2
    isplitl [A3]; · iexact A3
    isplitl [A4]; · iexact A4
    iexact B4
  isplitl [Hb] <;> iassumption

/-! ## The run -/

def fq (d : Dev nD) (s' : Phys nD τ sig (Elt F)) : Prop :=
  s'.mem.mem (hArg d) = m (hArg d) ∧ s'.mem.mem (rArg d) = m (rArg d) ∧ s'.mem.mem (tArg d) = m (tArg d) ∧ s'.mem.mem (eLoc d) = m (eLoc d)
    ∧ s'.mem.mem (lLoc d) = m (lLoc d) ∧ s'.mem.mem (resLoc d) = finalRes m ok d

/-- A buffer held whole is what the memory holds. -/
theorem whole_agrees (s' : Phys nD τ sig (Elt F)) (ℓ : Loc nD τ sig) (f : Buf (Elt F) ℓ) :
    iprop(SI s' ∗ (ℓ ↦{fullShare} f : HP F)) ⊢ iprop(⌜s'.mem.mem ℓ = f⌝ ∗ SI s') := by
  iintro ⟨HS, H⟩
  ihave H := (persistent_entails_right (SI_pointsTo_agree (st := s') (ℓ := ℓ) (I := Finset.univ) (q := fullShare) (f := f))) $$ [HS H]
  · isplitl [HS] <;> iassumption
  icases H with ⟨%h, HS, -⟩
  isplitr
  · ipureintro; exact funext fun i => h i (Finset.mem_univ i)
  iexact HS

theorem hfin (d : Dev nD) (s' : Phys nD τ sig (Elt F)) : iprop(FIN m ok d ∗ SI s') ⊢ (⌜fq m ok d s'⌝ : HP F) := by
  iintro ⟨⟨A0, A1, A2, A3, A4, B4⟩, HS⟩
  ihave H := (whole_agrees s' (hArg d) (m (hArg d))) $$ [HS A0]; · isplitl [HS] <;> iassumption
  icases H with ⟨%h0, HS⟩
  ihave H := (whole_agrees s' (rArg d) (m (rArg d))) $$ [HS A1]; · isplitl [HS] <;> iassumption
  icases H with ⟨%h1, HS⟩
  ihave H := (whole_agrees s' (tArg d) (m (tArg d))) $$ [HS A2]; · isplitl [HS] <;> iassumption
  icases H with ⟨%h2, HS⟩
  ihave H := (whole_agrees s' (eLoc d) (m (eLoc d))) $$ [HS A3]; · isplitl [HS] <;> iassumption
  icases H with ⟨%h3, HS⟩
  ihave H := (whole_agrees s' (lLoc d) (m (lLoc d))) $$ [HS A4]; · isplitl [HS] <;> iassumption
  icases H with ⟨%h4, HS⟩
  ihave H := (whole_agrees s' (resLoc d) (finalRes m ok d)) $$ [HS B4]; · isplitl [HS] <;> iassumption
  icases H with ⟨%h5, HS⟩
  ipureintro
  exact ⟨h0, h1, h2, h3, h4, h5⟩

/-- What every fair execution ends with. -/
def Ends : PUnit × MemSt nD τ sig (Elt F) → Prop := fun r =>
  (∀ c : Dev nD, r.2.mem (hArg c) = m (hArg c) ∧ r.2.mem (rArg c) = m (rArg c) ∧ r.2.mem (tArg c) = m (tArg c) ∧ r.2.mem (eLoc c) = m (eLoc c)
    ∧ r.2.mem (lLoc c) = m (lLoc c) ∧ r.2.mem (resLoc c) = finalRes m ok c) ∧ r.2.sem = fun _ => 0

theorem run_main [∀ e, Nonempty (Elt F e)] :
    θ_run (Cert.KernelIdeal.defs (F := F)) (Cert.KernelIdeal.threads (F := F)) ⟨m, fun _ => 0, ρ⟩ (Ends m ok) :=
  SparseCore.Cfg.θ_run_sc_quiescent (K := K (F := F)) (D := D (F := F)) (𝒱 := 𝒱) (EH := EH) (P := P m ok) (A := ∅) facts v₀
    (fun q hq => match q with | 0 => nomatch hq)
    (fun q _ => match q with | 0 => tileObl m ok facts)
    (fun q _ => match q with | 0 => SparseCore.Cfg.VecSplit.of_plain (vecSplit m ok))
    m ρ main (fun _ => iprop(emp)) (FIN m ok) (u₀ (F := F)) (sep_elim_left.trans (hu₀ m ok)) (hmain m ρ ok) (fq m ok) (hfin m ok) (Ends m ok) (fun _ h hz => ⟨h, hz⟩)

end Cert.Proof.Tile

end
-- ==== Proof.KerValue.lean ====
/-
  The kernel's result at an index, over the extended reals: a row's two accumulators are the sum over its 128 columns, in
  whatever column the lane starts, and entry `p` of the result is the row of entry `p` of the index arrays.
-/
module

public import proofs.«01_k».proof.Proof.Launch
public import Idealize.ShloMosaic.Lib.Routing.Ops
public import Idealize.ShloMosaic.Lib.IdealHost

@[expose] public section

noncomputable section

namespace Cert.Proof.Tile

open Cert.KernelIdeal Cert.KernelIdeal.Gen
open Idealize.ShloMosaic Idealize.ShloMosaic.ValueIdx Idealize.SL.Sem

/-! ## A score is minus a sum -/

section sum
variable (h r t : Fin 128 → Ideal .f32) (l : ℕ)

/-- One column's distance. -/
def apart (h r t : EReal) : EReal := max (h + r - t) (-(h + r - t))

theorem zeroF_ideal : (zeroF (F := Ideal) : EReal) = 0 := by
  show Ideal.ofBits .f32 0x00000000#32 = 0
  simp [Ideal.ofBits, Ideal.ieee]

theorem stepTerm_ideal (j : ℕ) : (stepTerm h r t l j : EReal) = apart (h (colAt l j)) (r (colAt l j)) (t (colAt l j)) := rfl

theorem evens_odds (n : ℕ) : (evens h r t l n : EReal) + (odds h r t l n : EReal) = ∑ j ∈ Finset.range (2 * n), (stepTerm h r t l j : EReal) := by
  induction n with
  | zero => show (zeroF (F := Ideal) : EReal) + (zeroF (F := Ideal) : EReal) = _; rw [zeroF_ideal]; simp
  | succ n ih =>
    rw [show 2 * (n + 1) = 2 * n + 1 + 1 by omega, Finset.sum_range_succ, Finset.sum_range_succ, ← ih]
    show (evens h r t l n + stepTerm h r t l (2 * n) : EReal) + (odds h r t l n + stepTerm h r t l (2 * n + 1) : EReal) = _
    abel

theorem colAt_bijective : Function.Bijective fun j : Fin 128 => colAt l j.val :=
  Finite.injective_iff_bijective.1 fun a b e => by
    have e := congrArg Fin.val e
    have ha := a.isLt; have hb := b.isLt
    change (l + a.val) % 128 = (l + b.val) % 128 at e
    exact Fin.ext (by omega)

theorem score_ideal : (score h r t l : EReal) = -(∑ k : Fin 128, apart (h k) (r k) (t k)) := by
  show (zeroF (F := Ideal) : EReal) - ((evens h r t l 64 : EReal) + (odds h r t l 64 : EReal)) = _
  rw [evens_odds, zeroF_ideal, sub_eq_add_neg, zero_add, Finset.sum_range (n := 2 * 64)]
  exact congrArg (- ·) (Fintype.sum_bijective (fun j : Fin 128 => colAt l j.val) (colAt_bijective l) _ _ fun j => stepTerm_ideal h r t l j.val)

end sum

/-! ## Entry `p` of the result -/

variable (m : (ℓ : Loc nD τ sig) → Buf (Elt Ideal) ℓ) (ok : InRows m) (d : Dev nD)

theorem cell3_apply (v : S16384.Idx → BitVec 32) (w : Fin 32) (x : S512.Idx) (p : Fin 16384) (hp : p.val = w.val * 512 + (x 0).val) :
    shapeCast S32x8x64 v shapeCasts_S16384_S32x8x64 (cell3 w (chunkOf x) (entryOf x)) = v (ix1 p) := by
  refine shapeCast_apply v _ _ _ ?_
  rw [Shape.rowMajor_val_one, Shape.rowMajor_val_three]
  show p.val = (w.val * 8 + (x 0).val / 64) * 64 + (x 0).val % 64
  omega

theorem words_val {z : ℕ} (v : S32x8x64.Idx → BitVec 32) (okv : ∀ y, (v y).toNat < z) (w : Fin 32) (c : Fin 8) (r : Fin 64) :
    (words v okv w c r).val = (v (cell3 w c r)).toNat := rfl

theorem finalRes_apply (p : Fin 16384) :
    finalRes m ok d (ix1 p) = -(∑ k : Fin 128, apart (m (eLoc d) (ix2 ⟨_, ok.h d (ix1 p)⟩ k)) (m (lLoc d) (ix2 ⟨_, ok.r d (ix1 p)⟩ k)) (m (eLoc d) (ix2 ⟨_, ok.t d (ix1 p)⟩ k)) : EReal) := by
  have hp := p.isLt
  have e : finalRes m ok d (ix1 p) = rowsRes m ok d (ix2 (⟨p.val / 512, by omega⟩ : Fin 32) (⟨p.val % 512, Nat.mod_lt _ (by decide)⟩ : Fin 512)) :=
    shapeCast_apply _ _ _ _ (by
      rw [Shape.rowMajor_val_one, Shape.rowMajor_val_two]
      show p.val / 512 * 512 + p.val % 512 = p.val
      omega)
  rw [e]
  refine (score_ideal _ _ _ _).trans ?_
  have hx : p.val = p.val / 512 * 512 + p.val % 512 := by omega
  refine congrArg (- ·) (Finset.sum_congr rfl fun k _ => ?_)
  have eE : ∀ (a b : Fin 100000), a.val = b.val → (m (eLoc d) (entCell a k) : EReal) = m (eLoc d) (ix2 b k) := fun a b h => by
    obtain rfl := Fin.ext h
    refine congrArg (m (eLoc d)) (funext fun q => ?_)
    match q with | 0 => rfl | 1 => rfl
  have eR : ∀ (a b : Fin 1000), a.val = b.val → (m (lLoc d) (relCell a k) : EReal) = m (lLoc d) (ix2 b k) := fun a b h => by
    obtain rfl := Fin.ext h
    refine congrArg (m (lLoc d)) (funext fun q => ?_)
    match q with | 0 => rfl | 1 => rfl
  have c := fun v => cell3_apply v (⟨p.val / 512, by omega⟩ : Fin 32) (cell1 ⟨p.val % 512, Nat.mod_lt _ (by decide)⟩) p hx
  refine congr (congr (congrArg apart ?_) ?_) ?_
  · exact eE _ _ ((words_val _ _ _ _ _).trans (congrArg (fun b : BitVec 32 => b.toNat) (c (m (hArg d)))))
  · exact eR _ _ ((words_val _ _ _ _ _).trans (congrArg (fun b : BitVec 32 => b.toNat) (c (m (rArg d)))))
  · exact eE _ _ ((words_val _ _ _ _ _).trans (congrArg (fun b : BitVec 32 => b.toNat) (c (m (tArg d)))))

end Cert.Proof.Tile

end
-- ==== Proof.RefValue.lean ====
/-
  The reference's result at an index, over the extended reals: minus the sum over the columns of |head + relation - tail|,
  each row read where the index array's word says.
-/
module

public import proofs.«01_k».proof.Proof.Gen.ReferenceIdeal.Run
public import Idealize.ShloMosaic.Lib.Routing.Ops
public import Idealize.ShloMosaic.Lib.ReduceAll
public import Idealize.ShloMosaic.Lib.IdealHost
public import Idealize.ShloMosaic.Lib.Pointwise.Reduce

@[expose] public section

noncomputable section

namespace Cert.Proof.Ref

open Cert.ReferenceIdeal Cert.ReferenceIdeal.Gen
open Idealize.ShloMosaic Idealize.SL.Sem

/-! ## A taken row -/

theorem select_one {s : Shape} {α : Type} (c : IVec s 1) (x y : s.Idx → α) (j : s.Idx) (h : c j = 1#1) : select c x y j = x j := if_pos h
theorem negf_at {s : Shape} (v : FVec Ideal s .f32) (j : s.Idx) : (Host.negf v j : EReal) = -(v j : EReal) := rfl

section take
variable {n : Nat}

/-- The index words with a negative one counted from the end, and as a column. -/
def wrapped (n : Nat) (a : IVec S16384 32) : IVec S16384 32 :=
  select (cmpi .slt a (broadcastInDim S16384 ![] bcast_S_S16384 (constantI S_ 32 0#32)))
    (addi a (broadcastInDim S16384 ![] bcast_S_S16384 (constantI S_ 32 (BitVec.ofNat 32 n)))) a
def column (n : Nat) (a : IVec S16384 32) : IVec S16384x1 32 := broadcastInDim S16384x1 ![0] bcast_S16384_S16384x1_0 (wrapped n a)

/-- Which entries are in range. -/
def inside (n : Nat) (a : IVec S16384 32) : IVec S16384 1 :=
  Host.reduce IntOp.andi (andi (cmpi .sge (column n a) (broadcastInDim S16384x1 ![] bcast_S_S16384x1 (constantI S_ 32 0#32)))
    (cmpi .sle (column n a) (broadcastInDim S16384x1 ![0, 1] bcast_S1x1_S16384x1_0_1 (broadcastInDim S1x1 ![1] bcast_S1_S1x1_1 (constantI S1 32 (BitVec.ofNat 32 (n - 1)))))))
    (constantI S_ 1 1#1) reducesTo_S16384x1_S16384_d1 h_S_

/-- The rows taken. -/
def taken (d : GatherDims (⟨2, ![n, 128]⟩ : Shape) S16384x1 S16384x128) (x : FVec Ideal (⟨2, ![n, 128]⟩ : Shape) .f32) (a : IVec S16384 32) : FVec Ideal S16384x128 .f32 :=
  select (broadcastInDim S16384x128 ![0] bcast_S16384_S16384x128_0 (inside n a)) (Host.gather d x (column n a))
    (broadcastInDim S16384x128 ![] bcast_S_S16384x128 (constant S_ .f32 0x7FC00000#32))

theorem toInt_small (v : BitVec 32) (h : v.toNat < 2 ^ 31) : v.toInt = v.toNat := by
  rw [BitVec.toInt_eq_toNat_cond]; split <;> omega

variable (hn : n < 2 ^ 31) {a : IVec S16384 32} (ha : ∀ j, BitVec.toNat (w := 32) (a j) < n)

include hn ha

theorem wrapped_apply (j : S16384.Idx) : wrapped n a j = a j := by
  have h0 : IntOp.cmpi .slt (a j) 0#32 ≠ 1#1 := fun e => by
    have := IntOp.cmpi_slt.1 e
    rw [toInt_small _ (lt_trans (ha j) hn)] at this
    simp at this
    omega
  show (if IntOp.cmpi .slt (a j) 0#32 = 1#1 then _ else _) = _
  rw [if_neg h0]

theorem column_apply (j : S16384x1.Idx) : column n a j = a (ValueIdx.ix1 (j 0)) := by
  refine (wrapped_apply hn ha _).trans (congrArg a (funext fun k => ?_))
  match k with
  | ⟨0, _⟩ => rfl

theorem inside_apply (j : S16384.Idx) : inside n a j = 1#1 := by
  refine Host.reduce_andi_one _ _ _ _ j rfl fun i => ?_
  have e : column n a i = a (ValueIdx.ix1 (i 0)) := column_apply hn ha i
  have hlt := ha (ValueIdx.ix1 (i 0))
  refine IntOp.andi_eq_one.2 ⟨IntOp.cmpi_sge.2 ?_, IntOp.cmpi_sle.2 ?_⟩
  · rw [e, toInt_small _ (lt_trans hlt hn)]
    exact Int.natCast_nonneg _
  · rw [e, toInt_small _ (lt_trans hlt hn)]
    show _ ≤ (BitVec.ofNat 32 (n - 1)).toInt
    rw [toInt_small _ (by rw [BitVec.toNat_ofNat]; omega), BitVec.toNat_ofNat]
    omega

theorem taken_apply (d : GatherDims (⟨2, ![n, 128]⟩ : Shape) S16384x1 S16384x128) (hoff : d.offsetDims = [1]) (hcoll : d.collapsedSliceDims = [0])
    (hob : d.operandBatchingDims = []) (hsim : d.startIndexMap = [0]) (hivd : d.indexVectorDim = 1)
    (x : FVec Ideal (⟨2, ![n, 128]⟩ : Shape) .f32) (p : Fin 16384) (y : Fin 128) :
    taken d x a (ValueIdx.ix2 p y) = x (ValueIdx.ix2 ⟨BitVec.toNat (w := 32) (a (ValueIdx.ix1 p)), ha _⟩ y) := by
  have h1 : broadcastInDim S16384x128 ![0] bcast_S16384_S16384x128_0 (inside n a) (ValueIdx.ix2 p y) = 1#1 := by
    unfold broadcastInDim; exact inside_apply hn ha _
  unfold taken
  rw [select_one _ _ _ _ h1]
  refine Routing.gather_row d hoff hcoll hob hsim hivd x (column n a) p y ⟨BitVec.toNat (w := 32) (a (ValueIdx.ix1 p)), ha _⟩ ?_ hn
  rw [column_apply hn ha]
  refine BitVec.eq_of_toNat_eq ?_
  rw [BitVec.toNat_ofNat]
  exact (Nat.mod_eq_of_lt (BitVec.isLt _)).symm

end take

/-! ## The result -/

variable (m : (ℓ : Loc nD τ sig) → Buf (Elt Ideal) ℓ) (c : Dev nD)

abbrev arg0 : IVec S16384 32 := m ((c.tc : Thread nD τ).loc main_arg0)
abbrev arg1 : IVec S16384 32 := m ((c.tc : Thread nD τ).loc main_arg1)
abbrev arg2 : IVec S16384 32 := m ((c.tc : Thread nD τ).loc main_arg2)
abbrev ent : FVec Ideal S100000x128 .f32 := m ((c.tc : Thread nD τ).loc main_arg3)
abbrev rel : FVec Ideal S1000x128 .f32 := m ((c.tc : Thread nD τ).loc main_arg4)

theorem result_eq : Value.res_out0 m c = Host.negf (Host.reduceAdd (Host.absf (subf
    (addf (taken (n := 100000) gather_S100000x128_S16384x1_S16384x128_1_0_n_n_0_1_1128 (ent m c) (arg0 m c))
      (taken (n := 1000) gather_S1000x128_S16384x1_S16384x128_1_0_n_n_0_1_1128 (rel m c) (arg1 m c)))
    (taken (n := 100000) gather_S100000x128_S16384x1_S16384x128_1_0_n_n_0_1_1128 (ent m c) (arg2 m c))))
    (constant S_ .f32 0x00000000#32) reducesTo_S16384x128_S16384_d1 h_S_) := rfl

/-- One column's distance. -/
def dist (h r t : EReal) : EReal := max (h + r - t) (-(h + r - t))

theorem result_apply (h0 : ∀ j, BitVec.toNat (w := 32) (arg0 m c j) < 100000) (h1 : ∀ j, BitVec.toNat (w := 32) (arg1 m c j) < 1000)
    (h2 : ∀ j, BitVec.toNat (w := 32) (arg2 m c j) < 100000) (p : Fin 16384) :
    (Value.res_out0 m c : FVec Ideal S16384 .f32) (ValueIdx.ix1 p) = -(∑ k : Fin 128, dist (ent m c (ValueIdx.ix2 ⟨_, h0 (ValueIdx.ix1 p)⟩ k)) (rel m c (ValueIdx.ix2 ⟨_, h1 (ValueIdx.ix1 p)⟩ k)) (ent m c (ValueIdx.ix2 ⟨_, h2 (ValueIdx.ix1 p)⟩ k))) := by
  rw [result_eq]
  refine (negf_at _ _).trans ?_
  rw [ValueIdx.hostReduceAdd_apply, Ideal.hostReduceAdd_r2_a1]
  rw [show (constant (F := Ideal) S_ .f32 0x00000000#32 (Shape.Idx.first h_S_) : EReal) = 0 by
    show Ideal.ofBits .f32 0x00000000#32 = 0
    simp [Ideal.ofBits, Ideal.ieee], zero_add]
  refine congrArg (- ·) (Finset.sum_congr rfl fun k _ => ?_)
  exact congrArg₂ (fun u w : EReal => max (u - w) (-(u - w)))
    (congrArg₂ (fun u w : EReal => u + w)
      (taken_apply (by decide) h0 gather_S100000x128_S16384x1_S16384x128_1_0_n_n_0_1_1128 rfl rfl rfl rfl rfl (ent m c) p k)
      (taken_apply (by decide) h1 gather_S1000x128_S16384x1_S16384x128_1_0_n_n_0_1_1128 rfl rfl rfl rfl rfl (rel m c) p k))
    (taken_apply (by decide) h2 gather_S100000x128_S16384x1_S16384x128_1_0_n_n_0_1_1128 rfl rfl rfl rfl rfl (ent m c) p k)

end Cert.Proof.Ref

end
-- ==== Proof.lean ====
/-
  `Cert.Claim`: the frames from the one run of the kernel (at words and at extended reals) and the reference's run, and
  the two results equal at every index.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_rows
public import proofs.«01_k».proof.Proof.InRange
public import proofs.«01_k».proof.Proof.Main
public import proofs.«01_k».proof.Proof.KerValue
public import proofs.«01_k».proof.Proof.RefValue
public import Idealize.ShloMosaic.Lib.Quiescent
public import Idealize.ShloMosaic.Lib.StableHlo.Run

@[expose] public section

noncomputable section

namespace Cert.Proof

open Idealize.ShloMosaic Idealize.SL.Sem

/-- The precondition is the run's hypothesis, for words and for extended reals. -/
theorem rows_of_pre (m : (ℓ : Loc Cert.KernelIdeal.nD Cert.KernelIdeal.τ Cert.KernelIdeal.sig) → Buf (Elt Ideal) ℓ) (h : Cert.Pre_KernelIdeal m) :
    Tile.InRows m :=
  ⟨fun d => (Pre.ranges (h d)).1, fun d => (Pre.ranges (h d)).2.1, fun d => (Pre.ranges (h d)).2.2⟩

/-- The same of a memory of words. -/
theorem rows_of_pre_words (m : (ℓ : Loc Cert.Kernel.nD Cert.Kernel.τ Cert.Kernel.sig) → Buf (Elt Bits) ℓ) (h : Cert.Pre_Kernel m) :
    Tile.InRows (F := Bits) m :=
  ⟨fun d => (Pre.ranges (h d)).1, fun d => (Pre.ranges (h d)).2.1, fun d => (Pre.ranges (h d)).2.2⟩

/-! ## The frames -/

/-- The kernel over words ends without fault, its arguments as they were and every counter at zero. -/
theorem frame_kernel : Cert.quiescent_Kernel := fun m ρ h =>
  (θ_run Cert.KernelIdeal.defs _ _).mono
    (fun _ k => ⟨fun c => ⟨(k.1 c).1, (k.1 c).2.1, (k.1 c).2.2.1, (k.1 c).2.2.2.1, (k.1 c).2.2.2.2.1⟩, k.2⟩)
    (Tile.run_main (F := Bits) m ρ (rows_of_pre_words m h))

/-- The same of the kernel over the extended reals. -/
theorem frame_kernelIdeal : Cert.quiescent_KernelIdeal := fun m ρ h =>
  (θ_run Cert.KernelIdeal.defs _ _).mono
    (fun _ k => ⟨fun c => ⟨(k.1 c).1, (k.1 c).2.1, (k.1 c).2.2.1, (k.1 c).2.2.2.1, (k.1 c).2.2.2.2.1⟩, k.2⟩)
    (Tile.run_main (F := Ideal) m ρ (rows_of_pre m h))

/-- The reference ends without fault and keeps its arguments; it has no semaphore, so every counter is zero. -/
theorem frame_reference : Cert.quiescent_ReferenceIdeal := fun m ρ _ =>
  (θ_run Cert.ReferenceIdeal.defs _ _).mono (fun r k => ⟨fun c => (k c).2, sem_eq_zero_of_no_sems (by decide) r.2⟩)
    (Cert.ReferenceIdeal.Value.run (F := Ideal) m ρ)

/-- The same under the precondition on the indices. -/
theorem frame_reference_pre : Cert.quiescent_ReferenceIdeal_pre_in_rows := fun m ρ _ => frame_reference m ρ trivial

/-! ## The value -/

/-- On arguments that agree and whose indices name rows, kernel and reference give the same scores. -/
theorem value : Cert.algebraic_KernelIdeal_ReferenceIdeal := fun m ρ m' ρ' h agree => by
  have ok := rows_of_pre m h
  refine ⟨fun c => Tile.finalRes m ok c, (θ_run Cert.KernelIdeal.defs _ _).mono
    (fun _ k c => ⟨(k.1 c).2.2.2.2.2, (k.1 c).1, (k.1 c).2.1, (k.1 c).2.2.1, (k.1 c).2.2.2.1, (k.1 c).2.2.2.2.1⟩) (Tile.run_main (F := Ideal) m ρ ok),
    (θ_run Cert.ReferenceIdeal.defs _ _).mono (fun _ k c => ⟨(k c).1.trans ?_, (k c).2⟩) (Cert.ReferenceIdeal.Value.run (F := Ideal) m' ρ')⟩
  obtain ⟨a0, a1, a2, a3, a4⟩ := agree c
  have h0 : ∀ j, BitVec.toNat (w := 32) (Ref.arg0 m' c j) < 100000 := fun j => by rw [show Ref.arg0 m' c = m (Tile.hArg c) from a0]; exact ok.h c j
  have h1 : ∀ j, BitVec.toNat (w := 32) (Ref.arg1 m' c j) < 1000 := fun j => by rw [show Ref.arg1 m' c = m (Tile.rArg c) from a1]; exact ok.r c j
  have h2 : ∀ j, BitVec.toNat (w := 32) (Ref.arg2 m' c j) < 100000 := fun j => by rw [show Ref.arg2 m' c = m (Tile.tArg c) from a2]; exact ok.t c j
  refine funext fun j => ?_
  rw [ValueIdx.eq_ix1 j]
  refine (Ref.result_apply m' c h0 h1 h2 (j 0)).trans ((Tile.finalRes_apply m ok c (j 0)).trans ?_).symm
  refine congrArg (- ·) (Finset.sum_congr rfl fun k _ => ?_)
  have e0 : ∀ (x : Fin 100000) (y : Fin 100000), x.val = y.val → (m (Tile.eLoc c) (ValueIdx.ix2 x k) : EReal) = Ref.ent m' c (ValueIdx.ix2 y k) := fun x y e => by
    obtain rfl := Fin.ext e
    exact (congrFun a3 _).symm
  have e1 : ∀ (x : Fin 1000) (y : Fin 1000), x.val = y.val → (m (Tile.lLoc c) (ValueIdx.ix2 x k) : EReal) = Ref.rel m' c (ValueIdx.ix2 y k) := fun x y e => by
    obtain rfl := Fin.ext e
    exact (congrFun a4 _).symm
  exact congr (congr (congrArg Ref.dist (e0 _ _ (congrArg (fun b : BitVec 32 => b.toNat) (congrFun a0 _).symm)))
    (e1 _ _ (congrArg (fun b : BitVec 32 => b.toNat) (congrFun a1 _).symm))) (e0 _ _ (congrArg (fun b : BitVec 32 => b.toNat) (congrFun a2 _).symm))

/-- All five claims. -/
theorem claim : Cert.Claim := ⟨Cert.Kernel.Gen.facts, Cert.KernelIdeal.Gen.facts, Cert.ReferenceIdeal.Gen.facts, Cert.Pre_in_rows.Gen.facts,
  frame_kernel, frame_kernelIdeal, frame_reference, frame_reference_pre, trivial, value⟩

end Cert.Proof

end
